-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InProj_InProjIdeal : Prop :=
  IdealRules.named_const.Statement Cert.InProjIdeal.κ "scale_b" .f32 0x3E38AA3B#32 (((Real.sqrt 64)⁻¹ * (Real.log 2)⁻¹ : ℝ) : EReal)
  ∧ IdealRules.named_const.Statement Cert.InProjIdeal.κ "scale_c" .f32 0x3E8293EE#32 (((Real.sqrt 32)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v22_0)) (v1 : (c : Dev Cert.InProjIdeal.nD) → Buf (Elt Ideal) ((c.tc : Thread Cert.InProjIdeal.nD Cert.InProjIdeal.τ).loc Cert.InProjIdeal.main_v22_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v22_0) = v0 c
          ∧ r.2.mem ((c.tc : Thread Cert.InProjIdeal.nD Cert.InProjIdeal.τ).loc Cert.InProjIdeal.main_v22_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v92) = v0 c
          ∧ r.2.mem ((c.tc : Thread Cert.InProjRefIdeal.nD Cert.InProjRefIdeal.τ).loc Cert.InProjRefIdeal.main_v93) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v12)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
-- ==== Pre_finite_inputs.lean ====
abbrev S8x4096x256 : Shape := ⟨3, ![8, 4096, 256]⟩
abbrev S32 : Shape := ⟨1, ![32]⟩
abbrev S64 : Shape := ⟨1, ![64]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : FVec F S32 .f32 := Host.absf main_arg5
  let main_cst_6 : FVec F S_ .f32 := constant S_ .f32 0x7F800000#32
  let main_v19 : FVec F S32 .f32 := broadcastInDim S32 ![] bcast_S_S32 main_cst_6
  let main_v20 : IVec S32 1 := cmpf .olt main_v18 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v17 main_v21
  let main_v23 : FVec F S32 .f32 := Host.absf main_arg6
  let main_cst_8 : FVec F S_ .f32 := constant S_ .f32 0x7F800000#32
  let main_v24 : FVec F S32 .f32 := broadcastInDim S32 ![] bcast_S_S32 main_cst_8
  let main_v25 : IVec S32 1 := cmpf .olt main_v23 main_v24
  let main_c_9 : IVec S_ 1 := constantI S_ 1 1#1
  let main_v26 : IVec S_ 1 := (fun x v => Host.reduce IntOp.andi x v reducesTo_S32_S_d0 h_S_) main_v25 main_c_9
  let main_v27 : IVec S_ 1 := andi main_v22 main_v26
  let main_v28 : FVec F S32 .f32 := Host.absf main_arg7
  let main_cst_10 : FVec F S_ .f32 := constant S_ .f32 0x7F800000#32
  let main_v29 : FVec F S32 .f32 := broadcastInDim S32 ![] bcast_S_S32 main_cst_10
  let main_v30 : IVec S32 1 := cmpf .olt main_v28 main_v29
  let main_c_11 : IVec S_ 1 := constantI S_ 1 1#1
  let main_v31 : IVec S_ 1 := (fun x v => Host.reduce IntOp.andi x v reducesTo_S32_S_d0 h_S_) main_v30 main_c_11
  let main_v32 : IVec S_ 1 := andi main_v27 main_v31
  let main_v33 : IVec S_ 1 := andi main_v13 main_v32
  main_v33

def fn {F : FTy → Type} [FloatOps F] (main_arg0 : FVec F S8x4096x256 .f32) (main_arg1 : FVec F S8x4096x256 .f32) (main_arg2 : FVec F S8x4096x256 .f32) (main_arg3 : FVec F S8x4096x256 .f32) (main_arg4 : FVec F S32 .f32) (main_arg5 : FVec F S32 .f32) (main_arg6 : FVec F S32 .f32) (main_arg7 : FVec F S32 .f32) (main_arg8 : FVec F S64 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Kernel.lean ====
abbrev S8x4096x256 : Shape := ⟨3, ![8, 4096, 256]⟩
abbrev S32 : Shape := ⟨1, ![32]⟩
abbrev S64 : Shape := ⟨1, ![64]⟩
abbrev S_ : Shape := ⟨0, ![]⟩
abbrev S8x16x2304x256 : Shape := ⟨4, ![8, 16, 2304, 256]⟩
abbrev S8x16x256x256 : Shape := ⟨4, ![8, 16, 256, 256]⟩
abbrev S8x16x3072x256 : Shape := ⟨4, ![8, 16, 3072, 256]⟩
abbrev S8x4096x768 : Shape := ⟨3, ![8, 4096, 768]⟩
abbrev S8x4096x1024 : Shape := ⟨3, ![8, 4096, 1024]⟩
abbrev S1x32 : Shape := ⟨2, ![1, 32]⟩
abbrev S4x32 : Shape := ⟨2, ![4, 32]⟩
abbrev S64x1 : Shape := ⟨2, ![64, 1]⟩
abbrev S1x2x128x256 : Shape := ⟨4, ![1, 2, 128, 256]⟩
abbrev S1x4096x128 : Shape := ⟨3, ![1, 4096, 128]⟩
abbrev S1x16x128x256 : Shape := ⟨4, ![1, 16, 128, 256]⟩
abbrev S1x1x128x256 : Shape := ⟨4, ![1, 1, 128, 256]⟩
abbrev S128x256 : Shape := ⟨2, ![128, 256]⟩
abbrev S1x256 : Shape := ⟨2, ![1, 256]⟩
abbrev S80x256 : Shape := ⟨2, ![80, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S1x1x64x256 : Shape := ⟨4, ![1, 1, 64, 256]⟩
abbrev S64x256 : Shape := ⟨2, ![64, 256]⟩
abbrev S16x256 : Shape := ⟨2, ![16, 256]⟩
abbrev S1 : Shape := ⟨1, ![1]⟩
abbrev S1x1 : Shape := ⟨2, ![1, 1]⟩

abbrev nBuf : Space → Nat
  | .hbm => 39
  | .vmem => 12
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .bf16⟩
  | .hbm, ⟨15, _⟩ => ⟨S8x16x2304x256, .bf16⟩
  | .hbm, ⟨16, _⟩ => ⟨S8x4096x256, .f32⟩
  | .hbm, ⟨17, _⟩ => ⟨S8x4096x256, .f32⟩
  | .hbm, ⟨18, _⟩ => ⟨S8x16x256x256, .f32⟩
  | .hbm, ⟨19, _⟩ => ⟨S8x16x256x256, .f32⟩
  | .hbm, ⟨20, _⟩ => ⟨S8x16x256x256, .bf16⟩
  | .hbm, ⟨21, _⟩ => ⟨S8x16x256x256, .f32⟩
  | .hbm, ⟨22, _⟩ => ⟨S8x16x256x256, .f32⟩
  | .hbm, ⟨23, _⟩ => ⟨S8x16x256x256, .bf16⟩
  | .hbm, ⟨24, _⟩ => ⟨S8x16x256x256, .f32⟩
  | .hbm, ⟨25, _⟩ => ⟨S8x16x256x256, .f32⟩
  | .hbm, ⟨26, _⟩ => ⟨S8x16x256x256, .bf16⟩
  | .hbm, ⟨27, _⟩ => ⟨S8x16x3072x256, .bf16⟩
  | .hbm, ⟨28, _⟩ => ⟨S_, .bf16⟩
  | .hbm, ⟨29, _⟩ => ⟨S8x4096x768, .bf16⟩
  | .hbm, ⟨30, _⟩ => ⟨S8x4096x256, .bf16⟩
  | .hbm, ⟨31, _⟩ => ⟨S8x4096x1024, .bf16⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S4x32, .f32⟩
  | .hbm, ⟨37, _⟩ => ⟨S64x1, .f32⟩
  | .hbm, ⟨38, _⟩ => ⟨S8x16x256x256, .bf16⟩
  | .local _ .vmem, ⟨0, _⟩ => ⟨S1x2x128x256, .bf16⟩
  | .local _ .vmem, ⟨1, _⟩ => ⟨S1x2x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x2x128x256, .bf16⟩
  | .local _ .vmem, ⟨7, _⟩ => ⟨S1x2x128x256, .bf16⟩
  | .local _ .vmem, ⟨8, _⟩ => ⟨S4x32, .f32⟩
  | .local _ .vmem, ⟨9, _⟩ => ⟨S64x1, .f32⟩
  | .local _ .vmem, ⟨10, _⟩ => ⟨S1x2x128x256, .bf16⟩
  | .local _ .vmem, ⟨11, _⟩ => ⟨S1x2x128x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let c2_i32 : BitVec 32 := 2#32
  let arg2 : BitVec 32 := BitVec.ofNat 32 (i 2).val
  let v96 : BitVec 32 := Scalar.muli c2_i32 arg2
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c0_i32_69 : BitVec 32 := 0#32
  let v108 : BitVec 1 := Scalar.cmpi .sgt v106 c0_i32_69
  let v109 : BitVec 32 := Scalar.extui v108
  let c0_i32_70 : BitVec 32 := 0#32
  let v110 : BitVec 1 := Scalar.cmpi .slt v106 c0_i32_70
  let v111 : BitVec 32 := Scalar.extui v110
  let v112 : BitVec 32 := Scalar.subi v109 v111
  let c2_i32_68 : BitVec 32 := 2#32
  let c0_i32_71 : BitVec 32 := 0#32
  let v113 : BitVec 1 := Scalar.cmpi .sgt c2_i32_68 c0_i32_71
  let v114 : BitVec 32 := Scalar.extui v113
  let c0_i32_72 : BitVec 32 := 0#32
  let v115 : BitVec 1 := Scalar.cmpi .slt c2_i32_68 c0_i32_72
  let v116 : BitVec 32 := Scalar.extui v115
  let v117 : BitVec 32 := Scalar.subi v114 v116
  let v118 : BitVec 1 := Scalar.cmpi .ne v112 v117
  let v119 : BitVec 32 := Scalar.remsi v106 c2_i32_68
  let c0_i32_73 : BitVec 32 := 0#32
  let v120 : BitVec 1 := Scalar.cmpi .ne v119 c0_i32_73
  let v121 : BitVec 1 := Scalar.andi v118 v120
  let v107 : BitVec 32 := Scalar.divsi v106 c2_i32_68
  let c1_i32_74 : BitVec 32 := 1#32
  let v122 : BitVec 32 := Scalar.subi v107 c1_i32_74
  let v123 : BitVec 32 := Scalar.select v121 v122 v107
  let c0_i32_81 : BitVec 32 := 0#32
  let v130 : BitVec 32 := Scalar.maxsi v123 c0_i32_81
  let c1_i32_82 : BitVec 32 := 1#32
  let v131 : BitVec 32 := Scalar.minsi v130 c1_i32_82
  let c0_i32_83 : BitVec 32 := 0#32
  let v132 : BitVec 1 := Scalar.cmpi .ne v131 c0_i32_83
  v132

def k0_mult1 (i : grid0.Coords) : BitVec 32 :=
  let c2_i32 : BitVec 32 := 2#32
  let arg2 : BitVec 32 := BitVec.ofNat 32 (i 2).val
  let v96 : BitVec 32 := Scalar.muli c2_i32 arg2
  let c1_i32_76 : BitVec 32 := 1#32
  let v125 : BitVec 32 := Scalar.addi v96 c1_i32_76
  let c256_i32 : BitVec 32 := 256#32
  let v319 : BitVec 32 := Scalar.muli v125 c256_i32
  v319
def k0_off1 (i : grid0.Coords) : Fin 3 → Nat :=
  let c0_147 : Index := 0#32
  let c2_i32 : BitVec 32 := 2#32
  let arg2 : BitVec 32 := BitVec.ofNat 32 (i 2).val
  let v96 : BitVec 32 := Scalar.muli c2_i32 arg2
  let c1_i32_76 : BitVec 32 := 1#32
  let v125 : BitVec 32 := Scalar.addi v96 c1_i32_76
  let c256_i32 : BitVec 32 := 256#32
  let v319 : BitVec 32 := Scalar.muli v125 c256_i32
  let v320 : BitVec 32 := v319
  let v321 : Index := Scalar.indexCast v320
  let c0_148 : Index := 0#32
  ![0, v321.toNat, 0]
def k0_mult2 (i : grid0.Coords) : BitVec 32 :=
  let c2_i32 : BitVec 32 := 2#32
  let arg2 : BitVec 32 := BitVec.ofNat 32 (i 2).val
  let v96 : BitVec 32 := Scalar.muli c2_i32 arg2
  let c256_i32_149 : BitVec 32 := 256#32
  let v324 : BitVec 32 := Scalar.muli v96 c256_i32_149
  v324
def k0_off2 (i : grid0.Coords) : Fin 3 → Nat :=
  let c0_150 : Index := 0#32
  let c2_i32 : BitVec 32 := 2#32
  let arg2 : BitVec 32 := BitVec.ofNat 32 (i 2).val
  let v96 : BitVec 32 := Scalar.muli c2_i32 arg2
  let c256_i32_149 : BitVec 32 := 256#32
  let v324 : BitVec 32 := Scalar.muli v96 c256_i32_149
  let v325 : BitVec 32 := v324
  let v326 : Index := Scalar.indexCast v325
  let c0_151 : Index := 0#32
  ![0, v326.toNat, 0]
def k0_mult3 (i : grid0.Coords) : BitVec 32 :=
  let c2_i32 : BitVec 32 := 2#32
  let arg2 : BitVec 32 := BitVec.ofNat 32 (i 2).val
  let v96 : BitVec 32 := Scalar.muli c2_i32 arg2
  let c1_i32_77 : BitVec 32 := 1#32
  let v126 : BitVec 32 := Scalar.subi v96 c1_i32_77
  let c0_i32_78 : BitVec 32 := 0#32
  let v127 : BitVec 32 := Scalar.subi v126 c0_i32_78
  let c256_i32_152 : BitVec 32 := 256#32
  let v329 : BitVec 32 := Scalar.muli v127 c256_i32_152
  v329
def k0_off3 (i : grid0.Coords) (c0_i32_78 : BitVec 32) : Fin 3 → Nat :=
  let c0_153 : Index := 0#32
  let c2_i32 : BitVec 32 := 2#32
  let arg2 : BitVec 32 := BitVec.ofNat 32 (i 2).val
  let v96 : BitVec 32 := Scalar.muli c2_i32 arg2
  let c1_i32_77 : BitVec 32 := 1#32
  let v126 : BitVec 32 := Scalar.subi v96 c1_i32_77
  let v127 : BitVec 32 := Scalar.subi v126 c0_i32_78
  let c256_i32_152 : BitVec 32 := 256#32
  let v329 : BitVec 32 := Scalar.muli v127 c256_i32_152
  let v330 : BitVec 32 := v329
  let v331 : Index := Scalar.indexCast v330
  let c0_154 : Index := 0#32
  ![0, v331.toNat, 0]
def k0_mult4 (i : grid0.Coords) : BitVec 32 :=
  let c2_i32 : BitVec 32 := 2#32
  let arg2 : BitVec 32 := BitVec.ofNat 32 (i 2).val
  let v96 : BitVec 32 := Scalar.muli c2_i32 arg2
  let c1_i32_79 : BitVec 32 := 1#32
  let v128 : BitVec 32 := Scalar.subi v96 c1_i32_79
  let c1_i32_80 : BitVec 32 := 1#32
  let v129 : BitVec 32 := Scalar.subi v128 c1_i32_80
  let c256_i32_155 : BitVec 32 := 256#32
  let v334 : BitVec 32 := Scalar.muli v129 c256_i32_155
  v334
def k0_off4 (i : grid0.Coords) : Fin 4 → Nat :=
  let c0_223 : Index := 0#32
  let c2_i32 : BitVec 32 := 2#32
  let arg2 : BitVec 32 := BitVec.ofNat 32 (i 2).val
  let v96 : BitVec 32 := Scalar.muli c2_i32 arg2
  let v604 : Index := Scalar.indexCast v96
  let c0_224 : Index := 0#32
  let c0_225 : Index := 0#32
  ![0, v604.toNat, 0, 0]
def k0_off5 (i : grid0.Coords) (c0_i32_78 : BitVec 32) : Fin 4 → Nat :=
  let c0_228 : Index := 0#32
  let c2_i32 : BitVec 32 := 2#32
  let arg2 : BitVec 32 := BitVec.ofNat 32 (i 2).val
  let v96 : BitVec 32 := Scalar.muli c2_i32 arg2
  let c1_i32_77 : BitVec 32 := 1#32
  let v126 : BitVec 32 := Scalar.subi v96 c1_i32_77
  let v127 : BitVec 32 := Scalar.subi v126 c0_i32_78
  let v611 : Index := Scalar.indexCast v127
  let c0_229 : Index := 0#32
  let c0_230 : Index := 0#32
  ![0, v611.toNat, 0, 0]
def k0_off6 (i : grid0.Coords) : Fin 4 → Nat :=
  let c0_253 : Index := 0#32
  let c2_i32 : BitVec 32 := 2#32
  let arg2 : BitVec 32 := BitVec.ofNat 32 (i 2).val
  let v96 : BitVec 32 := Scalar.muli c2_i32 arg2
  let v650 : Index := Scalar.indexCast v96
  let c64 : Index := 64#32
  let c0_254 : Index := 0#32
  ![0, v650.toNat, 64, 0]
def k0_off7 (i : grid0.Coords) (c0_i32_78 : BitVec 32) : Fin 4 → Nat :=
  let c0_257 : Index := 0#32
  let c2_i32 : BitVec 32 := 2#32
  let arg2 : BitVec 32 := BitVec.ofNat 32 (i 2).val
  let v96 : BitVec 32 := Scalar.muli c2_i32 arg2
  let c1_i32_77 : BitVec 32 := 1#32
  let v126 : BitVec 32 := Scalar.subi v96 c1_i32_77
  let v127 : BitVec 32 := Scalar.subi v126 c0_i32_78
  let v657 : Index := Scalar.indexCast v127
  let c64_258 : Index := 64#32
  let c0_259 : Index := 0#32
  ![0, v657.toNat, 64, 0]
def k0_off8 (i : grid0.Coords) : Fin 4 → Nat :=
  let c0_282 : Index := 0#32
  let c2_i32 : BitVec 32 := 2#32
  let arg2 : BitVec 32 := BitVec.ofNat 32 (i 2).val
  let v96 : BitVec 32 := Scalar.muli c2_i32 arg2
  let c1_i32_76 : BitVec 32 := 1#32
  let v125 : BitVec 32 := Scalar.addi v96 c1_i32_76
  let v696 : Index := Scalar.indexCast v125
  let c0_283 : Index := 0#32
  let c0_284 : Index := 0#32
  ![0, v696.toNat, 0, 0]
def k0_off9 (i : grid0.Coords) : Fin 4 → Nat :=
  let c0_322 : Index := 0#32
  let c2_i32 : BitVec 32 := 2#32
  let arg2 : BitVec 32 := BitVec.ofNat 32 (i 2).val
  let v96 : BitVec 32 := Scalar.muli c2_i32 arg2
  let c1_i32_76 : BitVec 32 := 1#32
  let v125 : BitVec 32 := Scalar.addi v96 c1_i32_76
  let v756 : Index := Scalar.indexCast v125
  let c64_323 : Index := 64#32
  let c0_324 : Index := 0#32
  ![0, v756.toNat, 64, 0]
def k0_mult5 (i : grid0.Coords) : BitVec 32 :=
  let c2_i32 : BitVec 32 := 2#32
  let arg2 : BitVec 32 := BitVec.ofNat 32 (i 2).val
  let v96 : BitVec 32 := Scalar.muli c2_i32 arg2
  let c1_i32_75 : BitVec 32 := 1#32
  let v124 : BitVec 32 := Scalar.addi v96 c1_i32_75
  let c256_i32 : BitVec 32 := 256#32
  let v319 : BitVec 32 := Scalar.muli v124 c256_i32
  v319
def k0_off10 (i : grid0.Coords) : Fin 3 → Nat :=
  let c0_147 : Index := 0#32
  let c2_i32 : BitVec 32 := 2#32
  let arg2 : BitVec 32 := BitVec.ofNat 32 (i 2).val
  let v96 : BitVec 32 := Scalar.muli c2_i32 arg2
  let c1_i32_75 : BitVec 32 := 1#32
  let v124 : BitVec 32 := Scalar.addi v96 c1_i32_75
  let c256_i32 : BitVec 32 := 256#32
  let v319 : BitVec 32 := Scalar.muli v124 c256_i32
  let v320 : BitVec 32 := v319
  let v321 : Index := Scalar.indexCast v320
  let c0_148 : Index := 0#32
  ![0, v321.toNat, 0]
def k0_mult6 (i : grid0.Coords) : BitVec 32 :=
  let c2_i32 : BitVec 32 := 2#32
  let arg2 : BitVec 32 := BitVec.ofNat 32 (i 2).val
  let v96 : BitVec 32 := Scalar.muli c2_i32 arg2
  let c256_i32_149 : BitVec 32 := 256#32
  let v324 : BitVec 32 := Scalar.muli v96 c256_i32_149
  v324
def k0_off11 (i : grid0.Coords) : Fin 3 → Nat :=
  let c0_150 : Index := 0#32
  let c2_i32 : BitVec 32 := 2#32
  let arg2 : BitVec 32 := BitVec.ofNat 32 (i 2).val
  let v96 : BitVec 32 := Scalar.muli c2_i32 arg2
  let c256_i32_149 : BitVec 32 := 256#32
  let v324 : BitVec 32 := Scalar.muli v96 c256_i32_149
  let v325 : BitVec 32 := v324
  let v326 : Index := Scalar.indexCast v325
  let c0_151 : Index := 0#32
  ![0, v326.toNat, 0]
def k0_off12 (i : grid0.Coords) : Fin 4 → Nat :=
  let c0_185 : Index := 0#32
  let c2_i32 : BitVec 32 := 2#32
  let arg2 : BitVec 32 := BitVec.ofNat 32 (i 2).val
  let v96 : BitVec 32 := Scalar.muli c2_i32 arg2
  let v466 : Index := Scalar.indexCast v96
  let c0_186 : Index := 0#32
  let c0_187 : Index := 0#32
  ![0, v466.toNat, 0, 0]
def k0_off13 (i : grid0.Coords) : Fin 4 → Nat :=
  let c0_195 : Index := 0#32
  let c2_i32 : BitVec 32 := 2#32
  let arg2 : BitVec 32 := BitVec.ofNat 32 (i 2).val
  let v96 : BitVec 32 := Scalar.muli c2_i32 arg2
  let v484 : Index := Scalar.indexCast v96
  let c64 : Index := 64#32
  let c0_196 : Index := 0#32
  ![0, v484.toNat, 64, 0]
def k0_off14 (i : grid0.Coords) : Fin 4 → Nat :=
  let c0_204 : Index := 0#32
  let c2_i32 : BitVec 32 := 2#32
  let arg2 : BitVec 32 := BitVec.ofNat 32 (i 2).val
  let v96 : BitVec 32 := Scalar.muli c2_i32 arg2
  let c1_i32_75 : BitVec 32 := 1#32
  let v124 : BitVec 32 := Scalar.addi v96 c1_i32_75
  let v502 : Index := Scalar.indexCast v124
  let c0_205 : Index := 0#32
  let c0_206 : Index := 0#32
  ![0, v502.toNat, 0, 0]
def k0_off15 (i : grid0.Coords) : Fin 4 → Nat :=
  let c0_224 : Index := 0#32
  let c2_i32 : BitVec 32 := 2#32
  let arg2 : BitVec 32 := BitVec.ofNat 32 (i 2).val
  let v96 : BitVec 32 := Scalar.muli c2_i32 arg2
  let c1_i32_75 : BitVec 32 := 1#32
  let v124 : BitVec 32 := Scalar.addi v96 c1_i32_75
  let v534 : Index := Scalar.indexCast v124
  let c64_225 : Index := 64#32
  let c0_226 : Index := 0#32
  ![0, v534.toNat, 64, 0]
@[reducible] def k0_t1_loop (i : grid0.Coords) : Scf.Loop 32 :=
  let c0_i32_92 : BitVec 32 := 0#32
  let c2_i32 : BitVec 32 := 2#32
  let arg2 : BitVec 32 := BitVec.ofNat 32 (i 2).val
  let v96 : BitVec 32 := Scalar.muli c2_i32 arg2
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_94 : BitVec 32 := 1#32
  ⟨c0_i32_92, v157, c1_i32_94⟩
def k0_mult7 (i : grid0.Coords) (k0_t1 : Fin (k0_t1_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let c0_i32_148 : BitVec 32 := 0#32
  let v321 : BitVec 32 := Scalar.subi v320 c0_i32_148
  let c256_i32 : BitVec 32 := 256#32
  let v325 : BitVec 32 := Scalar.muli v321 c256_i32
  v325
def k0_off16 (i : grid0.Coords) (k0_t1 : Fin (k0_t1_loop i).trips) (c0_i32_148 : BitVec 32) : Fin 3 → Nat :=
  let c0_151 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let v321 : BitVec 32 := Scalar.subi v320 c0_i32_148
  let c256_i32 : BitVec 32 := 256#32
  let v325 : BitVec 32 := Scalar.muli v321 c256_i32
  let v326 : BitVec 32 := v325
  let v327 : Index := Scalar.indexCast v326
  let c0_152 : Index := 0#32
  ![0, v327.toNat, 0]
def k0_mult8 (i : grid0.Coords) (k0_t1 : Fin (k0_t1_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let c1_i32_149 : BitVec 32 := 1#32
  let v322 : BitVec 32 := Scalar.subi v320 c1_i32_149
  let c256_i32_153 : BitVec 32 := 256#32
  let v330 : BitVec 32 := Scalar.muli v322 c256_i32_153
  v330
def k0_mult9 (i : grid0.Coords) (k0_t1 : Fin (k0_t1_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let c2_i32_150 : BitVec 32 := 2#32
  let v323 : BitVec 32 := Scalar.subi v320 c2_i32_150
  let c256_i32_156 : BitVec 32 := 256#32
  let v335 : BitVec 32 := Scalar.muli v323 c256_i32_156
  v335
def k0_mult10 (i : grid0.Coords) (k0_t1 : Fin (k0_t1_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let c3_i32 : BitVec 32 := 3#32
  let v324 : BitVec 32 := Scalar.subi v320 c3_i32
  let c256_i32_159 : BitVec 32 := 256#32
  let v340 : BitVec 32 := Scalar.muli v324 c256_i32_159
  v340
def k0_off17 (i : grid0.Coords) (k0_t1 : Fin (k0_t1_loop i).trips) (c0_i32_148 : BitVec 32) : Fin 4 → Nat :=
  let c0_227 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let v321 : BitVec 32 := Scalar.subi v320 c0_i32_148
  let v626 : Index := Scalar.indexCast v321
  let c0_228 : Index := 0#32
  let c0_229 : Index := 0#32
  ![0, v626.toNat, 0, 0]
def k0_off18 (i : grid0.Coords) (k0_t1 : Fin (k0_t1_loop i).trips) (c0_i32_148 : BitVec 32) : Fin 4 → Nat :=
  let c0_267 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c1_i32_94 : BitVec 32 := 1#32
  let arg10 : BitVec 32 := Scf.iv c0_i32_92 c1_i32_94 k0_t1
  let v319 : BitVec 32 := Scalar.muli c4_i32_147 arg10
  let v320 : BitVec 32 := Scalar.subi v135 v319
  let v321 : BitVec 32 := Scalar.subi v320 c0_i32_148
  let v686 : Index := Scalar.indexCast v321
  let c64 : Index := 64#32
  let c0_268 : Index := 0#32
  ![0, v686.toNat, 64, 0]
@[reducible] def k0_t2_loop (i : grid0.Coords) : Scf.Loop 32 :=
  let c0_i32_92 : BitVec 32 := 0#32
  let c2_i32 : BitVec 32 := 2#32
  let arg2 : BitVec 32 := BitVec.ofNat 32 (i 2).val
  let v96 : BitVec 32 := Scalar.muli c2_i32 arg2
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let v154 : BitVec 32 := Scalar.addi c0_i32_92 v153
  let c1_i32_95 : BitVec 32 := 1#32
  ⟨v157, v154, c1_i32_95⟩
def k0_mult11 (i : grid0.Coords) (k0_t2 : Fin (k0_t2_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let c0_i32_148 : BitVec 32 := 0#32
  let v321 : BitVec 32 := Scalar.subi v320 c0_i32_148
  let c256_i32 : BitVec 32 := 256#32
  let v325 : BitVec 32 := Scalar.muli v321 c256_i32
  v325
def k0_off19 (i : grid0.Coords) (k0_t2 : Fin (k0_t2_loop i).trips) (c0_i32_148 : BitVec 32) : Fin 3 → Nat :=
  let c0_151 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let v321 : BitVec 32 := Scalar.subi v320 c0_i32_148
  let c256_i32 : BitVec 32 := 256#32
  let v325 : BitVec 32 := Scalar.muli v321 c256_i32
  let v326 : BitVec 32 := v325
  let v327 : Index := Scalar.indexCast v326
  let c0_152 : Index := 0#32
  ![0, v327.toNat, 0]
def k0_mult12 (i : grid0.Coords) (k0_t2 : Fin (k0_t2_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let c1_i32_149 : BitVec 32 := 1#32
  let v322 : BitVec 32 := Scalar.subi v320 c1_i32_149
  let c256_i32_153 : BitVec 32 := 256#32
  let v330 : BitVec 32 := Scalar.muli v322 c256_i32_153
  v330
def k0_mult13 (i : grid0.Coords) (k0_t2 : Fin (k0_t2_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let c2_i32_150 : BitVec 32 := 2#32
  let v323 : BitVec 32 := Scalar.subi v320 c2_i32_150
  let c256_i32_156 : BitVec 32 := 256#32
  let v335 : BitVec 32 := Scalar.muli v323 c256_i32_156
  v335
def k0_mult14 (i : grid0.Coords) (k0_t2 : Fin (k0_t2_loop i).trips) : BitVec 32 :=
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let c3_i32 : BitVec 32 := 3#32
  let v324 : BitVec 32 := Scalar.subi v320 c3_i32
  let c256_i32_159 : BitVec 32 := 256#32
  let v340 : BitVec 32 := Scalar.muli v324 c256_i32_159
  v340
def k0_off20 (i : grid0.Coords) (k0_t2 : Fin (k0_t2_loop i).trips) (c0_i32_148 : BitVec 32) : Fin 4 → Nat :=
  let c0_227 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let v321 : BitVec 32 := Scalar.subi v320 c0_i32_148
  let v626 : Index := Scalar.indexCast v321
  let c0_228 : Index := 0#32
  let c0_229 : Index := 0#32
  ![0, v626.toNat, 0, 0]
def k0_off21 (i : grid0.Coords) (k0_t2 : Fin (k0_t2_loop i).trips) (c0_i32_148 : BitVec 32) : Fin 4 → Nat :=
  let c0_267 : Index := 0#32
  let c2_i32 : BitVec 32 := 2#32
  let arg2 : BitVec 32 := BitVec.ofNat 32 (i 2).val
  let v96 : BitVec 32 := Scalar.muli c2_i32 arg2
  let c1_i32_84 : BitVec 32 := 1#32
  let v134 : BitVec 32 := Scalar.subi v96 c1_i32_84
  let c4_i32 : BitVec 32 := 4#32
  let c0_i32_64 : BitVec 32 := 0#32
  let v97 : BitVec 1 := Scalar.cmpi .eq c4_i32 c0_i32_64
  let c1_i32 : BitVec 32 := 1#32
  let v98 : BitVec 32 := Scalar.select v97 c1_i32 c4_i32
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let v135 : BitVec 32 := Scalar.subi v134 v106
  let c4_i32_147 : BitVec 32 := 4#32
  let c0_i32_92 : BitVec 32 := 0#32
  let c0_i32_86 : BitVec 32 := 0#32
  let v137 : BitVec 1 := Scalar.cmpi .sgt v96 c0_i32_86
  let v138 : BitVec 32 := Scalar.extui v137
  let c0_i32_87 : BitVec 32 := 0#32
  let v139 : BitVec 1 := Scalar.cmpi .slt v96 c0_i32_87
  let v140 : BitVec 32 := Scalar.extui v139
  let v141 : BitVec 32 := Scalar.subi v138 v140
  let c4_i32_85 : BitVec 32 := 4#32
  let c0_i32_88 : BitVec 32 := 0#32
  let v142 : BitVec 1 := Scalar.cmpi .sgt c4_i32_85 c0_i32_88
  let v143 : BitVec 32 := Scalar.extui v142
  let c0_i32_89 : BitVec 32 := 0#32
  let v144 : BitVec 1 := Scalar.cmpi .slt c4_i32_85 c0_i32_89
  let v145 : BitVec 32 := Scalar.extui v144
  let v146 : BitVec 32 := Scalar.subi v143 v145
  let v147 : BitVec 1 := Scalar.cmpi .ne v141 v146
  let v148 : BitVec 32 := Scalar.remsi v96 c4_i32_85
  let c0_i32_90 : BitVec 32 := 0#32
  let v149 : BitVec 1 := Scalar.cmpi .ne v148 c0_i32_90
  let v150 : BitVec 1 := Scalar.andi v147 v149
  let v136 : BitVec 32 := Scalar.divsi v96 c4_i32_85
  let c1_i32_91 : BitVec 32 := 1#32
  let v151 : BitVec 32 := Scalar.subi v136 c1_i32_91
  let v152 : BitVec 32 := Scalar.select v150 v151 v136
  let v153 : BitVec 32 := Scalar.subi v152 c0_i32_92
  let c1_i32_93 : BitVec 32 := 1#32
  let v155 : BitVec 32 := Scalar.divsi v153 c1_i32_93
  let v156 : BitVec 32 := Scalar.muli v155 c1_i32_93
  let v157 : BitVec 32 := Scalar.addi c0_i32_92 v156
  let c1_i32_95 : BitVec 32 := 1#32
  let arg10 : BitVec 32 := Scf.iv v157 c1_i32_95 k0_t2
  let v319 : BitVec 32 := Scalar.muli c4_i32_147 arg10
  let v320 : BitVec 32 := Scalar.subi v135 v319
  let v321 : BitVec 32 := Scalar.subi v320 c0_i32_148
  let v686 : Index := Scalar.indexCast v321
  let c64 : Index := 64#32
  let c0_268 : Index := 0#32
  ![0, v686.toNat, 64, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, arg2.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, arg2.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x4096x256 : Shape := ⟨3, ![8, 4096, 256]⟩
abbrev S32 : Shape := ⟨1, ![32]⟩
abbrev S64 : Shape := ⟨1, ![64]⟩
abbrev S8x4096x4x2x32 : Shape := ⟨5, ![8, 4096, 4, 2, 32]⟩
abbrev S8x4x2x4096x32 : Shape := ⟨5, ![8, 4, 2, 4096, 32]⟩
abbrev S8x4096x4x64 : Shape := ⟨4, ![8, 4096, 4, 64]⟩
abbrev S8x4x4096x64 : Shape := ⟨4, ![8, 4, 4096, 64]⟩
abbrev S_ : Shape := ⟨0, ![]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S1x1x1x64 : Shape := ⟨4, ![1, 1, 1, 64]⟩
abbrev S8x16x256x256 : Shape := ⟨4, ![8, 16, 256, 256]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S64, .f32⟩
  | .hbm, ⟨9, _⟩ => ⟨S8x4096x4x2x32, .f32⟩
  | .hbm, ⟨10, _⟩ => ⟨S8x4x2x4096x32, .f32⟩
  | .hbm, ⟨11, _⟩ => ⟨S8x4096x4x2x32, .f32⟩
  | .hbm, ⟨12, _⟩ => ⟨S8x4x2x4096x32, .f32⟩
  | .hbm, ⟨13, _⟩ => ⟨S8x4096x4x64, .f32⟩
  | .hbm, ⟨14, _⟩ => ⟨S8x4x4096x64, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4x2x4096x4096, .f32⟩
  | .hbm, ⟨29, _⟩ => ⟨S8x4x2x4096x4096, .f32⟩
  | .hbm, ⟨30, _⟩ => ⟨S8x4x2x4096x4096, .f32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S8x4x2x4096x4096, .i1⟩
  | .hbm, ⟨43, _⟩ => ⟨S8x4x2x4096x4096, .f32⟩
  | .hbm, ⟨44, _⟩ => ⟨S8x4x2x4096x4096, .f32⟩
  | .hbm, ⟨45, _⟩ => ⟨S_, .f32⟩
  | .hbm, ⟨46, _⟩ => ⟨S8x4x2x4096, .f32⟩
  | .hbm, ⟨47, _⟩ => ⟨S_, .f32⟩
  | .hbm, ⟨48, _⟩ => ⟨S8x4x2x4096, .f32⟩
  | .hbm, ⟨49, _⟩ => ⟨S8x4x2x4096, .f32⟩
  | .hbm, ⟨50, _⟩ => ⟨S8x4x2x4096x1, .f32⟩
  | .hbm, ⟨51, _⟩ => ⟨S8x4x2x4096x4096, .f32⟩
  | .hbm, ⟨52, _⟩ => ⟨S8x4x2x4096x4096, .f32⟩
  | .hbm, ⟨53, _⟩ => ⟨S8x4x2x4096x4096, .f32⟩
  | .hbm, ⟨54, _⟩ => ⟨S_, .f32⟩
  | .hbm, ⟨55, _⟩ => ⟨S8x4x2x4096, .f32⟩
  | .hbm, ⟨56, _⟩ => ⟨S8x4x2x4096x1, .f32⟩
  | .hbm, ⟨57, _⟩ => ⟨S8x4x2x4096x4096, .f32⟩
  | .hbm, ⟨58, _⟩ => ⟨S8x4x2x4096x4096, .f32⟩
  | .hbm, ⟨59, _⟩ => ⟨S8x4x1x4096x4096, .f32⟩
  | .hbm, ⟨60, _⟩ => ⟨S8x4x4096x4096, .f32⟩
  | .hbm, ⟨61, _⟩ => ⟨S8x4x1x4096x4096, .f32⟩
  | .hbm, ⟨62, _⟩ => ⟨S8x4x4096x4096, .f32⟩
  | .hbm, ⟨63, _⟩ => ⟨S8x4x4096x4096, .f32⟩
  | .hbm, ⟨64, _⟩ => ⟨S8x4x4096x4096, .f32⟩
  | .hbm, ⟨65, _⟩ => ⟨S8x4x4096x4096, .f32⟩
  | .hbm, ⟨66, _⟩ => ⟨S8x4x4096x64, .f32⟩
  | .hbm, ⟨67, _⟩ => ⟨S8x4x4096x64, .f32⟩
  | .hbm, ⟨68, _⟩ => ⟨S_, .f32⟩
  | .hbm, ⟨69, _⟩ => ⟨S8x4x4096, .f32⟩
  | .hbm, ⟨70, _⟩ => ⟨S8x4x4096x1, .f32⟩
  | .hbm, ⟨71, _⟩ => ⟨S_, .f32⟩
  | .hbm, ⟨72, _⟩ => ⟨S8x4x4096x1, .f32⟩
  | .hbm, ⟨73, _⟩ => ⟨S8x4x4096x1, .f32⟩
  | .hbm, ⟨74, _⟩ => ⟨S_, .f32⟩
  | .hbm, ⟨75, _⟩ => ⟨S8x4x4096x1, .f32⟩
  | .hbm, ⟨76, _⟩ => ⟨S8x4x4096x1, .f32⟩
  | .hbm, ⟨77, _⟩ => ⟨S8x4x4096x1, .f32⟩
  | .hbm, ⟨78, _⟩ => ⟨S8x4x4096x64, .f32⟩
  | .hbm, ⟨79, _⟩ => ⟨S8x4x4096x64, .f32⟩
  | .hbm, ⟨80, _⟩ => ⟨S1x1x1x64, .f32⟩
  | .hbm, ⟨81, _⟩ => ⟨S8x4x4096x64, .f32⟩
  | .hbm, ⟨82, _⟩ => ⟨S8x4x4096x64, .f32⟩
  | .hbm, ⟨83, _⟩ => ⟨S_, .f32⟩
  | .hbm, ⟨84, _⟩ => ⟨S8x4x4096x64, .f32⟩
  | .hbm, ⟨85, _⟩ => ⟨S8x4x4096x64, .f32⟩
  | .hbm, ⟨86, _⟩ => ⟨S8x4096x4x64, .f32⟩
  | .hbm, ⟨87, _⟩ => ⟨S8x4096x256, .f32⟩
  | .hbm, ⟨88, _⟩ => ⟨S8x4096x256, .f32⟩
  | .hbm, ⟨89, _⟩ => ⟨S8x4096x256, .f32⟩
  | .hbm, ⟨90, _⟩ => ⟨S_, .f32⟩
  | .hbm, ⟨91, _⟩ => ⟨S8x4096x256, .f32⟩
  | .hbm, ⟨92, _⟩ => ⟨S8x4096x256, .f32⟩
  | .hbm, ⟨93, _⟩ => ⟨S_, .f32⟩
  | .hbm, ⟨94, _⟩ => ⟨S8x4096x256, .f32⟩
  | .hbm, ⟨95, _⟩ => ⟨S8x4096x256, .f32⟩
  | .hbm, ⟨96, _⟩ => ⟨S8x4096x256, .f32⟩
  | .hbm, ⟨97, _⟩ => ⟨S8x4096x256, .f32⟩
  | .hbm, ⟨98, _⟩ => ⟨S8x16x256x256, .f32⟩
  | .hbm, ⟨99, _⟩ => ⟨S8x16x256x256, .f32⟩
  | .hbm, ⟨100, _⟩ => ⟨S8x16x256x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== InProj.lean ====
abbrev S8x4096x1024 : Shape := ⟨3, ![8, 4096, 1024]⟩
abbrev S8x4096 : Shape := ⟨2, ![8, 4096]⟩
abbrev S1024x4096 : Shape := ⟨2, ![1024, 4096]⟩
abbrev S1024 : Shape := ⟨1, ![1024]⟩
abbrev S16 : Shape := ⟨1, ![16]⟩
abbrev S16x1 : Shape := ⟨2, ![16, 1]⟩
abbrev S1024x384 : Shape := ⟨2, ![1024, 384]⟩
abbrev S1024x256 : Shape := ⟨2, ![1024, 256]⟩
abbrev S1024x3072 : Shape := ⟨2, ![1024, 3072]⟩
abbrev S3072x1024 : Shape := ⟨2, ![3072, 1024]⟩
abbrev S1024x768 : Shape := ⟨2, ![1024, 768]⟩
abbrev S256x1024 : Shape := ⟨2, ![256, 1024]⟩
abbrev S1x1024 : Shape := ⟨2, ![1, 1024]⟩
abbrev S8x1x4096 : Shape := ⟨3, ![8, 1, 4096]⟩
abbrev S8x16x3072x256 : Shape := ⟨4, ![8, 16, 3072, 256]⟩
abbrev S1x512x1024 : Shape := ⟨3, ![1, 512, 1024]⟩
abbrev S1x1x512 : Shape := ⟨3, ![1, 1, 512]⟩
abbrev S1x2x3072x256 : Shape := ⟨4, ![1, 2, 3072, 256]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S16x512 : Shape := ⟨2, ![16, 512]⟩
abbrev S384x1024 : Shape := ⟨2, ![384, 1024]⟩
abbrev S384x512 : Shape := ⟨2, ![384, 512]⟩
abbrev S384x256 : Shape := ⟨2, ![384, 256]⟩
abbrev S1x1x384x256 : Shape := ⟨4, ![1, 1, 384, 256]⟩
abbrev S256x512 : Shape := ⟨2, ![256, 512]⟩
abbrev S256x256 : Shape := ⟨2, ![256, 256]⟩
abbrev S1x1x256x256 : Shape := ⟨4, ![1, 1, 256, 256]⟩
abbrev S128x512 : Shape := ⟨2, ![128, 512]⟩
abbrev S128x256 : Shape := ⟨2, ![128, 256]⟩
abbrev S1x1x128x256 : Shape := ⟨4, ![1, 1, 128, 256]⟩
abbrev S512x768 : Shape := ⟨2, ![512, 768]⟩
abbrev S1x512x768 : Shape := ⟨3, ![1, 512, 768]⟩
abbrev S512x256 : Shape := ⟨2, ![512, 256]⟩
abbrev S1x512x256 : Shape := ⟨3, ![1, 512, 256]⟩

abbrev nBuf : Space → Nat
  | .hbm => 29
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x4096, .f32⟩
  | .hbm, ⟨3, _⟩ => ⟨S1024, .f32⟩
  | .hbm, ⟨4, _⟩ => ⟨S16, .f32⟩
  | .hbm, ⟨5, _⟩ => ⟨S16x1, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x3072, .f32⟩
  | .hbm, ⟨16, _⟩ => ⟨S3072x1024, .f32⟩
  | .hbm, ⟨17, _⟩ => ⟨S3072x1024, .bf16⟩
  | .hbm, ⟨18, _⟩ => ⟨S1024x384, .f32⟩
  | .hbm, ⟨19, _⟩ => ⟨S1024x384, .f32⟩
  | .hbm, ⟨20, _⟩ => ⟨S1024x768, .f32⟩
  | .hbm, ⟨21, _⟩ => ⟨S1024x768, .bf16⟩
  | .hbm, ⟨22, _⟩ => ⟨S1024x256, .f32⟩
  | .hbm, ⟨23, _⟩ => ⟨S256x1024, .f32⟩
  | .hbm, ⟨24, _⟩ => ⟨S256x1024, .bf16⟩
  | .hbm, ⟨25, _⟩ => ⟨S1x1024, .f32⟩
  | .hbm, ⟨26, _⟩ => ⟨S8x1x4096, .i32⟩
  | .hbm, ⟨27, _⟩ => ⟨S8x16x3072x256, .bf16⟩
  | .hbm, ⟨28, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S3072x1024, .bf16⟩
  | .local _ .vmem, ⟨4, _⟩ => ⟨S1024x768, .bf16⟩
  | .local _ .vmem, ⟨5, _⟩ => ⟨S256x1024, .bf16⟩
  | .local _ .vmem, ⟨6, _⟩ => ⟨S1x1x512, .i32⟩
  | .local _ .vmem, ⟨7, _⟩ => ⟨S1x1x512, .i32⟩
  | .local _ .vmem, ⟨8, _⟩ => ⟨S16x1, .f32⟩
  | .local _ .vmem, ⟨9, _⟩ => ⟨S1x2x3072x256, .bf16⟩
  | .local _ .vmem, ⟨10, _⟩ => ⟨S1x2x3072x256, .bf16⟩
  | .local _ .vmem, ⟨11, _⟩ => ⟨S1x512x1024, .bf16⟩
  | .local _ .vmem, ⟨12, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x3072x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjIdeal.lean ====
variable {F : FTy → Type} [FloatOps F] [Named F]
def κ : String → Option EReal := fun
  | "scale_b" => some (((Real.sqrt 64)⁻¹ * (Real.log 2)⁻¹ : ℝ) : EReal)
  | "scale_c" => some (((Real.sqrt 32)⁻¹ * (Real.log 2)⁻¹ : ℝ) : EReal)
  | _ => none
-- ==== InProjRefIdeal.lean ====
abbrev S8x4096x1024 : Shape := ⟨3, ![8, 4096, 1024]⟩
abbrev S8x4096 : Shape := ⟨2, ![8, 4096]⟩
abbrev S1024x4096 : Shape := ⟨2, ![1024, 4096]⟩
abbrev S1024 : Shape := ⟨1, ![1024]⟩
abbrev S16 : Shape := ⟨1, ![16]⟩
abbrev S_ : Shape := ⟨0, ![]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x1536 : Shape := ⟨3, ![8, 4096, 1536]⟩
abbrev S8x4096x384 : Shape := ⟨3, ![8, 4096, 384]⟩
abbrev S8x4096x256 : Shape := ⟨3, ![8, 4096, 256]⟩
abbrev S1x1x16 : Shape := ⟨3, ![1, 1, 16]⟩
abbrev S8x4096x16 : Shape := ⟨3, ![8, 4096, 16]⟩
abbrev S8x4096x1x1x16 : Shape := ⟨5, ![8, 4096, 1, 1, 16]⟩
abbrev S8x4096x4x2x32 : Shape := ⟨5, ![8, 4096, 4, 2, 32]⟩
abbrev S8x4096x4x2x16 : Shape := ⟨5, ![8, 4096, 4, 2, 16]⟩
abbrev S8x4096x3072 : Shape := ⟨3, ![8, 4096, 3072]⟩
abbrev S8x16x256x3072 : Shape := ⟨4, ![8, 16, 256, 3072]⟩
abbrev S8x16x3072x256 : Shape := ⟨4, ![8, 16, 3072, 256]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x4096, .f32⟩
  | .hbm, ⟨3, _⟩ => ⟨S1024, .f32⟩
  | .hbm, ⟨4, _⟩ => ⟨S16, .f32⟩
  | .hbm, ⟨5, _⟩ => ⟨S16, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x4096, .f32⟩
  | .hbm, ⟨23, _⟩ => ⟨S8x4096x1536, .f32⟩
  | .hbm, ⟨24, _⟩ => ⟨S8x4096x1536, .f32⟩
  | .hbm, ⟨25, _⟩ => ⟨S8x4096x1024, .f32⟩
  | .hbm, ⟨26, _⟩ => ⟨S8x4096x384, .f32⟩
  | .hbm, ⟨27, _⟩ => ⟨S8x4096x384, .f32⟩
  | .hbm, ⟨28, _⟩ => ⟨S8x4096x384, .f32⟩
  | .hbm, ⟨29, _⟩ => ⟨S8x4096x384, .f32⟩
  | .hbm, ⟨30, _⟩ => ⟨S8x4096x384, .f32⟩
  | .hbm, ⟨31, _⟩ => ⟨S8x4096x384, .f32⟩
  | .hbm, ⟨32, _⟩ => ⟨S8x4096x384, .f32⟩
  | .hbm, ⟨33, _⟩ => ⟨S8x4096x384, .f32⟩
  | .hbm, ⟨34, _⟩ => ⟨S8x4096x256, .f32⟩
  | .hbm, ⟨35, _⟩ => ⟨S8x4096x256, .f32⟩
  | .hbm, ⟨36, _⟩ => ⟨S8x4096x256, .f32⟩
  | .hbm, ⟨37, _⟩ => ⟨S8x4096x256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x4096x384, .f32⟩
  | .hbm, ⟨42, _⟩ => ⟨S8x4096x384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x4096x384, .f32⟩
  | .hbm, ⟨47, _⟩ => ⟨S8x4096x384, .f32⟩
  | .hbm, ⟨48, _⟩ => ⟨S8x4096, .f32⟩
  | .hbm, ⟨49, _⟩ => ⟨S8x4096x1, .f32⟩
  | .hbm, ⟨50, _⟩ => ⟨S1x1x16, .f32⟩
  | .hbm, ⟨51, _⟩ => ⟨S8x4096x16, .f32⟩
  | .hbm, ⟨52, _⟩ => ⟨S8x4096x16, .f32⟩
  | .hbm, ⟨53, _⟩ => ⟨S8x4096x16, .f32⟩
  | .hbm, ⟨54, _⟩ => ⟨S8x4096x1x1x16, .f32⟩
  | .hbm, ⟨55, _⟩ => ⟨S8x4096x1x1x16, .f32⟩
  | .hbm, ⟨56, _⟩ => ⟨S8x4096x1x1x16, .f32⟩
  | .hbm, ⟨57, _⟩ => ⟨S8x4096x4x2x32, .f32⟩
  | .hbm, ⟨58, _⟩ => ⟨S8x4096x4x2x16, .f32⟩
  | .hbm, ⟨59, _⟩ => ⟨S8x4096x4x2x16, .f32⟩
  | .hbm, ⟨60, _⟩ => ⟨S8x4096x4x2x16, .f32⟩
  | .hbm, ⟨61, _⟩ => ⟨S8x4096x4x2x16, .f32⟩
  | .hbm, ⟨62, _⟩ => ⟨S8x4096x4x2x16, .f32⟩
  | .hbm, ⟨63, _⟩ => ⟨S8x4096x4x2x16, .f32⟩
  | .hbm, ⟨64, _⟩ => ⟨S8x4096x4x2x16, .f32⟩
  | .hbm, ⟨65, _⟩ => ⟨S8x4096x4x2x16, .f32⟩
  | .hbm, ⟨66, _⟩ => ⟨S8x4096x4x2x16, .f32⟩
  | .hbm, ⟨67, _⟩ => ⟨S8x4096x4x2x16, .f32⟩
  | .hbm, ⟨68, _⟩ => ⟨S8x4096x4x2x16, .f32⟩
  | .hbm, ⟨69, _⟩ => ⟨S8x4096x4x2x16, .f32⟩
  | .hbm, ⟨70, _⟩ => ⟨S8x4096x4x2x32, .f32⟩
  | .hbm, ⟨71, _⟩ => ⟨S8x4096x256, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8x4096x256, .f32⟩
  | .hbm, ⟨76, _⟩ => ⟨S8x4096x256, .f32⟩
  | .hbm, ⟨77, _⟩ => ⟨S8x4096x3072, .f32⟩
  | .hbm, ⟨78, _⟩ => ⟨S8x4096, .f32⟩
  | .hbm, ⟨79, _⟩ => ⟨S8x4096x1, .f32⟩
  | .hbm, ⟨80, _⟩ => ⟨S1x1x16, .f32⟩
  | .hbm, ⟨81, _⟩ => ⟨S8x4096x16, .f32⟩
  | .hbm, ⟨82, _⟩ => ⟨S8x4096x16, .f32⟩
  | .hbm, ⟨83, _⟩ => ⟨S8x4096x16, .f32⟩
  | .hbm, ⟨84, _⟩ => ⟨S8x4096x1x1x16, .f32⟩
  | .hbm, ⟨85, _⟩ => ⟨S8x4096x1x1x16, .f32⟩
  | .hbm, ⟨86, _⟩ => ⟨S8x4096x1x1x16, .f32⟩
  | .hbm, ⟨87, _⟩ => ⟨S8x4096x4x2x32, .f32⟩
  | .hbm, ⟨88, _⟩ => ⟨S8x4096x4x2x16, .f32⟩
  | .hbm, ⟨89, _⟩ => ⟨S8x4096x4x2x16, .f32⟩
  | .hbm, ⟨90, _⟩ => ⟨S8x4096x4x2x16, .f32⟩
  | .hbm, ⟨91, _⟩ => ⟨S8x4096x4x2x16, .f32⟩
  | .hbm, ⟨92, _⟩ => ⟨S8x4096x4x2x16, .f32⟩
  | .hbm, ⟨93, _⟩ => ⟨S8x4096x4x2x16, .f32⟩
  | .hbm, ⟨94, _⟩ => ⟨S8x4096x4x2x16, .f32⟩
  | .hbm, ⟨95, _⟩ => ⟨S8x4096x4x2x16, .f32⟩
  | .hbm, ⟨96, _⟩ => ⟨S8x4096x4x2x16, .f32⟩
  | .hbm, ⟨97, _⟩ => ⟨S8x4096x4x2x16, .f32⟩
  | .hbm, ⟨98, _⟩ => ⟨S8x4096x4x2x16, .f32⟩
  | .hbm, ⟨99, _⟩ => ⟨S8x4096x4x2x16, .f32⟩
  | .hbm, ⟨100, _⟩ => ⟨S8x4096x4x2x32, .f32⟩
  | .hbm, ⟨101, _⟩ => ⟨S8x4096x256, .f32⟩
  | .hbm, ⟨102, _⟩ => ⟨S8x4096x1024, .f32⟩
  | .hbm, ⟨103, _⟩ => ⟨S8x16x256x3072, .f32⟩
  | .hbm, ⟨104, _⟩ => ⟨S8x16x3072x256, .f32⟩
  | .hbm, ⟨105, _⟩ => ⟨S8x16x3072x256, .bf16⟩
  | .hbm, ⟨106, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩

abbrev nD : Nat := 1
abbrev τ : Topo := Topo.v7x

variable {F : FTy → Type} [FloatOps F]
-- ==== OutProj.lean ====
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S8x4096x1024 : Shape := ⟨3, ![8, 4096, 1024]⟩
abbrev S8x16x256x384 : Shape := ⟨4, ![8, 16, 256, 384]⟩
abbrev S8x16x384x256 : Shape := ⟨4, ![8, 16, 384, 256]⟩
abbrev S8x16x256x256 : Shape := ⟨4, ![8, 16, 256, 256]⟩
abbrev S1x1024 : Shape := ⟨2, ![1, 1024]⟩
abbrev S1x2x384x256 : Shape := ⟨4, ![1, 2, 384, 256]⟩
abbrev S1x2x256x256 : Shape := ⟨4, ![1, 2, 256, 256]⟩
abbrev S1x512x1024 : Shape := ⟨3, ![1, 512, 1024]⟩
abbrev S1x1x384x256 : Shape := ⟨4, ![1, 1, 384, 256]⟩
abbrev S384x256 : Shape := ⟨2, ![384, 256]⟩
abbrev S1x1x256x256 : Shape := ⟨4, ![1, 1, 256, 256]⟩
abbrev S256x256 : Shape := ⟨2, ![256, 256]⟩
abbrev S1024x256 : Shape := ⟨2, ![1024, 256]⟩
abbrev S256 : Shape := ⟨1, ![256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8x4096x384, .f32⟩
  | .hbm, ⟨1, _⟩ => ⟨S8x4096x384, .f32⟩
  | .hbm, ⟨2, _⟩ => ⟨S8x4096x256, .f32⟩
  | .hbm, ⟨3, _⟩ => ⟨S1024x1024, .f32⟩
  | .hbm, ⟨4, _⟩ => ⟨S1024, .f32⟩
  | .hbm, ⟨5, _⟩ => ⟨S8x4096x1024, .f32⟩
  | .hbm, ⟨6, _⟩ => ⟨S8x16x256x384, .f32⟩
  | .hbm, ⟨7, _⟩ => ⟨S8x16x384x256, .f32⟩
  | .hbm, ⟨8, _⟩ => ⟨S8x16x384x256, .bf16⟩
  | .hbm, ⟨9, _⟩ => ⟨S8x16x256x384, .f32⟩
  | .hbm, ⟨10, _⟩ => ⟨S8x16x384x256, .f32⟩
  | .hbm, ⟨11, _⟩ => ⟨S8x16x384x256, .bf16⟩
  | .hbm, ⟨12, _⟩ => ⟨S8x16x256x256, .f32⟩
  | .hbm, ⟨13, _⟩ => ⟨S8x16x256x256, .f32⟩
  | .hbm, ⟨14, _⟩ => ⟨S8x16x256x256, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S8x4096x1024, .f32⟩
  | .local _ .vmem, ⟨0, _⟩ => ⟨S1x2x384x256, .bf16⟩
  | .local _ .vmem, ⟨1, _⟩ => ⟨S1x2x384x256, .bf16⟩
  | .local _ .vmem, ⟨2, _⟩ => ⟨S1x2x384x256, .bf16⟩
  | .local _ .vmem, ⟨3, _⟩ => ⟨S1x2x384x256, .bf16⟩
  | .local _ .vmem, ⟨4, _⟩ => ⟨S1x2x256x256, .bf16⟩
  | .local _ .vmem, ⟨5, _⟩ => ⟨S1x2x256x256, .bf16⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | _, _ => ⟨S8x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x384, .f32⟩
  | .hbm, ⟨1, _⟩ => ⟨S8x4096x384, .f32⟩
  | .hbm, ⟨2, _⟩ => ⟨S8x4096x256, .f32⟩
  | .hbm, ⟨3, _⟩ => ⟨S1024x1024, .f32⟩
  | .hbm, ⟨4, _⟩ => ⟨S1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | _, _ => ⟨S8x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Block.lean ====
/- What one grid point of the attention computes, as functions of the blocks it reads: a stream is
   one of the four row groups of a tile of queries (two heads, two maps each), its state a running
   maximum per query and a running weighted sum of values per query. -/
module

public import proofs.«01_k».proof.Proof.Gen.KernelIdeal.Skeleton
public import proofs.«01_k».proof.Proof.Gen.KernelIdeal.Frame

@[expose] public section

noncomputable section

namespace Cert.KernelIdeal.Da

open Idealize.ShloMosaic Idealize.SL.Sem Cert.KernelIdeal Cert.KernelIdeal.Gen

variable {F : FTy → Type} [FloatOps F]

/-- A stream's state: each query's running maximum, and its running sums. -/
abbrev St (F : FTy → Type) := FVec F S1x256 .f32 × FVec F S80x256 .f32

/-- The block of keys beginning at the given row. -/
abbrev keyR (o : Fin 3 → ℕ) (h : ∀ a, o a + S1x256x128.size a ≤ S1x4096x128.size a) : Rect S1x4096x128 :=
  Rect.unit (s := S1x4096x128) o S1x256x128.size h

/-- The block of values of one head and one tile. -/
abbrev valR (o : Fin 4 → ℕ) (h : ∀ a, o a + S1x1x64x256.size a ≤ S1x16x128x256.size a) : Rect S1x16x128x256 :=
  Rect.unit (s := S1x16x128x256) o S1x1x64x256.size h

/-- Each key's product with each query. -/
def score (u : Vec F S1x256x128 .bf16) (q : FVec F S128x256 .bf16) : FVec F S256x256 .f32 :=
  matmul dot_S256x128_S128x256_S256x256_1_0_0_1_n_n none
    (shapeCast S256x128 u shapeCasts_S1x256x128_S256x128) q (constant S256x256 .f32 0x00000000#32)

/-- The scores of a query's own tile: keys of later chunks stand at minus infinity. -/
def scoreD (u : Vec F S1x256x128 .bf16) (q : FVec F S128x256 .bf16) : FVec F S256x256 .f32 :=
  select k0_pay6 (score u q) (broadcast S256x256 (Scalar.ofBits .f32 0xFF800000#32))

/-- Each query's greatest score in a block. -/
def colMax (s : FVec F S256x256 .f32) : FVec F S1x256 .f32 :=
  shapeCast S1x256 (multiReduction .maximumf [0] S256 s 0xFF800000#32 reduces_S256x256_S256 (.inl rfl) rfl)
    shapeCasts_S256_S1x256

/-- The values of a tile over sixteen rows of ones. -/
def val1 (v : Vec F S1x1x64x256 .bf16) : FVec F S80x256 .bf16 :=
  concatenate S80x256 0 [⟨S64x256, shapeCast S64x256 v shapeCasts_S1x1x64x256_S64x256⟩,
    ⟨S16x256, broadcast S16x256 (Scalar.ofBits .bf16 0x3F80#16)⟩] concatenates_S64x256_S16x256_S80x256_d0

/-- The weights of a block's keys under the maximum `m`. -/
def wgt (s : FVec F S256x256 .f32) (m : FVec F S1x256 .f32) : FVec F S256x256 .bf16 :=
  truncf .bf16 (exp2 (subf s (broadcastTo S256x256 m broadcasts_S1x256_S256x256))) bitsLt_bf16_f32

/-- One block's sums added to `a`. -/
def accum (m : FVec F S1x256 .f32) (a : FVec F S80x256 .f32)
    (p : FVec F S256x256 .f32 × Vec F S1x1x64x256 .bf16) : FVec F S80x256 .f32 :=
  addf a (matmul dot_S80x256_S256x256_S80x256_1_0_0_1_n_n none (val1 p.2) (wgt p.1 m)
    (constant S80x256 .f32 0x00000000#32))

/-- The maximum taken over the blocks of `l` too. -/
def maxOver (m : FVec F S1x256 .f32) (l : List (FVec F S256x256 .f32 × Vec F S1x1x64x256 .bf16)) :
    FVec F S1x256 .f32 :=
  l.foldl (fun m p => maximumf m (colMax p.1)) m

/-- A stream's state after the blocks of `l`: the maximum first, then the old sums brought to it, then
    each block's sums added. -/
def upd (st : St F) (l : List (FVec F S256x256 .f32 × Vec F S1x1x64x256 .bf16)) : St F :=
  (maxOver st.1 l,
   l.foldl (accum (maxOver st.1 l))
     (mulf (broadcastTo S80x256 (exp2 (subf st.1 (maxOver st.1 l))) broadcasts_S1x256_S80x256) st.2))

/-- Before any block: minus infinity and zero. -/
def st0 : St F :=
  (broadcast S1x256 (Scalar.ofBits .f32 0xFF800000#32), broadcast S80x256 (Scalar.ofBits .f32 0x00000000#32))

/-! ## The blocks a stream goes through -/

section streams

variable (i : grid0.Coords) (x1 : Vec F S1x4096x128 .bf16) (x2 : Vec F S1x16x128x256 .bf16)

/-- Block `r` of trip `k` of the loop: its scores, and its values for the first head -/
def blk0 (q : FVec F S128x256 .bf16) (k : Fin (k0_t1_loop i).trips) (r : Fin 4) :
    FVec F S256x256 .f32 × Vec F S1x1x64x256 .bf16 :=
  (score (View.ld x1 (keyR (k0_off16 i k (BitVec.ofNat 32 r.val)) (k0_off16_inb i k r))) q,
   View.ld x2 (valR (k0_off17 i k (BitVec.ofNat 32 r.val)) (k0_off17_inb i k r)))

/-- and for the second. -/
def blk1 (q : FVec F S128x256 .bf16) (k : Fin (k0_t1_loop i).trips) (r : Fin 4) :
    FVec F S256x256 .f32 × Vec F S1x1x64x256 .bf16 :=
  (score (View.ld x1 (keyR (k0_off16 i k (BitVec.ofNat 32 r.val)) (k0_off16_inb i k r))) q,
   View.ld x2 (valR (k0_off18 i k (BitVec.ofNat 32 r.val)) (k0_off18_inb i k r)))

/-- One trip on a stream of the first head, -/
def trip0 (q : FVec F S128x256 .bf16) (k : Fin (k0_t1_loop i).trips) (st : St F) : St F :=
  upd st [blk0 i x1 x2 q k 0, blk0 i x1 x2 q k 1, blk0 i x1 x2 q k 2, blk0 i x1 x2 q k 3]

/-- of the second head. -/
def trip1 (q : FVec F S128x256 .bf16) (k : Fin (k0_t1_loop i).trips) (st : St F) : St F :=
  upd st [blk1 i x1 x2 q k 0, blk1 i x1 x2 q k 1, blk1 i x1 x2 q k 2, blk1 i x1 x2 q k 3]

/-- The state after `n` trips, from `st`: first head, -/
def run0 (q : FVec F S128x256 .bf16) (st : St F) : ℕ → St F
  | 0 => st
  | n + 1 => if h : n < (k0_t1_loop i).trips then trip0 i x1 x2 q ⟨n, h⟩ (run0 q st n) else run0 q st n

/-- second head. -/
def run1 (q : FVec F S128x256 .bf16) (st : St F) : ℕ → St F
  | 0 => st
  | n + 1 => if h : n < (k0_t1_loop i).trips then trip1 i x1 x2 q ⟨n, h⟩ (run1 q st n) else run1 q st n

variable (q : FVec F S128x256 .bf16)

/-- Before the loop, with the two odd blocks: a stream of the lower tile, first head; -/
def headA00 (h : k0_cond1 i = 1#1) : St F :=
  upd st0 [(scoreD (View.ld x1 (keyR (k0_off2 i) (k0_off2_inb i h))) q, View.ld x2 (valR (k0_off4 i) (k0_off4_inb i h))),
    (score (View.ld x1 (keyR (k0_off3 i 0#32) (k0_off3_inb i h 0))) q, View.ld x2 (valR (k0_off5 i 0#32) (k0_off5_inb i h 0))),
    (score (View.ld x1 (keyR (k0_off3 i 1#32) (k0_off3_inb i h 1))) q, View.ld x2 (valR (k0_off5 i 1#32) (k0_off5_inb i h 1)))]

/-- second head; -/
def headA01 (h : k0_cond1 i = 1#1) : St F :=
  upd st0 [(scoreD (View.ld x1 (keyR (k0_off2 i) (k0_off2_inb i h))) q, View.ld x2 (valR (k0_off6 i) (k0_off6_inb i h))),
    (score (View.ld x1 (keyR (k0_off3 i 0#32) (k0_off3_inb i h 0))) q, View.ld x2 (valR (k0_off7 i 0#32) (k0_off7_inb i h 0))),
    (score (View.ld x1 (keyR (k0_off3 i 1#32) (k0_off3_inb i h 1))) q, View.ld x2 (valR (k0_off7 i 1#32) (k0_off7_inb i h 1)))]

/-- of the upper tile, first head; -/
def headA10 (h : k0_cond1 i = 1#1) : St F :=
  upd st0 [(scoreD (View.ld x1 (keyR (k0_off1 i) (k0_off1_inb i h))) q, View.ld x2 (valR (k0_off8 i) (k0_off8_inb i h))),
    (score (View.ld x1 (keyR (k0_off2 i) (k0_off2_inb i h))) q, View.ld x2 (valR (k0_off4 i) (k0_off4_inb i h))),
    (score (View.ld x1 (keyR (k0_off3 i 0#32) (k0_off3_inb i h 0))) q, View.ld x2 (valR (k0_off5 i 0#32) (k0_off5_inb i h 0))),
    (score (View.ld x1 (keyR (k0_off3 i 1#32) (k0_off3_inb i h 1))) q, View.ld x2 (valR (k0_off5 i 1#32) (k0_off5_inb i h 1)))]

/-- second head. -/
def headA11 (h : k0_cond1 i = 1#1) : St F :=
  upd st0 [(scoreD (View.ld x1 (keyR (k0_off1 i) (k0_off1_inb i h))) q, View.ld x2 (valR (k0_off9 i) (k0_off9_inb i h))),
    (score (View.ld x1 (keyR (k0_off2 i) (k0_off2_inb i h))) q, View.ld x2 (valR (k0_off6 i) (k0_off6_inb i h))),
    (score (View.ld x1 (keyR (k0_off3 i 0#32) (k0_off3_inb i h 0))) q, View.ld x2 (valR (k0_off7 i 0#32) (k0_off7_inb i h 0))),
    (score (View.ld x1 (keyR (k0_off3 i 1#32) (k0_off3_inb i h 1))) q, View.ld x2 (valR (k0_off7 i 1#32) (k0_off7_inb i h 1)))]

/-- The same without odd blocks: lower tile, first head; -/
def headB00 (h : ¬k0_cond1 i = 1#1) : St F :=
  upd st0 [(scoreD (View.ld x1 (keyR (k0_off11 i) (k0_off11_inb i h))) q, View.ld x2 (valR (k0_off12 i) (k0_off12_inb i h)))]

/-- second head; -/
def headB01 (h : ¬k0_cond1 i = 1#1) : St F :=
  upd st0 [(scoreD (View.ld x1 (keyR (k0_off11 i) (k0_off11_inb i h))) q, View.ld x2 (valR (k0_off13 i) (k0_off13_inb i h)))]

/-- upper tile, first head; -/
def headB10 (h : ¬k0_cond1 i = 1#1) : St F :=
  upd st0 [(scoreD (View.ld x1 (keyR (k0_off10 i) (k0_off10_inb i h))) q, View.ld x2 (valR (k0_off14 i) (k0_off14_inb i h))),
    (score (View.ld x1 (keyR (k0_off11 i) (k0_off11_inb i h))) q, View.ld x2 (valR (k0_off12 i) (k0_off12_inb i h)))]

/-- second head. -/
def headB11 (h : ¬k0_cond1 i = 1#1) : St F :=
  upd st0 [(scoreD (View.ld x1 (keyR (k0_off10 i) (k0_off10_inb i h))) q, View.ld x2 (valR (k0_off15 i) (k0_off15_inb i h))),
    (score (View.ld x1 (keyR (k0_off11 i) (k0_off11_inb i h))) q, View.ld x2 (valR (k0_off13 i) (k0_off13_inb i h)))]

/-- A stream's state at the loop's start: lower tile, first head; -/
def head00 : St F := if h : k0_cond1 i = 1#1 then headA00 i x1 x2 q h else headB00 i x1 x2 q h
/-- second head; -/
def head01 : St F := if h : k0_cond1 i = 1#1 then headA01 i x1 x2 q h else headB01 i x1 x2 q h
/-- upper tile, first head; -/
def head10 : St F := if h : k0_cond1 i = 1#1 then headA10 i x1 x2 q h else headB10 i x1 x2 q h
/-- second head. -/
def head11 : St F := if h : k0_cond1 i = 1#1 then headA11 i x1 x2 q h else headB11 i x1 x2 q h

/-- A stream's sums at the end: lower tile, first head; -/
def fin00 : FVec F S80x256 .f32 := (run0 i x1 x2 q (head00 i x1 x2 q) (k0_t1_loop i).trips).2
/-- second head; -/
def fin01 : FVec F S80x256 .f32 := (run1 i x1 x2 q (head01 i x1 x2 q) (k0_t1_loop i).trips).2
/-- upper tile, first head; -/
def fin10 : FVec F S80x256 .f32 := (run0 i x1 x2 q (head10 i x1 x2 q) (k0_t1_loop i).trips).2
/-- second head. -/
def fin11 : FVec F S80x256 .f32 := (run1 i x1 x2 q (head11 i x1 x2 q) (k0_t1_loop i).trips).2

end streams

/-! ## The queries of a stream, and the block at the end -/

/-- The rows `lo ≤ r < hi` of a tile of queries, zeros elsewhere. -/
def rowsOf (lo hi : BitVec 32) (x : Vec F S1x1x128x256 .bf16) : FVec F S128x256 .bf16 :=
  select (andi (cmpi .sge (iota .tc S128x256 32 [0] iota_S128x256_d0_w32) (broadcast S128x256 lo))
      (cmpi .slt (iota .tc S128x256 32 [0] iota_S128x256_d0_w32) (broadcast S128x256 hi)))
    (shapeCast S128x256 x shapeCasts_S1x1x128x256_S128x256)
    (broadcast S128x256 (Scalar.ofBits .bf16 0x0000#16))

/-- A stream's sums over its sum of weights. -/
def ratio (a : FVec F S80x256 .f32) : FVec F S64x256 .f32 := k0_pay410 a

/-- One head's result: the difference of its two maps, its mean square one, times the gain and 0.8. -/
def headOut (a b : FVec F S80x256 .f32) (lam : FVec F S1x1 .f32) (g : Vec F S64x1 .f32) : FVec F S64x256 .f32 :=
  k0_pay414 a b lam g

/-- A tile's two heads, times the gate's sigmoid and the gate. -/
def tileOut (a b : FVec F S64x256 .f32) (g : Vec F S1x1x128x256 .bf16) : FVec F S1x1x128x256 .bf16 :=
  k0_pay413 (concatenate S128x256 0 [⟨S64x256, a⟩, ⟨S64x256, b⟩] concatenates_S64x256_S64x256_S128x256_d0) g

/-- The two tiles of the point, in what is read and what is left. -/
abbrev t0 : Rect S1x2x128x256 :=
  Rect.unit (s := S1x2x128x256) ![0, 0, 0, 0] S1x1x128x256.size inb_S1x2x128x256_S1x1x128x256_0_0_0_0
/-- The upper one. -/
abbrev t1 : Rect S1x2x128x256 :=
  Rect.unit (s := S1x2x128x256) ![0, 1, 0, 0] S1x1x128x256.size inb_S1x2x128x256_S1x1x128x256_0_1_0_0
/-- The whole of the four vectors, -/
abbrev rl : Rect S4x32 := Rect.unit (s := S4x32) ![0, 0] S4x32.size inb_S4x32_S4x32_0_0
/-- and of the gain. -/
abbrev rg : Rect S64x1 := Rect.unit (s := S64x1) ![0, 0] S64x1.size inb_S64x1_S64x1_0_0

section out

variable (i : grid0.Coords) (x0 : Vec F S1x2x128x256 .bf16) (x1 : Vec F S1x4096x128 .bf16)
  (x2 : Vec F S1x16x128x256 .bf16) (x3 : Vec F S1x2x128x256 .bf16) (x4 : Vec F S4x32 .f32) (x5 : Vec F S64x1 .f32)

/-- The lower tile's block. -/
def out0 : FVec F S1x1x128x256 .bf16 :=
  tileOut
    (headOut (fin00 i x1 x2 (rowsOf 0#32 32#32 (View.ld x0 t0))) (fin00 i x1 x2 (rowsOf 32#32 64#32 (View.ld x0 t0)))
      (k0_pay409 (View.ld x4 rl)) (View.ld x5 rg))
    (headOut (fin01 i x1 x2 (rowsOf 64#32 96#32 (View.ld x0 t0))) (fin01 i x1 x2 (rowsOf 96#32 128#32 (View.ld x0 t0)))
      (k0_pay409 (View.ld x4 rl)) (View.ld x5 rg))
    (View.ld x3 t0)

/-- The upper tile's block. -/
def out1 : FVec F S1x1x128x256 .bf16 :=
  tileOut
    (headOut (fin10 i x1 x2 (rowsOf 0#32 32#32 (View.ld x0 t1))) (fin10 i x1 x2 (rowsOf 32#32 64#32 (View.ld x0 t1)))
      (k0_pay409 (View.ld x4 rl)) (View.ld x5 rg))
    (headOut (fin11 i x1 x2 (rowsOf 64#32 96#32 (View.ld x0 t1))) (fin11 i x1 x2 (rowsOf 96#32 128#32 (View.ld x0 t1)))
      (k0_pay409 (View.ld x4 rl)) (View.ld x5 rg))
    (View.ld x3 t1)

/-- What the point leaves in its block of the result. -/
def out : Vec F S1x2x128x256 .bf16 :=
  View.canon [⟨t1, out1 i x0 x1 x2 x3 x4 x5⟩, ⟨t0, out0 i x0 x1 x2 x3 x4 x5⟩]

end out

/-- The two tiles are the whole block. -/
theorem cover (p0 p1 : Vec F S1x1x128x256 .bf16) (y : S1x2x128x256.Idx) :
    ∃ pc ∈ ([⟨t1, p0⟩, ⟨t0, p1⟩] : List (View.Piece (Elt F) S1x2x128x256 .bf16)), y ∈ pc.1.set :=
  View.cover_of_tiled [⟨t1, p0⟩, ⟨t0, p1⟩] S1x1x128x256.size (by rfl) y

end Cert.KernelIdeal.Da

end
-- ==== Proof.Offsets.lean ====
/- The loop's trips and the rows at which the blocks are read, in closed form: point `i` has the tiles
   of queries `2·i₂` and `2·i₂ + 1`; the blocks are read from these downwards. -/
module

public import proofs.«01_k».proof.Proof.Block
public import Mathlib.Tactic.IntervalCases

@[expose] public section

noncomputable section

namespace Cert.KernelIdeal.Da

open Idealize.ShloMosaic Idealize.SL.Sem Cert.KernelIdeal Cert.KernelIdeal.Gen

theorem coord_lt (i : grid0.Coords) : (i 2).val < 8 := (i 2).isLt

/-- The last loop, over a remainder, makes no trip; -/
theorem trips2 (i : grid0.Coords) : (k0_t2_loop i).trips = 0 := by
  have h := coord_lt i
  unfold k0_t2_loop
  generalize (i 2).val = a at h
  interval_cases a <;> rfl

/-- the loop over fours makes one for every four whole blocks below the point's tiles; -/
theorem trips1 (i : grid0.Coords) : (k0_t1_loop i).trips = (i 2).val / 2 := by
  have h := coord_lt i
  unfold k0_t1_loop
  generalize (i 2).val = a at h
  interval_cases a <;> rfl

/-- two blocks are left over when the point's number is odd. -/
theorem cond1_iff (i : grid0.Coords) : k0_cond1 i = 1#1 ↔ (i 2).val % 2 = 1 := by
  have h := coord_lt i
  unfold k0_cond1
  generalize (i 2).val = a at h
  interval_cases a <;> decide

theorem off1 (i : grid0.Coords) : k0_off1 i = ![0, 256 * (2 * (i 2).val + 1), 0] := by
  have h := coord_lt i
  unfold k0_off1
  generalize (i 2).val = a at h
  interval_cases a <;> decide

theorem off2 (i : grid0.Coords) : k0_off2 i = ![0, 256 * (2 * (i 2).val), 0] := by
  have h := coord_lt i
  unfold k0_off2
  generalize (i 2).val = a at h
  interval_cases a <;> decide

theorem off3 (i : grid0.Coords) (hc : (i 2).val % 2 = 1) (r : Fin 2) :
    k0_off3 i (BitVec.ofNat 32 r.val) = ![0, 256 * (2 * (i 2).val - 1 - r.val), 0] := by
  have h := coord_lt i
  have hr := r.isLt
  unfold k0_off3
  generalize r.val = r' at hr
  generalize (i 2).val = a at h hc
  interval_cases a <;> first | omega | (interval_cases r' <;> decide)

theorem off4 (i : grid0.Coords) : k0_off4 i = ![0, 2 * (i 2).val, 0, 0] := by
  have h := coord_lt i
  unfold k0_off4
  generalize (i 2).val = a at h
  interval_cases a <;> decide

theorem off5 (i : grid0.Coords) (hc : (i 2).val % 2 = 1) (r : Fin 2) :
    k0_off5 i (BitVec.ofNat 32 r.val) = ![0, 2 * (i 2).val - 1 - r.val, 0, 0] := by
  have h := coord_lt i
  have hr := r.isLt
  unfold k0_off5
  generalize r.val = r' at hr
  generalize (i 2).val = a at h hc
  interval_cases a <;> first | omega | (interval_cases r' <;> decide)

theorem off6 (i : grid0.Coords) : k0_off6 i = ![0, 2 * (i 2).val, 64, 0] := by
  have h := coord_lt i
  unfold k0_off6
  generalize (i 2).val = a at h
  interval_cases a <;> decide

theorem off7 (i : grid0.Coords) (hc : (i 2).val % 2 = 1) (r : Fin 2) :
    k0_off7 i (BitVec.ofNat 32 r.val) = ![0, 2 * (i 2).val - 1 - r.val, 64, 0] := by
  have h := coord_lt i
  have hr := r.isLt
  unfold k0_off7
  generalize r.val = r' at hr
  generalize (i 2).val = a at h hc
  interval_cases a <;> first | omega | (interval_cases r' <;> decide)

theorem off8 (i : grid0.Coords) : k0_off8 i = ![0, 2 * (i 2).val + 1, 0, 0] := by
  have h := coord_lt i
  unfold k0_off8
  generalize (i 2).val = a at h
  interval_cases a <;> decide

theorem off9 (i : grid0.Coords) : k0_off9 i = ![0, 2 * (i 2).val + 1, 64, 0] := by
  have h := coord_lt i
  unfold k0_off9
  generalize (i 2).val = a at h
  interval_cases a <;> decide

theorem off10 (i : grid0.Coords) : k0_off10 i = ![0, 256 * (2 * (i 2).val + 1), 0] := by
  have h := coord_lt i
  unfold k0_off10
  generalize (i 2).val = a at h
  interval_cases a <;> decide

theorem off11 (i : grid0.Coords) : k0_off11 i = ![0, 256 * (2 * (i 2).val), 0] := by
  have h := coord_lt i
  unfold k0_off11
  generalize (i 2).val = a at h
  interval_cases a <;> decide

theorem off12 (i : grid0.Coords) : k0_off12 i = ![0, 2 * (i 2).val, 0, 0] := by
  have h := coord_lt i
  unfold k0_off12
  generalize (i 2).val = a at h
  interval_cases a <;> decide

theorem off13 (i : grid0.Coords) : k0_off13 i = ![0, 2 * (i 2).val, 64, 0] := by
  have h := coord_lt i
  unfold k0_off13
  generalize (i 2).val = a at h
  interval_cases a <;> decide

theorem off14 (i : grid0.Coords) : k0_off14 i = ![0, 2 * (i 2).val + 1, 0, 0] := by
  have h := coord_lt i
  unfold k0_off14
  generalize (i 2).val = a at h
  interval_cases a <;> decide

theorem off15 (i : grid0.Coords) : k0_off15 i = ![0, 2 * (i 2).val + 1, 64, 0] := by
  have h := coord_lt i
  unfold k0_off15
  generalize (i 2).val = a at h
  interval_cases a <;> decide

theorem off16 (i : grid0.Coords) (k : Fin (k0_t1_loop i).trips) (r : Fin 4) :
    k0_off16 i k (BitVec.ofNat 32 r.val) = ![0, 256 * (4 * ((i 2).val / 2) - 1 - 4 * k.val - r.val), 0] := by
  have h := coord_lt i
  have hk : k.val < (i 2).val / 2 := (trips1 i) ▸ k.isLt
  have hr := r.isLt
  unfold k0_off16
  generalize k.val = k' at hk
  generalize r.val = r' at hr
  generalize (i 2).val = a at h hk
  have : k' < 4 := by omega
  interval_cases a <;> interval_cases k' <;> first | omega | (interval_cases r' <;> decide)

theorem off17 (i : grid0.Coords) (k : Fin (k0_t1_loop i).trips) (r : Fin 4) :
    k0_off17 i k (BitVec.ofNat 32 r.val) = ![0, 4 * ((i 2).val / 2) - 1 - 4 * k.val - r.val, 0, 0] := by
  have h := coord_lt i
  have hk : k.val < (i 2).val / 2 := (trips1 i) ▸ k.isLt
  have hr := r.isLt
  unfold k0_off17
  generalize k.val = k' at hk
  generalize r.val = r' at hr
  generalize (i 2).val = a at h hk
  have : k' < 4 := by omega
  interval_cases a <;> interval_cases k' <;> first | omega | (interval_cases r' <;> decide)

theorem off18 (i : grid0.Coords) (k : Fin (k0_t1_loop i).trips) (r : Fin 4) :
    k0_off18 i k (BitVec.ofNat 32 r.val) = ![0, 4 * ((i 2).val / 2) - 1 - 4 * k.val - r.val, 64, 0] := by
  have h := coord_lt i
  have hk : k.val < (i 2).val / 2 := (trips1 i) ▸ k.isLt
  have hr := r.isLt
  unfold k0_off18
  generalize k.val = k' at hk
  generalize r.val = r' at hr
  generalize (i 2).val = a at h hk
  have : k' < 4 := by omega
  interval_cases a <;> interval_cases k' <;> first | omega | (interval_cases r' <;> decide)

end Cert.KernelIdeal.Da

end
-- ==== Proof.Loop.lean ====
/- What the loop over blocks of keys carries: one trip is a trip of each of the eight streams, so the
   values before trip `n` are the eight streams' states after `n` trips. -/
module

public import proofs.«01_k».proof.Proof.Gen.KernelIdeal.Loops
public import proofs.«01_k».proof.Proof.Offsets

@[expose] public section

set_option maxRecDepth 16384

noncomputable section

namespace Cert.KernelIdeal.Da

open Idealize.ShloMosaic Idealize.SL.Sem Cert.KernelIdeal Cert.KernelIdeal.Gen

variable {F : FTy → Type} [FloatOps F]

variable (𝒱 : Variants) (c : Dev nD) (bd : Option 𝒱.V) (i : grid0.Coords)
  (arg3 : Memref sig .tc .vmem S1x2x128x256 .bf16) (harg3 : arg3.IsWhole)
  (arg4 : Memref sig .tc .vmem S1x4096x128 .bf16) (harg4 : arg4.IsWhole)
  (arg5 : Memref sig .tc .vmem S1x16x128x256 .bf16) (harg5 : arg5.IsWhole)
  (arg6 : Memref sig .tc .vmem S1x2x128x256 .bf16) (harg6 : arg6.IsWhole)
  (arg7 : Memref sig .tc .vmem S4x32 .f32) (harg7 : arg7.IsWhole)
  (arg8 : Memref sig .tc .vmem S64x1 .f32) (harg8 : arg8.IsWhole)
  (arg9 : Memref sig .tc .vmem S1x2x128x256 .bf16) (harg9 : arg9.IsWhole)
  (v9 v19 v29 v39 v49 v59 v69 v79 : FVec F S128x256 .bf16) (v96 : BitVec 32)
  (w0 : FVec F S1x256 .f32) (w1 : FVec F S80x256 .f32) (w2 : FVec F S1x256 .f32) (w3 : FVec F S80x256 .f32)
  (w4 : FVec F S1x256 .f32) (w5 : FVec F S80x256 .f32) (w6 : FVec F S1x256 .f32) (w7 : FVec F S80x256 .f32)
  (w8 : FVec F S1x256 .f32) (w9 : FVec F S80x256 .f32) (w10 : FVec F S1x256 .f32) (w11 : FVec F S80x256 .f32)
  (w12 : FVec F S1x256 .f32) (w13 : FVec F S80x256 .f32) (w14 : FVec F S1x256 .f32) (w15 : FVec F S80x256 .f32)
  (v135 c4 v136 v138 : BitVec 32)
  (X4 : BufTy.Contents (Elt F) arg4.view.ty) (X5 : BufTy.Contents (Elt F) arg5.view.ty)

set_option maxHeartbeats 4000000 in
/-- One trip, on the eight streams. -/
theorem trip_eq (k : Fin (k0_t1_loop i).trips) (s0 s1 s2 s3 s4 s5 s6 s7 : St F) :
    tripR_k0_t1 𝒱 c bd i arg3 harg3 arg4 harg4 arg5 harg5 arg6 harg6 arg7 harg7 arg8 harg8 arg9 harg9 v9 v19 v29 v39 v49 v59 v69 v79 v96 w0 w1 w2 w3 w4 w5 w6 w7 w8 w9 w10 w11 w12 w13 w14 w15 v135 c4 v136 v138 X4 X5 k (s0.1, s0.2, s1.1, s1.2, s2.1, s2.2, s3.1, s3.2, s4.1, s4.2, s5.1, s5.2, s6.1, s6.2, s7.1, s7.2)
      = ((trip0 i (arg4.view.read (Elt F) X4) (arg5.view.read (Elt F) X5) v9 k s0).1, (trip0 i (arg4.view.read (Elt F) X4) (arg5.view.read (Elt F) X5) v9 k s0).2, (trip0 i (arg4.view.read (Elt F) X4) (arg5.view.read (Elt F) X5) v19 k s1).1, (trip0 i (arg4.view.read (Elt F) X4) (arg5.view.read (Elt F) X5) v19 k s1).2, (trip1 i (arg4.view.read (Elt F) X4) (arg5.view.read (Elt F) X5) v29 k s2).1, (trip1 i (arg4.view.read (Elt F) X4) (arg5.view.read (Elt F) X5) v29 k s2).2, (trip1 i (arg4.view.read (Elt F) X4) (arg5.view.read (Elt F) X5) v39 k s3).1, (trip1 i (arg4.view.read (Elt F) X4) (arg5.view.read (Elt F) X5) v39 k s3).2, (trip0 i (arg4.view.read (Elt F) X4) (arg5.view.read (Elt F) X5) v49 k s4).1, (trip0 i (arg4.view.read (Elt F) X4) (arg5.view.read (Elt F) X5) v49 k s4).2, (trip0 i (arg4.view.read (Elt F) X4) (arg5.view.read (Elt F) X5) v59 k s5).1, (trip0 i (arg4.view.read (Elt F) X4) (arg5.view.read (Elt F) X5) v59 k s5).2, (trip1 i (arg4.view.read (Elt F) X4) (arg5.view.read (Elt F) X5) v69 k s6).1, (trip1 i (arg4.view.read (Elt F) X4) (arg5.view.read (Elt F) X5) v69 k s6).2, (trip1 i (arg4.view.read (Elt F) X4) (arg5.view.read (Elt F) X5) v79 k s7).1, (trip1 i (arg4.view.read (Elt F) X4) (arg5.view.read (Elt F) X5) v79 k s7).2) := by
  with_unfolding_all rfl

/-- The carried values before trip `n`. -/
theorem st_eq (s0 s1 s2 s3 s4 s5 s6 s7 : St F) : ∀ n : ℕ, n ≤ (k0_t1_loop i).trips →
    st_k0_t1 𝒱 c bd i arg3 harg3 arg4 harg4 arg5 harg5 arg6 harg6 arg7 harg7 arg8 harg8 arg9 harg9 v9 v19 v29 v39 v49 v59 v69 v79 v96 w0 w1 w2 w3 w4 w5 w6 w7 w8 w9 w10 w11 w12 w13 w14 w15 v135 c4 v136 v138 X4 X5 (s0.1, s0.2, s1.1, s1.2, s2.1, s2.2, s3.1, s3.2, s4.1, s4.2, s5.1, s5.2, s6.1, s6.2, s7.1, s7.2) n
      = ((run0 i (arg4.view.read (Elt F) X4) (arg5.view.read (Elt F) X5) v9 s0 n).1, (run0 i (arg4.view.read (Elt F) X4) (arg5.view.read (Elt F) X5) v9 s0 n).2, (run0 i (arg4.view.read (Elt F) X4) (arg5.view.read (Elt F) X5) v19 s1 n).1, (run0 i (arg4.view.read (Elt F) X4) (arg5.view.read (Elt F) X5) v19 s1 n).2, (run1 i (arg4.view.read (Elt F) X4) (arg5.view.read (Elt F) X5) v29 s2 n).1, (run1 i (arg4.view.read (Elt F) X4) (arg5.view.read (Elt F) X5) v29 s2 n).2, (run1 i (arg4.view.read (Elt F) X4) (arg5.view.read (Elt F) X5) v39 s3 n).1, (run1 i (arg4.view.read (Elt F) X4) (arg5.view.read (Elt F) X5) v39 s3 n).2, (run0 i (arg4.view.read (Elt F) X4) (arg5.view.read (Elt F) X5) v49 s4 n).1, (run0 i (arg4.view.read (Elt F) X4) (arg5.view.read (Elt F) X5) v49 s4 n).2, (run0 i (arg4.view.read (Elt F) X4) (arg5.view.read (Elt F) X5) v59 s5 n).1, (run0 i (arg4.view.read (Elt F) X4) (arg5.view.read (Elt F) X5) v59 s5 n).2, (run1 i (arg4.view.read (Elt F) X4) (arg5.view.read (Elt F) X5) v69 s6 n).1, (run1 i (arg4.view.read (Elt F) X4) (arg5.view.read (Elt F) X5) v69 s6 n).2, (run1 i (arg4.view.read (Elt F) X4) (arg5.view.read (Elt F) X5) v79 s7 n).1, (run1 i (arg4.view.read (Elt F) X4) (arg5.view.read (Elt F) X5) v79 s7 n).2)
  | 0, _ => by rw [st_k0_t1_zero]; rfl
  | n + 1, hn => by
    rw [show n + 1 = (⟨n, hn⟩ : Fin (k0_t1_loop i).trips).val + 1 from rfl, st_k0_t1_succ]
    rw [st_eq s0 s1 s2 s3 s4 s5 s6 s7 n (Nat.le_of_lt hn), trip_eq]
    have hn' : n < (k0_t1_loop i).trips := hn
    simp only [run0, run1, hn', ↓reduceDIte]

/-- The last loop makes no trip: what it carries is what it is given. -/
theorem st2_eq (v157 : BitVec 32) (init) :
    st_k0_t2 𝒱 c bd i arg3 harg3 arg4 harg4 arg5 harg5 arg6 harg6 arg7 harg7 arg8 harg8 arg9 harg9 v9 v19 v29 v39 v49 v59 v69 v79 v96 w0 w1 w2 w3 w4 w5 w6 w7 w8 w9 w10 w11 w12 w13 w14 w15 v135 c4 v136 v138 v157 X4 X5 init (k0_t2_loop i).trips = init := by
  rw [trips2]; exact st_k0_t2_zero ..

end Cert.KernelIdeal.Da

end
-- ==== Proof.BodyA.lean ====
/- The body of the attention at one grid point whose row of queries is odd: from the blocks it reads it leaves `out` of them. -/
module

public import proofs.«01_k».proof.Proof.Loop
public import proofs.«01_k».proof.Proof.Offsets

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging memrefs, the inputs' at read contents and the output's at anything, two blocks left over. -/
theorem soundA (c : Dev nD) (E : Set ℕ) (i : grid0.Coords) (arg3 : Memref sig .tc .vmem S1x2x128x256 .bf16) (harg3 : arg3.IsWhole) (arg4 : Memref sig .tc .vmem S1x4096x128 .bf16) (harg4 : arg4.IsWhole) (arg5 : Memref sig .tc .vmem S1x16x128x256 .bf16) (harg5 : arg5.IsWhole) (arg6 : Memref sig .tc .vmem S1x2x128x256 .bf16) (harg6 : arg6.IsWhole) (arg7 : Memref sig .tc .vmem S4x32 .f32) (harg7 : arg7.IsWhole) (arg8 : Memref sig .tc .vmem S64x1 .f32) (harg8 : arg8.IsWhole) (arg9 : Memref sig .tc .vmem S1x2x128x256 .bf16) (harg9 : arg9.IsWhole)
    (x0 : Vec F S1x2x128x256 .bf16) (x1 : Vec F S1x4096x128 .bf16) (x2 : Vec F S1x16x128x256 .bf16) (x3 : Vec F S1x2x128x256 .bf16) (x4 : Vec F S4x32 .f32) (x5 : Vec F S64x1 .f32) (K : PUnit → sProp 𝕄)
    (hc : k0_cond1 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out i x0 x1 x2 x3 x4 x5)) -∗ K ⟨⟩))
      ⊢ wp frame (wpE (defs₀ (F := F)) Variants.none c none) E (cc0_da_attn i arg3 harg3 arg4 harg4 arg5 harg5 arg6 harg6 arg7 harg7 arg8 harg8 arg9 harg9) K := by
  simp only [cc0_da_attn_eq_skeleton]; unfold cc0_da_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _ _)).trans ?_
  have q0 : soundA.sl.r c arg3 f0 = (rowsOf 0#32 32#32 (View.ld (arg3.view.read (Elt F) f0) t0)) := rfl
  have q1 : soundA.sl.r_1 c arg3 f0 = (rowsOf 32#32 64#32 (View.ld (arg3.view.read (Elt F) f0) t0)) := rfl
  have q2 : soundA.sl.r_2 c arg3 f0 = (rowsOf 64#32 96#32 (View.ld (arg3.view.read (Elt F) f0) t0)) := rfl
  have q3 : soundA.sl.r_4 c arg3 f0 = (rowsOf 96#32 128#32 (View.ld (arg3.view.read (Elt F) f0) t0)) := rfl
  have q4 : soundA.sl.r_5 c arg3 f0 = (rowsOf 0#32 32#32 (View.ld (arg3.view.read (Elt F) f0) t1)) := rfl
  have q5 : soundA.sl.r_6 c arg3 f0 = (rowsOf 32#32 64#32 (View.ld (arg3.view.read (Elt F) f0) t1)) := rfl
  have q6 : soundA.sl.r_8 c arg3 f0 = (rowsOf 64#32 96#32 (View.ld (arg3.view.read (Elt F) f0) t1)) := rfl
  have q7 : soundA.sl.r_9 c arg3 f0 = (rowsOf 96#32 128#32 (View.ld (arg3.view.read (Elt F) f0) t1)) := rfl
  have h0 : soundA.sl.r_42 c i arg3 arg4 hc f0 f1 = (headA00 i (arg4.view.read (Elt F) f1) (arg5.view.read (Elt F) f2) (rowsOf 0#32 32#32 (View.ld (arg3.view.read (Elt F) f0) t0)) hc).1 := rfl
  have h1 : soundA.sl.r_93 c i arg3 arg4 arg5 hc f0 f1 f2 = (headA00 i (arg4.view.read (Elt F) f1) (arg5.view.read (Elt F) f2) (rowsOf 0#32 32#32 (View.ld (arg3.view.read (Elt F) f0) t0)) hc).2 := rfl
  have h2 : soundA.sl.r_47 c i arg3 arg4 hc f0 f1 = (headA00 i (arg4.view.read (Elt F) f1) (arg5.view.read (Elt F) f2) (rowsOf 32#32 64#32 (View.ld (arg3.view.read (Elt F) f0) t0)) hc).1 := rfl
  have h3 : soundA.sl.r_96 c i arg3 arg4 arg5 hc f0 f1 f2 = (headA00 i (arg4.view.read (Elt F) f1) (arg5.view.read (Elt F) f2) (rowsOf 32#32 64#32 (View.ld (arg3.view.read (Elt F) f0) t0)) hc).2 := rfl
  have h4 : soundA.sl.r_54 c i arg3 arg4 hc f0 f1 = (headA01 i (arg4.view.read (Elt F) f1) (arg5.view.read (Elt F) f2) (rowsOf 64#32 96#32 (View.ld (arg3.view.read (Elt F) f0) t0)) hc).1 := rfl
  have h5 : soundA.sl.r_97 c i arg3 arg4 arg5 hc f0 f1 f2 = (headA01 i (arg4.view.read (Elt F) f1) (arg5.view.read (Elt F) f2) (rowsOf 64#32 96#32 (View.ld (arg3.view.read (Elt F) f0) t0)) hc).2 := rfl
  have h6 : soundA.sl.r_59 c i arg3 arg4 hc f0 f1 = (headA01 i (arg4.view.read (Elt F) f1) (arg5.view.read (Elt F) f2) (rowsOf 96#32 128#32 (View.ld (arg3.view.read (Elt F) f0) t0)) hc).1 := rfl
  have h7 : soundA.sl.r_99 c i arg3 arg4 arg5 hc f0 f1 f2 = (headA01 i (arg4.view.read (Elt F) f1) (arg5.view.read (Elt F) f2) (rowsOf 96#32 128#32 (View.ld (arg3.view.read (Elt F) f0) t0)) hc).2 := rfl
  have h8 : soundA.sl.r_66 c i arg3 arg4 hc f0 f1 = (headA10 i (arg4.view.read (Elt F) f1) (arg5.view.read (Elt F) f2) (rowsOf 0#32 32#32 (View.ld (arg3.view.read (Elt F) f0) t1)) hc).1 := rfl
  have h9 : soundA.sl.r_101 c i arg3 arg4 arg5 hc f0 f1 f2 = (headA10 i (arg4.view.read (Elt F) f1) (arg5.view.read (Elt F) f2) (rowsOf 0#32 32#32 (View.ld (arg3.view.read (Elt F) f0) t1)) hc).2 := rfl
  have h10 : soundA.sl.r_72 c i arg3 arg4 hc f0 f1 = (headA10 i (arg4.view.read (Elt F) f1) (arg5.view.read (Elt F) f2) (rowsOf 32#32 64#32 (View.ld (arg3.view.read (Elt F) f0) t1)) hc).1 := rfl
  have h11 : soundA.sl.r_104 c i arg3 arg4 arg5 hc f0 f1 f2 = (headA10 i (arg4.view.read (Elt F) f1) (arg5.view.read (Elt F) f2) (rowsOf 32#32 64#32 (View.ld (arg3.view.read (Elt F) f0) t1)) hc).2 := rfl
  have h12 : soundA.sl.r_80 c i arg3 arg4 hc f0 f1 = (headA11 i (arg4.view.read (Elt F) f1) (arg5.view.read (Elt F) f2) (rowsOf 64#32 96#32 (View.ld (arg3.view.read (Elt F) f0) t1)) hc).1 := rfl
  have h13 : soundA.sl.r_107 c i arg3 arg4 arg5 hc f0 f1 f2 = (headA11 i (arg4.view.read (Elt F) f1) (arg5.view.read (Elt F) f2) (rowsOf 64#32 96#32 (View.ld (arg3.view.read (Elt F) f0) t1)) hc).2 := rfl
  have h14 : soundA.sl.r_86 c i arg3 arg4 hc f0 f1 = (headA11 i (arg4.view.read (Elt F) f1) (arg5.view.read (Elt F) f2) (rowsOf 96#32 128#32 (View.ld (arg3.view.read (Elt F) f0) t1)) hc).1 := rfl
  have h15 : soundA.sl.r_110 c i arg3 arg4 arg5 hc f0 f1 f2 = (headA11 i (arg4.view.read (Elt F) f1) (arg5.view.read (Elt F) f2) (rowsOf 96#32 128#32 (View.ld (arg3.view.read (Elt F) f0) t1)) hc).2 := rfl
  have T : st_k0_t1 Variants.none c none i arg3 harg3 arg4 harg4 arg5 harg5 arg6 harg6 arg7 harg7 arg8 harg8 arg9 harg9 (soundA.sl.r c arg3 f0) (soundA.sl.r_1 c arg3 f0) (soundA.sl.r_2 c arg3 f0) (soundA.sl.r_4 c arg3 f0) (soundA.sl.r_5 c arg3 f0) (soundA.sl.r_6 c arg3 f0) (soundA.sl.r_8 c arg3 f0) (soundA.sl.r_9 c arg3 f0) (soundA.sl.v96 i) (soundA.sl.r_42 c i arg3 arg4 hc f0 f1) (soundA.sl.r_93 c i arg3 arg4 arg5 hc f0 f1 f2) (soundA.sl.r_47 c i arg3 arg4 hc f0 f1) (soundA.sl.r_96 c i arg3 arg4 arg5 hc f0 f1 f2) (soundA.sl.r_54 c i arg3 arg4 hc f0 f1) (soundA.sl.r_97 c i arg3 arg4 arg5 hc f0 f1 f2) (soundA.sl.r_59 c i arg3 arg4 hc f0 f1) (soundA.sl.r_99 c i arg3 arg4 arg5 hc f0 f1 f2) (soundA.sl.r_66 c i arg3 arg4 hc f0 f1) (soundA.sl.r_101 c i arg3 arg4 arg5 hc f0 f1 f2) (soundA.sl.r_72 c i arg3 arg4 hc f0 f1) (soundA.sl.r_104 c i arg3 arg4 arg5 hc f0 f1 f2) (soundA.sl.r_80 c i arg3 arg4 hc f0 f1) (soundA.sl.r_107 c i arg3 arg4 arg5 hc f0 f1 f2) (soundA.sl.r_86 c i arg3 arg4 hc f0 f1) (soundA.sl.r_110 c i arg3 arg4 arg5 hc f0 f1 f2) (soundA.sl.v135 i) 4#32 (soundA.sl.v136 i) (soundA.sl.v138 i) f1 f2 ((soundA.sl.r_42 c i arg3 arg4 hc f0 f1), (soundA.sl.r_93 c i arg3 arg4 arg5 hc f0 f1 f2), (soundA.sl.r_47 c i arg3 arg4 hc f0 f1), (soundA.sl.r_96 c i arg3 arg4 arg5 hc f0 f1 f2), (soundA.sl.r_54 c i arg3 arg4 hc f0 f1), (soundA.sl.r_97 c i arg3 arg4 arg5 hc f0 f1 f2), (soundA.sl.r_59 c i arg3 arg4 hc f0 f1), (soundA.sl.r_99 c i arg3 arg4 arg5 hc f0 f1 f2), (soundA.sl.r_66 c i arg3 arg4 hc f0 f1), (soundA.sl.r_101 c i arg3 arg4 arg5 hc f0 f1 f2), (soundA.sl.r_72 c i arg3 arg4 hc f0 f1), (soundA.sl.r_104 c i arg3 arg4 arg5 hc f0 f1 f2), (soundA.sl.r_80 c i arg3 arg4 hc f0 f1), (soundA.sl.r_107 c i arg3 arg4 arg5 hc f0 f1 f2), (soundA.sl.r_86 c i arg3 arg4 hc f0 f1), (soundA.sl.r_110 c i arg3 arg4 arg5 hc f0 f1 f2)) (k0_t1_loop i).trips
      = ((run0 i (arg4.view.read (Elt F) f1) (arg5.view.read (Elt F) f2) (rowsOf 0#32 32#32 (View.ld (arg3.view.read (Elt F) f0) t0)) (headA00 i (arg4.view.read (Elt F) f1) (arg5.view.read (Elt F) f2) (rowsOf 0#32 32#32 (View.ld (arg3.view.read (Elt F) f0) t0)) hc) (k0_t1_loop i).trips).1, (run0 i (arg4.view.read (Elt F) f1) (arg5.view.read (Elt F) f2) (rowsOf 0#32 32#32 (View.ld (arg3.view.read (Elt F) f0) t0)) (headA00 i (arg4.view.read (Elt F) f1) (arg5.view.read (Elt F) f2) (rowsOf 0#32 32#32 (View.ld (arg3.view.read (Elt F) f0) t0)) hc) (k0_t1_loop i).trips).2, (run0 i (arg4.view.read (Elt F) f1) (arg5.view.read (Elt F) f2) (rowsOf 32#32 64#32 (View.ld (arg3.view.read (Elt F) f0) t0)) (headA00 i (arg4.view.read (Elt F) f1) (arg5.view.read (Elt F) f2) (rowsOf 32#32 64#32 (View.ld (arg3.view.read (Elt F) f0) t0)) hc) (k0_t1_loop i).trips).1, (run0 i (arg4.view.read (Elt F) f1) (arg5.view.read (Elt F) f2) (rowsOf 32#32 64#32 (View.ld (arg3.view.read (Elt F) f0) t0)) (headA00 i (arg4.view.read (Elt F) f1) (arg5.view.read (Elt F) f2) (rowsOf 32#32 64#32 (View.ld (arg3.view.read (Elt F) f0) t0)) hc) (k0_t1_loop i).trips).2, (run1 i (arg4.view.read (Elt F) f1) (arg5.view.read (Elt F) f2) (rowsOf 64#32 96#32 (View.ld (arg3.view.read (Elt F) f0) t0)) (headA01 i (arg4.view.read (Elt F) f1) (arg5.view.read (Elt F) f2) (rowsOf 64#32 96#32 (View.ld (arg3.view.read (Elt F) f0) t0)) hc) (k0_t1_loop i).trips).1, (run1 i (arg4.view.read (Elt F) f1) (arg5.view.read (Elt F) f2) (rowsOf 64#32 96#32 (View.ld (arg3.view.read (Elt F) f0) t0)) (headA01 i (arg4.view.read (Elt F) f1) (arg5.view.read (Elt F) f2) (rowsOf 64#32 96#32 (View.ld (arg3.view.read (Elt F) f0) t0)) hc) (k0_t1_loop i).trips).2, (run1 i (arg4.view.read (Elt F) f1) (arg5.view.read (Elt F) f2) (rowsOf 96#32 128#32 (View.ld (arg3.view.read (Elt F) f0) t0)) (headA01 i (arg4.view.read (Elt F) f1) (arg5.view.read (Elt F) f2) (rowsOf 96#32 128#32 (View.ld (arg3.view.read (Elt F) f0) t0)) hc) (k0_t1_loop i).trips).1, (run1 i (arg4.view.read (Elt F) f1) (arg5.view.read (Elt F) f2) (rowsOf 96#32 128#32 (View.ld (arg3.view.read (Elt F) f0) t0)) (headA01 i (arg4.view.read (Elt F) f1) (arg5.view.read (Elt F) f2) (rowsOf 96#32 128#32 (View.ld (arg3.view.read (Elt F) f0) t0)) hc) (k0_t1_loop i).trips).2, (run0 i (arg4.view.read (Elt F) f1) (arg5.view.read (Elt F) f2) (rowsOf 0#32 32#32 (View.ld (arg3.view.read (Elt F) f0) t1)) (headA10 i (arg4.view.read (Elt F) f1) (arg5.view.read (Elt F) f2) (rowsOf 0#32 32#32 (View.ld (arg3.view.read (Elt F) f0) t1)) hc) (k0_t1_loop i).trips).1, (run0 i (arg4.view.read (Elt F) f1) (arg5.view.read (Elt F) f2) (rowsOf 0#32 32#32 (View.ld (arg3.view.read (Elt F) f0) t1)) (headA10 i (arg4.view.read (Elt F) f1) (arg5.view.read (Elt F) f2) (rowsOf 0#32 32#32 (View.ld (arg3.view.read (Elt F) f0) t1)) hc) (k0_t1_loop i).trips).2, (run0 i (arg4.view.read (Elt F) f1) (arg5.view.read (Elt F) f2) (rowsOf 32#32 64#32 (View.ld (arg3.view.read (Elt F) f0) t1)) (headA10 i (arg4.view.read (Elt F) f1) (arg5.view.read (Elt F) f2) (rowsOf 32#32 64#32 (View.ld (arg3.view.read (Elt F) f0) t1)) hc) (k0_t1_loop i).trips).1, (run0 i (arg4.view.read (Elt F) f1) (arg5.view.read (Elt F) f2) (rowsOf 32#32 64#32 (View.ld (arg3.view.read (Elt F) f0) t1)) (headA10 i (arg4.view.read (Elt F) f1) (arg5.view.read (Elt F) f2) (rowsOf 32#32 64#32 (View.ld (arg3.view.read (Elt F) f0) t1)) hc) (k0_t1_loop i).trips).2, (run1 i (arg4.view.read (Elt F) f1) (arg5.view.read (Elt F) f2) (rowsOf 64#32 96#32 (View.ld (arg3.view.read (Elt F) f0) t1)) (headA11 i (arg4.view.read (Elt F) f1) (arg5.view.read (Elt F) f2) (rowsOf 64#32 96#32 (View.ld (arg3.view.read (Elt F) f0) t1)) hc) (k0_t1_loop i).trips).1, (run1 i (arg4.view.read (Elt F) f1) (arg5.view.read (Elt F) f2) (rowsOf 64#32 96#32 (View.ld (arg3.view.read (Elt F) f0) t1)) (headA11 i (arg4.view.read (Elt F) f1) (arg5.view.read (Elt F) f2) (rowsOf 64#32 96#32 (View.ld (arg3.view.read (Elt F) f0) t1)) hc) (k0_t1_loop i).trips).2, (run1 i (arg4.view.read (Elt F) f1) (arg5.view.read (Elt F) f2) (rowsOf 96#32 128#32 (View.ld (arg3.view.read (Elt F) f0) t1)) (headA11 i (arg4.view.read (Elt F) f1) (arg5.view.read (Elt F) f2) (rowsOf 96#32 128#32 (View.ld (arg3.view.read (Elt F) f0) t1)) hc) (k0_t1_loop i).trips).1, (run1 i (arg4.view.read (Elt F) f1) (arg5.view.read (Elt F) f2) (rowsOf 96#32 128#32 (View.ld (arg3.view.read (Elt F) f0) t1)) (headA11 i (arg4.view.read (Elt F) f1) (arg5.view.read (Elt F) f2) (rowsOf 96#32 128#32 (View.ld (arg3.view.read (Elt F) f0) t1)) hc) (k0_t1_loop i).trips).2) := by
    rw [q0, q1, q2, q3, q4, q5, q6, q7, h0, h1, h2, h3, h4, h5, h6, h7, h8, h9, h10, h11, h12, h13, h14, h15]
    exact st_eq _ _ _ _ _ _ _ _ _ _ _ _ _ _ _ _ _ _ _ _ _ _ _ _ _ _ _ _ _ _ _ _ _ _ _ _ _ _ _ _ _ _ _ _ _ _ _ _ _ _ _ _ _ _ _ _ _ _ le_rfl
  have e111 : soundA.sl.r_111 c i arg3 harg3 arg4 harg4 arg5 harg5 arg6 harg6 arg7 harg7 arg8 harg8 arg9 harg9 hc f0 f1 f2 = fin01 i (arg4.view.read (Elt F) f1) (arg5.view.read (Elt F) f2) (rowsOf 64#32 96#32 (View.ld (arg3.view.read (Elt F) f0) t0)) := by
    delta soundA.sl.r_111
    beta_reduce
    rw [T]
    refine (congrArg Prod.fst (congrArg Prod.snd (congrArg Prod.snd (congrArg Prod.snd (congrArg Prod.snd (congrArg Prod.snd (st2_eq ..))))))).trans ?_
    simp only [fin01, head01, hc, ↓reduceDIte, not_false_eq_true]
  have e112 : soundA.sl.r_112 c i arg3 harg3 arg4 harg4 arg5 harg5 arg6 harg6 arg7 harg7 arg8 harg8 arg9 harg9 hc f0 f1 f2 = fin01 i (arg4.view.read (Elt F) f1) (arg5.view.read (Elt F) f2) (rowsOf 96#32 128#32 (View.ld (arg3.view.read (Elt F) f0) t0)) := by
    delta soundA.sl.r_112
    beta_reduce
    rw [T]
    refine (congrArg Prod.fst (congrArg Prod.snd (congrArg Prod.snd (congrArg Prod.snd (congrArg Prod.snd (congrArg Prod.snd (congrArg Prod.snd (congrArg Prod.snd (st2_eq ..))))))))).trans ?_
    simp only [fin01, head01, hc, ↓reduceDIte, not_false_eq_true]
  have e113 : soundA.sl.r_113 c i arg3 harg3 arg4 harg4 arg5 harg5 arg6 harg6 arg7 harg7 arg8 harg8 arg9 harg9 hc f0 f1 f2 = fin10 i (arg4.view.read (Elt F) f1) (arg5.view.read (Elt F) f2) (rowsOf 0#32 32#32 (View.ld (arg3.view.read (Elt F) f0) t1)) := by
    delta soundA.sl.r_113
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (st2_eq ..))))))))))).trans ?_
    simp only [fin10, head10, hc, ↓reduceDIte, not_false_eq_true]
  have e114 : soundA.sl.r_114 c i arg3 harg3 arg4 harg4 arg5 harg5 arg6 harg6 arg7 harg7 arg8 harg8 arg9 harg9 hc f0 f1 f2 = fin10 i (arg4.view.read (Elt F) f1) (arg5.view.read (Elt F) f2) (rowsOf 32#32 64#32 (View.ld (arg3.view.read (Elt F) f0) t1)) := by
    delta soundA.sl.r_114
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..))))))))))))).trans ?_
    simp only [fin10, head10, hc, ↓reduceDIte, not_false_eq_true]
  have e115 : soundA.sl.r_115 c i arg3 harg3 arg4 harg4 arg5 harg5 arg6 harg6 arg7 harg7 arg8 harg8 arg9 harg9 hc f0 f1 f2 = fin11 i (arg4.view.read (Elt F) f1) (arg5.view.read (Elt F) f2) (rowsOf 64#32 96#32 (View.ld (arg3.view.read (Elt F) f0) t1)) := by
    delta soundA.sl.r_115
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..))))))))))))))).trans ?_
    simp only [fin11, head11, hc, ↓reduceDIte, not_false_eq_true]
  have e116 : soundA.sl.r_116 c i arg3 harg3 arg4 harg4 arg5 harg5 arg6 harg6 arg7 harg7 arg8 harg8 arg9 harg9 hc f0 f1 f2 = fin11 i (arg4.view.read (Elt F) f1) (arg5.view.read (Elt F) f2) (rowsOf 96#32 128#32 (View.ld (arg3.view.read (Elt F) f0) t1)) := by
    delta soundA.sl.r_116
    beta_reduce
    rw [T]
    refine (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..)))))))))))))))).trans ?_
    simp only [fin11, head11, hc, ↓reduceDIte, not_false_eq_true]
  have e118 : soundA.sl.r_118 c i arg3 harg3 arg4 harg4 arg5 harg5 arg6 harg6 arg7 harg7 arg8 harg8 arg9 harg9 hc f0 f1 f2 = k0_pay410 (fin00 i (arg4.view.read (Elt F) f1) (arg5.view.read (Elt F) f2) (rowsOf 0#32 32#32 (View.ld (arg3.view.read (Elt F) f0) t0))) := by
    delta soundA.sl.r_118
    beta_reduce
    rw [T]
    refine congrArg k0_pay410 ?_
    refine (congrArg Prod.fst (congrArg Prod.snd (st2_eq ..))).trans ?_
    simp only [fin00, head00, hc, ↓reduceDIte, not_false_eq_true]
  have e119 : soundA.sl.r_119 c i arg3 harg3 arg4 harg4 arg5 harg5 arg6 harg6 arg7 harg7 arg8 harg8 arg9 harg9 hc f0 f1 f2 = k0_pay411 (fin00 i (arg4.view.read (Elt F) f1) (arg5.view.read (Elt F) f2) (rowsOf 32#32 64#32 (View.ld (arg3.view.read (Elt F) f0) t0))) := by
    delta soundA.sl.r_119
    beta_reduce
    rw [T]
    refine congrArg k0_pay411 ?_
    refine (congrArg Prod.fst (congrArg Prod.snd (congrArg Prod.snd (congrArg Prod.snd (st2_eq ..))))).trans ?_
    simp only [fin00, head00, hc, ↓reduceDIte, not_false_eq_true]
  delta soundA.sl.r_122 soundA.sl.r_121 soundA.sl.r_120 soundA.sl.r_117
  beta_reduce
  rw [e111, e112, e113, e114, e115, e116, e118, e119]
  rfl

end Cert.KernelIdeal.Da

end
-- ==== Proof.BodyB.lean ====
/- The body of the attention at one grid point whose row of queries is even: from the blocks it reads it leaves `out` of them. -/
module

public import proofs.«01_k».proof.Proof.Loop
public import proofs.«01_k».proof.Proof.Offsets

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging memrefs, the inputs' at read contents and the output's at anything, none left over. -/
theorem soundB (c : Dev nD) (E : Set ℕ) (i : grid0.Coords) (arg3 : Memref sig .tc .vmem S1x2x128x256 .bf16) (harg3 : arg3.IsWhole) (arg4 : Memref sig .tc .vmem S1x4096x128 .bf16) (harg4 : arg4.IsWhole) (arg5 : Memref sig .tc .vmem S1x16x128x256 .bf16) (harg5 : arg5.IsWhole) (arg6 : Memref sig .tc .vmem S1x2x128x256 .bf16) (harg6 : arg6.IsWhole) (arg7 : Memref sig .tc .vmem S4x32 .f32) (harg7 : arg7.IsWhole) (arg8 : Memref sig .tc .vmem S64x1 .f32) (harg8 : arg8.IsWhole) (arg9 : Memref sig .tc .vmem S1x2x128x256 .bf16) (harg9 : arg9.IsWhole)
    (x0 : Vec F S1x2x128x256 .bf16) (x1 : Vec F S1x4096x128 .bf16) (x2 : Vec F S1x16x128x256 .bf16) (x3 : Vec F S1x2x128x256 .bf16) (x4 : Vec F S4x32 .f32) (x5 : Vec F S64x1 .f32) (K : PUnit → sProp 𝕄)
    (hc : ¬k0_cond1 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out i x0 x1 x2 x3 x4 x5)) -∗ K ⟨⟩))
      ⊢ wp frame (wpE (defs₀ (F := F)) Variants.none c none) E (cc0_da_attn i arg3 harg3 arg4 harg4 arg5 harg5 arg6 harg6 arg7 harg7 arg8 harg8 arg9 harg9) K := by
  simp only [cc0_da_attn_eq_skeleton]; unfold cc0_da_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _ _)).trans ?_
  have q0 : soundB.sl.r c arg3 f0 = (rowsOf 0#32 32#32 (View.ld (arg3.view.read (Elt F) f0) t0)) := rfl
  have q1 : soundB.sl.r_1 c arg3 f0 = (rowsOf 32#32 64#32 (View.ld (arg3.view.read (Elt F) f0) t0)) := rfl
  have q2 : soundB.sl.r_2 c arg3 f0 = (rowsOf 64#32 96#32 (View.ld (arg3.view.read (Elt F) f0) t0)) := rfl
  have q3 : soundB.sl.r_4 c arg3 f0 = (rowsOf 96#32 128#32 (View.ld (arg3.view.read (Elt F) f0) t0)) := rfl
  have q4 : soundB.sl.r_5 c arg3 f0 = (rowsOf 0#32 32#32 (View.ld (arg3.view.read (Elt F) f0) t1)) := rfl
  have q5 : soundB.sl.r_6 c arg3 f0 = (rowsOf 32#32 64#32 (View.ld (arg3.view.read (Elt F) f0) t1)) := rfl
  have q6 : soundB.sl.r_8 c arg3 f0 = (rowsOf 64#32 96#32 (View.ld (arg3.view.read (Elt F) f0) t1)) := rfl
  have q7 : soundB.sl.r_9 c arg3 f0 = (rowsOf 96#32 128#32 (View.ld (arg3.view.read (Elt F) f0) t1)) := rfl
  have h0 : soundB.sl.r_24 c i arg3 arg4 hc f0 f1 = (headB00 i (arg4.view.read (Elt F) f1) (arg5.view.read (Elt F) f2) (rowsOf 0#32 32#32 (View.ld (arg3.view.read (Elt F) f0) t0)) hc).1 := rfl
  have h1 : soundB.sl.r_55 c i arg3 arg4 arg5 hc f0 f1 f2 = (headB00 i (arg4.view.read (Elt F) f1) (arg5.view.read (Elt F) f2) (rowsOf 0#32 32#32 (View.ld (arg3.view.read (Elt F) f0) t0)) hc).2 := rfl
  have h2 : soundB.sl.r_27 c i arg3 arg4 hc f0 f1 = (headB00 i (arg4.view.read (Elt F) f1) (arg5.view.read (Elt F) f2) (rowsOf 32#32 64#32 (View.ld (arg3.view.read (Elt F) f0) t0)) hc).1 := rfl
  have h3 : soundB.sl.r_56 c i arg3 arg4 arg5 hc f0 f1 f2 = (headB00 i (arg4.view.read (Elt F) f1) (arg5.view.read (Elt F) f2) (rowsOf 32#32 64#32 (View.ld (arg3.view.read (Elt F) f0) t0)) hc).2 := rfl
  have h4 : soundB.sl.r_30 c i arg3 arg4 hc f0 f1 = (headB01 i (arg4.view.read (Elt F) f1) (arg5.view.read (Elt F) f2) (rowsOf 64#32 96#32 (View.ld (arg3.view.read (Elt F) f0) t0)) hc).1 := rfl
  have h5 : soundB.sl.r_57 c i arg3 arg4 arg5 hc f0 f1 f2 = (headB01 i (arg4.view.read (Elt F) f1) (arg5.view.read (Elt F) f2) (rowsOf 64#32 96#32 (View.ld (arg3.view.read (Elt F) f0) t0)) hc).2 := rfl
  have h6 : soundB.sl.r_33 c i arg3 arg4 hc f0 f1 = (headB01 i (arg4.view.read (Elt F) f1) (arg5.view.read (Elt F) f2) (rowsOf 96#32 128#32 (View.ld (arg3.view.read (Elt F) f0) t0)) hc).1 := rfl
  have h7 : soundB.sl.r_60 c i arg3 arg4 arg5 hc f0 f1 f2 = (headB01 i (arg4.view.read (Elt F) f1) (arg5.view.read (Elt F) f2) (rowsOf 96#32 128#32 (View.ld (arg3.view.read (Elt F) f0) t0)) hc).2 := rfl
  have h8 : soundB.sl.r_38 c i arg3 arg4 hc f0 f1 = (headB10 i (arg4.view.read (Elt F) f1) (arg5.view.read (Elt F) f2) (rowsOf 0#32 32#32 (View.ld (arg3.view.read (Elt F) f0) t1)) hc).1 := rfl
  have h9 : soundB.sl.r_61 c i arg3 arg4 arg5 hc f0 f1 f2 = (headB10 i (arg4.view.read (Elt F) f1) (arg5.view.read (Elt F) f2) (rowsOf 0#32 32#32 (View.ld (arg3.view.read (Elt F) f0) t1)) hc).2 := rfl
  have h10 : soundB.sl.r_42 c i arg3 arg4 hc f0 f1 = (headB10 i (arg4.view.read (Elt F) f1) (arg5.view.read (Elt F) f2) (rowsOf 32#32 64#32 (View.ld (arg3.view.read (Elt F) f0) t1)) hc).1 := rfl
  have h11 : soundB.sl.r_62 c i arg3 arg4 arg5 hc f0 f1 f2 = (headB10 i (arg4.view.read (Elt F) f1) (arg5.view.read (Elt F) f2) (rowsOf 32#32 64#32 (View.ld (arg3.view.read (Elt F) f0) t1)) hc).2 := rfl
  have h12 : soundB.sl.r_46 c i arg3 arg4 hc f0 f1 = (headB11 i (arg4.view.read (Elt F) f1) (arg5.view.read (Elt F) f2) (rowsOf 64#32 96#32 (View.ld (arg3.view.read (Elt F) f0) t1)) hc).1 := rfl
  have h13 : soundB.sl.r_65 c i arg3 arg4 arg5 hc f0 f1 f2 = (headB11 i (arg4.view.read (Elt F) f1) (arg5.view.read (Elt F) f2) (rowsOf 64#32 96#32 (View.ld (arg3.view.read (Elt F) f0) t1)) hc).2 := rfl
  have h14 : soundB.sl.r_50 c i arg3 arg4 hc f0 f1 = (headB11 i (arg4.view.read (Elt F) f1) (arg5.view.read (Elt F) f2) (rowsOf 96#32 128#32 (View.ld (arg3.view.read (Elt F) f0) t1)) hc).1 := rfl
  have h15 : soundB.sl.r_66 c i arg3 arg4 arg5 hc f0 f1 f2 = (headB11 i (arg4.view.read (Elt F) f1) (arg5.view.read (Elt F) f2) (rowsOf 96#32 128#32 (View.ld (arg3.view.read (Elt F) f0) t1)) hc).2 := rfl
  have T : st_k0_t1 Variants.none c none i arg3 harg3 arg4 harg4 arg5 harg5 arg6 harg6 arg7 harg7 arg8 harg8 arg9 harg9 (soundB.sl.r c arg3 f0) (soundB.sl.r_1 c arg3 f0) (soundB.sl.r_2 c arg3 f0) (soundB.sl.r_4 c arg3 f0) (soundB.sl.r_5 c arg3 f0) (soundB.sl.r_6 c arg3 f0) (soundB.sl.r_8 c arg3 f0) (soundB.sl.r_9 c arg3 f0) (soundB.sl.v96 i) (soundB.sl.r_24 c i arg3 arg4 hc f0 f1) (soundB.sl.r_55 c i arg3 arg4 arg5 hc f0 f1 f2) (soundB.sl.r_27 c i arg3 arg4 hc f0 f1) (soundB.sl.r_56 c i arg3 arg4 arg5 hc f0 f1 f2) (soundB.sl.r_30 c i arg3 arg4 hc f0 f1) (soundB.sl.r_57 c i arg3 arg4 arg5 hc f0 f1 f2) (soundB.sl.r_33 c i arg3 arg4 hc f0 f1) (soundB.sl.r_60 c i arg3 arg4 arg5 hc f0 f1 f2) (soundB.sl.r_38 c i arg3 arg4 hc f0 f1) (soundB.sl.r_61 c i arg3 arg4 arg5 hc f0 f1 f2) (soundB.sl.r_42 c i arg3 arg4 hc f0 f1) (soundB.sl.r_62 c i arg3 arg4 arg5 hc f0 f1 f2) (soundB.sl.r_46 c i arg3 arg4 hc f0 f1) (soundB.sl.r_65 c i arg3 arg4 arg5 hc f0 f1 f2) (soundB.sl.r_50 c i arg3 arg4 hc f0 f1) (soundB.sl.r_66 c i arg3 arg4 arg5 hc f0 f1 f2) (soundB.sl.v135 i) 4#32 (soundB.sl.v136 i) (soundB.sl.v138 i) f1 f2 ((soundB.sl.r_24 c i arg3 arg4 hc f0 f1), (soundB.sl.r_55 c i arg3 arg4 arg5 hc f0 f1 f2), (soundB.sl.r_27 c i arg3 arg4 hc f0 f1), (soundB.sl.r_56 c i arg3 arg4 arg5 hc f0 f1 f2), (soundB.sl.r_30 c i arg3 arg4 hc f0 f1), (soundB.sl.r_57 c i arg3 arg4 arg5 hc f0 f1 f2), (soundB.sl.r_33 c i arg3 arg4 hc f0 f1), (soundB.sl.r_60 c i arg3 arg4 arg5 hc f0 f1 f2), (soundB.sl.r_38 c i arg3 arg4 hc f0 f1), (soundB.sl.r_61 c i arg3 arg4 arg5 hc f0 f1 f2), (soundB.sl.r_42 c i arg3 arg4 hc f0 f1), (soundB.sl.r_62 c i arg3 arg4 arg5 hc f0 f1 f2), (soundB.sl.r_46 c i arg3 arg4 hc f0 f1), (soundB.sl.r_65 c i arg3 arg4 arg5 hc f0 f1 f2), (soundB.sl.r_50 c i arg3 arg4 hc f0 f1), (soundB.sl.r_66 c i arg3 arg4 arg5 hc f0 f1 f2)) (k0_t1_loop i).trips
      = ((run0 i (arg4.view.read (Elt F) f1) (arg5.view.read (Elt F) f2) (rowsOf 0#32 32#32 (View.ld (arg3.view.read (Elt F) f0) t0)) (headB00 i (arg4.view.read (Elt F) f1) (arg5.view.read (Elt F) f2) (rowsOf 0#32 32#32 (View.ld (arg3.view.read (Elt F) f0) t0)) hc) (k0_t1_loop i).trips).1, (run0 i (arg4.view.read (Elt F) f1) (arg5.view.read (Elt F) f2) (rowsOf 0#32 32#32 (View.ld (arg3.view.read (Elt F) f0) t0)) (headB00 i (arg4.view.read (Elt F) f1) (arg5.view.read (Elt F) f2) (rowsOf 0#32 32#32 (View.ld (arg3.view.read (Elt F) f0) t0)) hc) (k0_t1_loop i).trips).2, (run0 i (arg4.view.read (Elt F) f1) (arg5.view.read (Elt F) f2) (rowsOf 32#32 64#32 (View.ld (arg3.view.read (Elt F) f0) t0)) (headB00 i (arg4.view.read (Elt F) f1) (arg5.view.read (Elt F) f2) (rowsOf 32#32 64#32 (View.ld (arg3.view.read (Elt F) f0) t0)) hc) (k0_t1_loop i).trips).1, (run0 i (arg4.view.read (Elt F) f1) (arg5.view.read (Elt F) f2) (rowsOf 32#32 64#32 (View.ld (arg3.view.read (Elt F) f0) t0)) (headB00 i (arg4.view.read (Elt F) f1) (arg5.view.read (Elt F) f2) (rowsOf 32#32 64#32 (View.ld (arg3.view.read (Elt F) f0) t0)) hc) (k0_t1_loop i).trips).2, (run1 i (arg4.view.read (Elt F) f1) (arg5.view.read (Elt F) f2) (rowsOf 64#32 96#32 (View.ld (arg3.view.read (Elt F) f0) t0)) (headB01 i (arg4.view.read (Elt F) f1) (arg5.view.read (Elt F) f2) (rowsOf 64#32 96#32 (View.ld (arg3.view.read (Elt F) f0) t0)) hc) (k0_t1_loop i).trips).1, (run1 i (arg4.view.read (Elt F) f1) (arg5.view.read (Elt F) f2) (rowsOf 64#32 96#32 (View.ld (arg3.view.read (Elt F) f0) t0)) (headB01 i (arg4.view.read (Elt F) f1) (arg5.view.read (Elt F) f2) (rowsOf 64#32 96#32 (View.ld (arg3.view.read (Elt F) f0) t0)) hc) (k0_t1_loop i).trips).2, (run1 i (arg4.view.read (Elt F) f1) (arg5.view.read (Elt F) f2) (rowsOf 96#32 128#32 (View.ld (arg3.view.read (Elt F) f0) t0)) (headB01 i (arg4.view.read (Elt F) f1) (arg5.view.read (Elt F) f2) (rowsOf 96#32 128#32 (View.ld (arg3.view.read (Elt F) f0) t0)) hc) (k0_t1_loop i).trips).1, (run1 i (arg4.view.read (Elt F) f1) (arg5.view.read (Elt F) f2) (rowsOf 96#32 128#32 (View.ld (arg3.view.read (Elt F) f0) t0)) (headB01 i (arg4.view.read (Elt F) f1) (arg5.view.read (Elt F) f2) (rowsOf 96#32 128#32 (View.ld (arg3.view.read (Elt F) f0) t0)) hc) (k0_t1_loop i).trips).2, (run0 i (arg4.view.read (Elt F) f1) (arg5.view.read (Elt F) f2) (rowsOf 0#32 32#32 (View.ld (arg3.view.read (Elt F) f0) t1)) (headB10 i (arg4.view.read (Elt F) f1) (arg5.view.read (Elt F) f2) (rowsOf 0#32 32#32 (View.ld (arg3.view.read (Elt F) f0) t1)) hc) (k0_t1_loop i).trips).1, (run0 i (arg4.view.read (Elt F) f1) (arg5.view.read (Elt F) f2) (rowsOf 0#32 32#32 (View.ld (arg3.view.read (Elt F) f0) t1)) (headB10 i (arg4.view.read (Elt F) f1) (arg5.view.read (Elt F) f2) (rowsOf 0#32 32#32 (View.ld (arg3.view.read (Elt F) f0) t1)) hc) (k0_t1_loop i).trips).2, (run0 i (arg4.view.read (Elt F) f1) (arg5.view.read (Elt F) f2) (rowsOf 32#32 64#32 (View.ld (arg3.view.read (Elt F) f0) t1)) (headB10 i (arg4.view.read (Elt F) f1) (arg5.view.read (Elt F) f2) (rowsOf 32#32 64#32 (View.ld (arg3.view.read (Elt F) f0) t1)) hc) (k0_t1_loop i).trips).1, (run0 i (arg4.view.read (Elt F) f1) (arg5.view.read (Elt F) f2) (rowsOf 32#32 64#32 (View.ld (arg3.view.read (Elt F) f0) t1)) (headB10 i (arg4.view.read (Elt F) f1) (arg5.view.read (Elt F) f2) (rowsOf 32#32 64#32 (View.ld (arg3.view.read (Elt F) f0) t1)) hc) (k0_t1_loop i).trips).2, (run1 i (arg4.view.read (Elt F) f1) (arg5.view.read (Elt F) f2) (rowsOf 64#32 96#32 (View.ld (arg3.view.read (Elt F) f0) t1)) (headB11 i (arg4.view.read (Elt F) f1) (arg5.view.read (Elt F) f2) (rowsOf 64#32 96#32 (View.ld (arg3.view.read (Elt F) f0) t1)) hc) (k0_t1_loop i).trips).1, (run1 i (arg4.view.read (Elt F) f1) (arg5.view.read (Elt F) f2) (rowsOf 64#32 96#32 (View.ld (arg3.view.read (Elt F) f0) t1)) (headB11 i (arg4.view.read (Elt F) f1) (arg5.view.read (Elt F) f2) (rowsOf 64#32 96#32 (View.ld (arg3.view.read (Elt F) f0) t1)) hc) (k0_t1_loop i).trips).2, (run1 i (arg4.view.read (Elt F) f1) (arg5.view.read (Elt F) f2) (rowsOf 96#32 128#32 (View.ld (arg3.view.read (Elt F) f0) t1)) (headB11 i (arg4.view.read (Elt F) f1) (arg5.view.read (Elt F) f2) (rowsOf 96#32 128#32 (View.ld (arg3.view.read (Elt F) f0) t1)) hc) (k0_t1_loop i).trips).1, (run1 i (arg4.view.read (Elt F) f1) (arg5.view.read (Elt F) f2) (rowsOf 96#32 128#32 (View.ld (arg3.view.read (Elt F) f0) t1)) (headB11 i (arg4.view.read (Elt F) f1) (arg5.view.read (Elt F) f2) (rowsOf 96#32 128#32 (View.ld (arg3.view.read (Elt F) f0) t1)) hc) (k0_t1_loop i).trips).2) := by
    rw [q0, q1, q2, q3, q4, q5, q6, q7, h0, h1, h2, h3, h4, h5, h6, h7, h8, h9, h10, h11, h12, h13, h14, h15]
    exact st_eq _ _ _ _ _ _ _ _ _ _ _ _ _ _ _ _ _ _ _ _ _ _ _ _ _ _ _ _ _ _ _ _ _ _ _ _ _ _ _ _ _ _ _ _ _ _ _ _ _ _ _ _ _ _ _ _ _ _ le_rfl
  have e67 : soundB.sl.r_67 c i arg3 harg3 arg4 harg4 arg5 harg5 arg6 harg6 arg7 harg7 arg8 harg8 arg9 harg9 hc f0 f1 f2 = fin01 i (arg4.view.read (Elt F) f1) (arg5.view.read (Elt F) f2) (rowsOf 64#32 96#32 (View.ld (arg3.view.read (Elt F) f0) t0)) := by
    delta soundB.sl.r_67
    beta_reduce
    rw [T]
    refine (congrArg Prod.fst (congrArg Prod.snd (congrArg Prod.snd (congrArg Prod.snd (congrArg Prod.snd (congrArg Prod.snd (st2_eq ..))))))).trans ?_
    simp only [fin01, head01, hc, ↓reduceDIte, not_false_eq_true]
  have e68 : soundB.sl.r_68 c i arg3 harg3 arg4 harg4 arg5 harg5 arg6 harg6 arg7 harg7 arg8 harg8 arg9 harg9 hc f0 f1 f2 = fin01 i (arg4.view.read (Elt F) f1) (arg5.view.read (Elt F) f2) (rowsOf 96#32 128#32 (View.ld (arg3.view.read (Elt F) f0) t0)) := by
    delta soundB.sl.r_68
    beta_reduce
    rw [T]
    refine (congrArg Prod.fst (congrArg Prod.snd (congrArg Prod.snd (congrArg Prod.snd (congrArg Prod.snd (congrArg Prod.snd (congrArg Prod.snd (congrArg Prod.snd (st2_eq ..))))))))).trans ?_
    simp only [fin01, head01, hc, ↓reduceDIte, not_false_eq_true]
  have e69 : soundB.sl.r_69 c i arg3 harg3 arg4 harg4 arg5 harg5 arg6 harg6 arg7 harg7 arg8 harg8 arg9 harg9 hc f0 f1 f2 = fin10 i (arg4.view.read (Elt F) f1) (arg5.view.read (Elt F) f2) (rowsOf 0#32 32#32 (View.ld (arg3.view.read (Elt F) f0) t1)) := by
    delta soundB.sl.r_69
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (st2_eq ..))))))))))).trans ?_
    simp only [fin10, head10, hc, ↓reduceDIte, not_false_eq_true]
  have e70 : soundB.sl.r_70 c i arg3 harg3 arg4 harg4 arg5 harg5 arg6 harg6 arg7 harg7 arg8 harg8 arg9 harg9 hc f0 f1 f2 = fin10 i (arg4.view.read (Elt F) f1) (arg5.view.read (Elt F) f2) (rowsOf 32#32 64#32 (View.ld (arg3.view.read (Elt F) f0) t1)) := by
    delta soundB.sl.r_70
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..))))))))))))).trans ?_
    simp only [fin10, head10, hc, ↓reduceDIte, not_false_eq_true]
  have e71 : soundB.sl.r_71 c i arg3 harg3 arg4 harg4 arg5 harg5 arg6 harg6 arg7 harg7 arg8 harg8 arg9 harg9 hc f0 f1 f2 = fin11 i (arg4.view.read (Elt F) f1) (arg5.view.read (Elt F) f2) (rowsOf 64#32 96#32 (View.ld (arg3.view.read (Elt F) f0) t1)) := by
    delta soundB.sl.r_71
    beta_reduce
    rw [T]
    refine (congrArg Prod.fst (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..))))))))))))))).trans ?_
    simp only [fin11, head11, hc, ↓reduceDIte, not_false_eq_true]
  have e72 : soundB.sl.r_72 c i arg3 harg3 arg4 harg4 arg5 harg5 arg6 harg6 arg7 harg7 arg8 harg8 arg9 harg9 hc f0 f1 f2 = fin11 i (arg4.view.read (Elt F) f1) (arg5.view.read (Elt F) f2) (rowsOf 96#32 128#32 (View.ld (arg3.view.read (Elt F) f0) t1)) := by
    delta soundB.sl.r_72
    beta_reduce
    rw [T]
    refine (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (congrArg Prod.snd (st2_eq ..)))))))))))))))).trans ?_
    simp only [fin11, head11, hc, ↓reduceDIte, not_false_eq_true]
  have e74 : soundB.sl.r_74 c i arg3 harg3 arg4 harg4 arg5 harg5 arg6 harg6 arg7 harg7 arg8 harg8 arg9 harg9 hc f0 f1 f2 = k0_pay410 (fin00 i (arg4.view.read (Elt F) f1) (arg5.view.read (Elt F) f2) (rowsOf 0#32 32#32 (View.ld (arg3.view.read (Elt F) f0) t0))) := by
    delta soundB.sl.r_74
    beta_reduce
    rw [T]
    refine congrArg k0_pay410 ?_
    refine (congrArg Prod.fst (congrArg Prod.snd (st2_eq ..))).trans ?_
    simp only [fin00, head00, hc, ↓reduceDIte, not_false_eq_true]
  have e75 : soundB.sl.r_75 c i arg3 harg3 arg4 harg4 arg5 harg5 arg6 harg6 arg7 harg7 arg8 harg8 arg9 harg9 hc f0 f1 f2 = k0_pay411 (fin00 i (arg4.view.read (Elt F) f1) (arg5.view.read (Elt F) f2) (rowsOf 32#32 64#32 (View.ld (arg3.view.read (Elt F) f0) t0))) := by
    delta soundB.sl.r_75
    beta_reduce
    rw [T]
    refine congrArg k0_pay411 ?_
    refine (congrArg Prod.fst (congrArg Prod.snd (congrArg Prod.snd (congrArg Prod.snd (st2_eq ..))))).trans ?_
    simp only [fin00, head00, hc, ↓reduceDIte, not_false_eq_true]
  delta soundB.sl.r_78 soundB.sl.r_77 soundB.sl.r_76 soundB.sl.r_73
  beta_reduce
  rw [e67, e68, e69, e70, e71, e72, e74, e75]
  rfl

end Cert.KernelIdeal.Da

end
-- ==== Proof.Run.lean ====
/- The run of the attention: what each array holds when the grid is done, and the frame. -/
module

public import proofs.«01_k».proof.Proof.BodyA
public import proofs.«01_k».proof.Proof.BodyB
public import Idealize.ShloMosaic.Lib.Claim

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any grid point: its row of queries is odd or even. -/
theorem sound_kernel (c : Dev nD) (E : Set ℕ) (i : grid0.Coords) (arg3 : Memref sig .tc .vmem S1x2x128x256 .bf16) (harg3 : arg3.IsWhole) (arg4 : Memref sig .tc .vmem S1x4096x128 .bf16) (harg4 : arg4.IsWhole) (arg5 : Memref sig .tc .vmem S1x16x128x256 .bf16) (harg5 : arg5.IsWhole) (arg6 : Memref sig .tc .vmem S1x2x128x256 .bf16) (harg6 : arg6.IsWhole) (arg7 : Memref sig .tc .vmem S4x32 .f32) (harg7 : arg7.IsWhole) (arg8 : Memref sig .tc .vmem S64x1 .f32) (harg8 : arg8.IsWhole) (arg9 : Memref sig .tc .vmem S1x2x128x256 .bf16) (harg9 : arg9.IsWhole)
    (x0 : Vec F S1x2x128x256 .bf16) (x1 : Vec F S1x4096x128 .bf16) (x2 : Vec F S1x16x128x256 .bf16) (x3 : Vec F S1x2x128x256 .bf16) (x4 : Vec F S4x32 .f32) (x5 : Vec F S64x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out i x0 x1 x2 x3 x4 x5)) -∗ K ⟨⟩))
      ⊢ wp frame (wpE (defs₀ (F := F)) Variants.none c none) E (cc0_da_attn i arg3 harg3 arg4 harg4 arg5 harg5 arg6 harg6 arg7 harg7 arg8 harg8 arg9 harg9) K := by
  by_cases hc : k0_cond1 i = 1#1
  · exact soundA c E i arg3 harg3 arg4 harg4 arg5 harg5 arg6 harg6 arg7 harg7 arg8 harg8 arg9 harg9 x0 x1 x2 x3 x4 x5 K hc
  · exact soundB c E i arg3 harg3 arg4 harg4 arg5 harg5 arg6 harg6 arg7 harg7 arg8 harg8 arg9 harg9 x0 x1 x2 x3 x4 x5 K hc

/-- The proof data of the one pipeline on core `c`: the arrays as the region finds them (`V`); after the body at
    point `t` each input's buffer at its block and each output's at `out` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (grid0.coords t) (iblk m c 0 t) (iblk m c 1 t) (iblk m c 2 t) (iblk m c 3 t) (iblk m c 4 t) (iblk m c 5 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out (grid0.coords t) (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Da

end
-- ==== Proof.Same.lean ====
/- The kernel's two texts, the printed and the ideal one, are one program, so one run serves both. -/
module

public import proofs.«01_k».proof.Defs
public import proofs.«01_k».proof.Proof.Gen.Kernel
public import proofs.«01_k».proof.Proof.Run

@[expose] public section

noncomputable section

namespace Cert.Same

attribute [local instance] Cert.Kernel.Gen.facts Cert.KernelIdeal.Gen.facts

open Idealize.ShloMosaic Idealize.SL.Sem
variable {F : FTy → Type} [FloatOps F]

set_option maxRecDepth 65536 in
/-- One body, -/
theorem body_same : @Cert.Kernel.cc0_da_attn F _ _ = @Cert.KernelIdeal.cc0_da_attn F _ _ := rfl

/-- one host program, -/
theorem main_same : @Cert.Kernel.main F _ _ = @Cert.KernelIdeal.main F _ _ := rfl

/-- one table of bodies -/
theorem rows_same : (@Cert.Kernel.defs₀ F _ _ : Defs Cert.KernelIdeal.nD Cert.KernelIdeal.τ Cert.KernelIdeal.sig (Elt F) Cert.KernelIdeal.Λ₀) = (@Cert.KernelIdeal.defs₀ F _ _) := by
  unfold Cert.Kernel.defs₀ Cert.KernelIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun body_same _) _) _) _) _) _) _) _) _) _) _) _) _) _) _
  | ⟨_ + 1, h⟩, _ => exact absurd h (Nat.not_lt.2 (Nat.le_add_left _ _))

/-- and one table with the pipeline. -/
theorem defs_same : (@Cert.Kernel.defs F _ _ : Defs Cert.KernelIdeal.nD Cert.KernelIdeal.τ Cert.KernelIdeal.sig (Elt F) (Pipeline.Sig Cert.KernelIdeal.Λ₀ (Fin 1) fun p => (Cert.KernelIdeal.pcfgs (F := F) p).Adm)) = (@Cert.KernelIdeal.defs F _ _) := by
  unfold Cert.Kernel.defs Cert.KernelIdeal.defs
  exact congrArg (Pipeline.defs Cert.KernelIdeal.pcfgs) rows_same

/-- The frame of the printed kernel. -/
theorem frame_Kernel : Cert.quiescent_Kernel := fun m ρ _ => by
  rw [defs_same, main_same]
  exact Cert.KernelIdeal.Da.frame (F := Bits) m ρ

end Cert.Same

end
-- ==== Proof.RefFrame.lean ====
/- The reference runs to its composed term, and leaves its arguments and counters as they were. -/
module

public import proofs.«01_k».proof.Defs
public import proofs.«01_k».proof.Proof.Gen.ReferenceIdeal
public import proofs.«01_k».proof.Proof.Gen.ReferenceIdeal.Run
public import Idealize.ShloMosaic.Lib.Claim

@[expose] public section

noncomputable section

namespace Cert.ReferenceIdeal.Da

open Idealize.ShloMosaic Idealize.SL.Sem

attribute [local instance] Cert.ReferenceIdeal.Gen.facts

/-- The reference's frame. -/
theorem frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.ReferenceIdeal.Da

end
-- ==== Proof.Layout.lean ====
/- The operands of the call as the host lines lay them out, read at an index. -/
module

public import proofs.«01_k».proof.Proof.Gen.KernelIdeal.Frame
public import Idealize.ShloMosaic.Lib.Pointwise
public import Idealize.ShloMosaic.Lib.Claim
public import Idealize.ShloMosaic.Lib.StableHlo.RunRead

@[expose] public section

set_option maxRecDepth 16384

noncomputable section

namespace Cert.KernelIdeal.Da

open Idealize.ShloMosaic Idealize.ShloMosaic.TcCoe Idealize.SL.Sem Cert.KernelIdeal Cert.KernelIdeal.Gen

/-- The scale of the queries: 1 / (√32 log 2). -/
def scale : EReal := Ideal.div (Ideal.rsqrt (Ideal.ofBits .f32 0x42000000#32)) (Ideal.log (Ideal.ofBits .f32 0x40000000#32))

/-- Token rows as the tiles of 256 columns the kernel takes. -/
def rows (a : FVec Ideal S8x4096x256 .f32) : FVec Ideal S8x16x256x256 .bf16 :=
  truncf .bf16 (transpose S8x16x256x256 [0, 1, 3, 2] (shapeCast S8x16x256x256 a shapeCasts_S8x4096x256_S8x16x256x256)
        transposes_S8x16x256x256_S8x16x256x256_0_1_3_2) bitsLt_bf16_f32

/-- The tiles of queries, values and gates below 2304 rows of zeros. -/
def qvg (q v g : FVec Ideal S8x4096x256 .f32) : Vec Ideal S8x16x3072x256 .bf16 :=
  concatenate S8x16x3072x256 2 [⟨S8x16x2304x256, (broadcastInDim S8x16x2304x256 ![] bcast_S_S8x16x2304x256 : (⟨S_, .bf16⟩ : BufTy).Contents (Elt Ideal) → _) (constant S_ .bf16 0x0000#16 : FVec Ideal S_ .bf16)⟩,
    ⟨S8x16x256x256, rows (mulf q (broadcastInDim S8x4096x256 ![] bcast_S_S8x4096x256
      (Host.divf (Host.rsqrt (constant S_ .f32 0x42000000#32)) (Host.log (constant S_ .f32 0x40000000#32)))))⟩,
    ⟨S8x16x256x256, rows v⟩, ⟨S8x16x256x256, rows g⟩]
    concatenates_S8x16x2304x256_S8x16x256x256_S8x16x256x256_S8x16x256x256_S8x16x3072x256_d2

/-- The keys beside 768 columns of zeros. -/
def kk (k : FVec Ideal S8x4096x256 .f32) : Vec Ideal S8x4096x1024 .bf16 :=
  concatenate S8x4096x1024 2 [⟨S8x4096x768, (broadcastInDim S8x4096x768 ![] bcast_S_S8x4096x768 : (⟨S_, .bf16⟩ : BufTy).Contents (Elt Ideal) → _) (constant S_ .bf16 0x0000#16 : FVec Ideal S_ .bf16)⟩,
    ⟨S8x4096x256, truncf .bf16 k bitsLt_bf16_f32⟩] concatenates_S8x4096x768_S8x4096x256_S8x4096x1024_d2

/-- The four vectors of λ, a row each. -/
def lams (a b d e : Vec Ideal S32 .f32) : Vec Ideal S4x32 .f32 :=
  concatenate S4x32 0 [⟨S1x32, broadcastInDim S1x32 ![1] bcast_S32_S1x32_1 a⟩, ⟨S1x32, broadcastInDim S1x32 ![1] bcast_S32_S1x32_1 b⟩,
    ⟨S1x32, broadcastInDim S1x32 ![1] bcast_S32_S1x32_1 d⟩, ⟨S1x32, broadcastInDim S1x32 ![1] bcast_S32_S1x32_1 e⟩]
    concatenates_S1x32_S1x32_S1x32_S1x32_S4x32_d0

section reads
variable (m : (ℓ : Loc nD τ sig) → Buf (Elt Ideal) ℓ) (c : Dev nD)

theorem V_qvg : V m c main_v15 = qvg (m ((c : Thread nD τ).loc main_arg0)) (m ((c : Thread nD τ).loc main_arg2)) (m ((c : Thread nD τ).loc main_arg3)) := by
  unfold_abbrev_sides
  after_reads_simp
  rfl

theorem V_kk : V m c main_v18 = kk (m ((c : Thread nD τ).loc main_arg1)) := by
  unfold_abbrev_sides
  after_reads_simp
  rfl

theorem V_lams : V m c main_v23 = lams (m ((c : Thread nD τ).loc main_arg4)) (m ((c : Thread nD τ).loc main_arg5))
    (m ((c : Thread nD τ).loc main_arg6)) (m ((c : Thread nD τ).loc main_arg7)) := by
  unfold_abbrev_sides
  after_reads_simp
  rfl

theorem V_gain : V m c main_v24 = (broadcastInDim S64x1 ![0] bcast_S64_S64x1_0 (m ((c : Thread nD τ).loc main_arg8)) : Vec Ideal S64x1 .f32) := by
  unfold_abbrev_sides
  after_results
end reads

theorem qvg_q (q v g : FVec Ideal S8x4096x256 .f32) (b : Fin 8) (T : Fin 16) (r : Fin 256) (j : Fin 256) :
    qvg q v g (ix4 b T ⟨2304 + r.val, by omega⟩ j) = q (ix3 b ⟨T.val * 256 + j.val, by omega⟩ r) * scale := by
  pointwise [qvg, rows, scale]

theorem qvg_v (q v g : FVec Ideal S8x4096x256 .f32) (b : Fin 8) (T : Fin 16) (r : Fin 256) (j : Fin 256) :
    qvg q v g (ix4 b T ⟨2560 + r.val, by omega⟩ j) = v (ix3 b ⟨T.val * 256 + j.val, by omega⟩ r) := by
  pointwise [qvg, rows]
  rw [dif_neg (by omega), dif_neg (by omega), dif_pos (by omega)]
  congr 2
  exact Fin.ext (by dsimp only; omega)

theorem qvg_g (q v g : FVec Ideal S8x4096x256 .f32) (b : Fin 8) (T : Fin 16) (r : Fin 256) (j : Fin 256) :
    qvg q v g (ix4 b T ⟨2816 + r.val, by omega⟩ j) = g (ix3 b ⟨T.val * 256 + j.val, by omega⟩ r) := by
  pointwise [qvg, rows]
  rw [dif_neg (by omega), dif_neg (by omega), dif_neg (by omega)]
  congr 2
  exact Fin.ext (by dsimp only; omega)

theorem kk_k (k : FVec Ideal S8x4096x256 .f32) (b : Fin 8) (n : Fin 4096) (r : Fin 256) :
    kk k (ix3 b n ⟨768 + r.val, by omega⟩) = k (ix3 b n r) := by
  pointwise [kk]

theorem lams_0 (x y z w : FVec Ideal S32 .f32) (d : Fin 32) : lams x y z w (ix2 0 d) = x (ix1 d) := by pointwise [lams]
theorem lams_1 (x y z w : FVec Ideal S32 .f32) (d : Fin 32) : lams x y z w (ix2 1 d) = y (ix1 d) := by pointwise [lams]
theorem lams_2 (x y z w : FVec Ideal S32 .f32) (d : Fin 32) : lams x y z w (ix2 2 d) = z (ix1 d) := by pointwise [lams]
theorem lams_3 (x y z w : FVec Ideal S32 .f32) (d : Fin 32) : lams x y z w (ix2 3 d) = w (ix1 d) := by pointwise [lams]

end Cert.KernelIdeal.Da
end
-- ==== Proof.Tile.lean ====
/- The operations of one block of the attention, read at an index over the extended reals. -/
module

public import proofs.«01_k».proof.Proof.Block
public import Idealize.ShloMosaic.Lib.Pointwise

@[expose] public section

noncomputable section

namespace Cert.KernelIdeal.Da

open Idealize.ShloMosaic Idealize.SL.Sem Cert.KernelIdeal Cert.KernelIdeal.Gen

theorem score_apply (u : Vec Ideal S1x256x128 .bf16) (q : FVec Ideal S128x256 .bf16) (k j : Fin 256) :
    score u q (ix2 k j) = ∑ d : Fin 128, u (ix3 0 k d) * q (ix2 d j) := by
  pointwise [score]

theorem ninf_f32 : Ideal.ofBits .f32 0xFF800000#32 = ⊥ := by
  simp [Ideal.ofBits, Ideal.ieee]

theorem shr_nat : ∀ k : Fin 256, IntOp.shrui ArithUnit.vector (BitVec.ofNat 32 k.val) 6#32 = BitVec.ofNat 32 (k.val / 64) := by
  decide +kernel

theorem sle_nat : ∀ a b : Fin 4, IntOp.cmpi CmpIPredicate.sle (BitVec.ofNat 32 a.val) (BitVec.ofNat 32 b.val) = 1#1
    ↔ a.val ≤ b.val := by
  decide +kernel

theorem mask_apply (k j : Fin 256) :
    (k0_pay6 (ix2 k j) = 1#1) ↔ k.val / 64 ≤ j.val / 64 := by
  pointwise [k0_pay6]
  rw [shr_nat, shr_nat]
  exact sle_nat ⟨k.val / 64, by omega⟩ ⟨j.val / 64, by omega⟩

theorem scoreD_apply (u : Vec Ideal S1x256x128 .bf16) (q : FVec Ideal S128x256 .bf16) (k j : Fin 256) :
    scoreD u q (ix2 k j) = if k.val / 64 ≤ j.val / 64 then score u q (ix2 k j) else ⊥ := by
  pointwise [scoreD]
  unfold Scalar.select
  rw [ninf_f32]
  exact if_congr (mask_apply k j) rfl rfl

theorem val1_apply (v : Vec Ideal S1x1x64x256 .bf16) (r : Fin 80) (k : Fin 256) :
    val1 v (ix2 r k) = if h : r.val < 64 then v (ix4 0 0 ⟨r.val, h⟩ k) else 1 := by
  pointwise [val1]

theorem wgt_apply (s : FVec Ideal S256x256 .f32) (m : FVec Ideal S1x256 .f32) (k j : Fin 256) :
    wgt s m (ix2 k j) = Ideal.exp2 (s (ix2 k j) - m (ix2 0 j)) := by
  pointwise [wgt]
  rfl

theorem accum_apply (m : FVec Ideal S1x256 .f32) (a : FVec Ideal S80x256 .f32)
    (p : FVec Ideal S256x256 .f32 × Vec Ideal S1x1x64x256 .bf16) (r : Fin 80) (j : Fin 256) :
    accum m a p (ix2 r j)
      = a (ix2 r j) + ∑ k : Fin 256, val1 p.2 (ix2 r k) * Ideal.exp2 (p.1 (ix2 k j) - m (ix2 0 j)) := by
  pointwise [accum, wgt]
  rfl

theorem colMax_apply (s : FVec Ideal S256x256 .f32) (j : Fin 256) :
    colMax s (ix2 0 j) = (Finset.univ : Finset (Fin 256)).fold max ⊥ (fun k => s (ix2 k j)) := by
  pointwise [colMax]
  rw [ninf_f32]

end Cert.KernelIdeal.Da
end
-- ==== Proof.Stream.lean ====
/- What a stream's state holds: after the blocks taken so far, a running maximum μ of a query's
   scores, and its sums, all scaled by 2 to the -μ. -/
module

public import proofs.«01_k».proof.Proof.Tile

@[expose] public section

noncomputable section

namespace Cert.KernelIdeal.Da

open Idealize.ShloMosaic Idealize.SL.Sem Cert.KernelIdeal Cert.KernelIdeal.Gen

/-- The blocks a stream takes: scores, and values. -/
abbrev Blk := FVec Ideal S256x256 .f32 × Vec Ideal S1x1x64x256 .bf16

/-- A finite sum of reals is a real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A block whose scores for query `j` are reals or minus infinity, and whose sums of values, each key
    weighed by 2 to its score, are `S`. -/
def Ent (j : Fin 256) (p : Blk) (S : Fin 80 → ℝ) : Prop :=
  ∃ (w : Fin 256 → ℝ) (v : Fin 80 → Fin 256 → ℝ),
    (∀ k, (∃ σ : ℝ, p.1 (ix2 k j) = (σ : EReal) ∧ w k = (2 : ℝ) ^ σ) ∨ (p.1 (ix2 k j) = ⊥ ∧ w k = 0))
    ∧ (∀ r k, val1 p.2 (ix2 r k) = (v r k : EReal)) ∧ ∀ r, S r = ∑ k, v r k * w k

/-- The state of a stream at query `j`, its sums being `W` but for the scale. -/
def Inv (j : Fin 256) (st : St Ideal) (W : Fin 80 → ℝ) : Prop :=
  ∃ μ : ℝ, st.1 (ix2 0 j) = (μ : EReal) ∧ ∀ r, st.2 (ix2 r j) = (((2 : ℝ) ^ (-μ) * W r : ℝ) : EReal)

/-- The weights of a block under a real maximum are reals. -/
theorem exp2_sub_real (σ μ : ℝ) : Ideal.exp2 ((σ : EReal) - (μ : EReal)) = (((2 : ℝ) ^ (-μ) * (2 : ℝ) ^ σ : ℝ) : EReal) := by
  rw [← EReal.coe_sub, Ideal.exp2_coe]
  congr 1
  show (2 : ℝ) ^ (σ - μ) = _
  rw [← Real.rpow_add (by norm_num)]
  congr 1; ring

theorem exp2_bot_sub (μ : ℝ) : Ideal.exp2 ((⊥ : EReal) - (μ : EReal)) = ((0 : ℝ) : EReal) := by
  rw [EReal.bot_sub, Ideal.exp2_bot]; rfl

/-- One block's sums added. -/
theorem accum_ent {j : Fin 256} {m : FVec Ideal S1x256 .f32} {μ : ℝ} (hm : m (ix2 0 j) = (μ : EReal))
    {a : FVec Ideal S80x256 .f32} {A : Fin 80 → ℝ} (ha : ∀ r, a (ix2 r j) = (((2 : ℝ) ^ (-μ) * A r : ℝ) : EReal))
    {p : Blk} {S : Fin 80 → ℝ} (hp : Ent j p S) (r : Fin 80) :
    accum m a p (ix2 r j) = (((2 : ℝ) ^ (-μ) * (A r + S r) : ℝ) : EReal) := by
  obtain ⟨w, v, hw, hv, hS⟩ := hp
  rw [accum_apply, ha r]
  have e : ∀ k : Fin 256, val1 p.2 (ix2 r k) * Ideal.exp2 (p.1 (ix2 k j) - m (ix2 0 j))
      = ((v r k * ((2 : ℝ) ^ (-μ) * w k) : ℝ) : EReal) := by
    intro k
    rw [hv, hm]
    rcases hw k with ⟨σ, h1, h2⟩ | ⟨h1, h2⟩
    · rw [h1, exp2_sub_real, h2, EReal.coe_mul (v r k)]
    · rw [h1, exp2_bot_sub, h2, mul_zero, EReal.coe_mul (v r k)]
  rw [Finset.sum_congr rfl fun k _ => e k, coe_sum, ← EReal.coe_add, hS r]
  congr 1
  rw [mul_add, Finset.mul_sum]
  congr 1
  exact Finset.sum_congr rfl fun k _ => by ring

/-- The blocks of a list one after another. -/
theorem foldl_ent {j : Fin 256} {m : FVec Ideal S1x256 .f32} {μ : ℝ} (hm : m (ix2 0 j) = (μ : EReal))
    (l : List (Blk × (Fin 80 → ℝ))) (hl : ∀ e ∈ l, Ent j e.1 e.2)
    {a : FVec Ideal S80x256 .f32} {A : Fin 80 → ℝ} (ha : ∀ r, a (ix2 r j) = (((2 : ℝ) ^ (-μ) * A r : ℝ) : EReal))
    (r : Fin 80) :
    ((l.map Prod.fst).foldl (accum m) a) (ix2 r j)
      = (((2 : ℝ) ^ (-μ) * (A r + (l.map fun e => e.2 r).sum) : ℝ) : EReal) := by
  induction l generalizing a A with
  | nil => simpa using ha r
  | cons e l ih =>
    rw [List.map_cons, List.foldl_cons]
    rw [ih (fun e he => hl e (List.mem_cons_of_mem _ he)) (A := fun r => A r + e.2 r)
      (fun r => accum_ent hm ha (hl e List.mem_cons_self) r)]
    rw [List.map_cons, List.sum_cons, add_assoc]

/-- A maximum of reals and minus infinities is not plus infinity. -/
theorem colMax_ne_top {j : Fin 256} {p : Blk} {S : Fin 80 → ℝ} (hp : Ent j p S) : colMax p.1 (ix2 0 j) < ⊤ := by
  obtain ⟨w, v, hw, -, -⟩ := hp
  rw [colMax_apply, Finset.fold_max_lt]
  refine ⟨bot_lt_top, fun k _ => ?_⟩
  rcases hw k with ⟨σ, h1, -⟩ | ⟨h1, -⟩
  · rw [h1]; exact EReal.coe_lt_top σ
  · rw [h1]; exact bot_lt_top

theorem le_colMax (s : FVec Ideal S256x256 .f32) (k j : Fin 256) : s (ix2 k j) ≤ colMax s (ix2 0 j) := by
  rw [colMax_apply, Finset.le_fold_max]
  exact Or.inr ⟨k, Finset.mem_univ _, le_rfl⟩

theorem maxOver_cons (m : FVec Ideal S1x256 .f32) (p : Blk) (l : List Blk) :
    maxOver m (p :: l) = maxOver (maximumf m (colMax p.1)) l := rfl

theorem maxf_apply (a b : FVec Ideal S1x256 .f32) (j : Fin 256) :
    maximumf a b (ix2 0 j) = max (a (ix2 0 j)) (b (ix2 0 j)) := rfl

theorem maxOver_lt_top {j : Fin 256} (l : List (Blk × (Fin 80 → ℝ))) (hl : ∀ e ∈ l, Ent j e.1 e.2)
    (m : FVec Ideal S1x256 .f32) (hm : m (ix2 0 j) < ⊤) : maxOver m (l.map Prod.fst) (ix2 0 j) < ⊤ := by
  induction l generalizing m with
  | nil => exact hm
  | cons e l ih =>
    rw [List.map_cons, maxOver_cons]
    refine ih (fun e he => hl e (List.mem_cons_of_mem _ he)) _ ?_
    rw [maxf_apply]
    exact max_lt hm (colMax_ne_top (hl e List.mem_cons_self))

theorem le_maxOver (j : Fin 256) (l : List Blk) (m : FVec Ideal S1x256 .f32) :
    m (ix2 0 j) ≤ maxOver m l (ix2 0 j) := by
  induction l generalizing m with
  | nil => exact le_rfl
  | cons p l ih =>
    rw [maxOver_cons]
    refine le_trans ?_ (ih _)
    rw [maxf_apply]; exact le_max_left _ _

/-- Blocks taken after a state: the sums grow by theirs. -/
theorem upd_inv {j : Fin 256} {st : St Ideal} {W : Fin 80 → ℝ} (h : Inv j st W)
    (l : List (Blk × (Fin 80 → ℝ))) (hl : ∀ e ∈ l, Ent j e.1 e.2) :
    Inv j (upd st (l.map Prod.fst)) (fun r => W r + (l.map fun e => e.2 r).sum) := by
  obtain ⟨μ, hμ, hW⟩ := h
  have h1 : maxOver st.1 (l.map Prod.fst) (ix2 0 j) < ⊤ :=
    maxOver_lt_top l hl st.1 (by rw [hμ]; exact EReal.coe_lt_top μ)
  have h2 : (μ : EReal) ≤ maxOver st.1 (l.map Prod.fst) (ix2 0 j) := by
    rw [← hμ]; exact le_maxOver j _ _
  obtain ⟨μ', hμ'⟩ : ∃ μ' : ℝ, maxOver st.1 (l.map Prod.fst) (ix2 0 j) = (μ' : EReal) :=
    ⟨_, (EReal.coe_toReal h1.ne (ne_of_gt (lt_of_lt_of_le (EReal.bot_lt_coe μ) h2))).symm⟩
  refine ⟨μ', hμ', fun r => ?_⟩
  refine foldl_ent hμ' l hl (fun r => ?_) r
  rw [show mulf (broadcastTo S80x256 (exp2 (subf st.1 (maxOver st.1 (l.map Prod.fst)))) broadcasts_S1x256_S80x256) st.2 (ix2 r j)
      = Ideal.exp2 (st.1 (ix2 0 j) - maxOver st.1 (l.map Prod.fst) (ix2 0 j)) * st.2 (ix2 r j) by pointwise; rfl]
  rw [hμ, hμ', exp2_sub_real, hW, ← EReal.coe_mul]
  congr 1
  have : (2 : ℝ) ^ μ * (2 : ℝ) ^ (-μ) = 1 := by
    rw [← Real.rpow_add (by norm_num)]; simp
  calc _ = (2 : ℝ) ^ (-μ') * ((2 : ℝ) ^ μ * (2 : ℝ) ^ (-μ)) * W r := by ring
    _ = _ := by rw [this, mul_one]

/-- The first blocks, one of whose scores is a real. -/
theorem upd_bot {j : Fin 256} {st : St Ideal} (h0 : st.1 (ix2 0 j) = ⊥) (h0' : ∀ r, st.2 (ix2 r j) = 0) (p : Blk) (S : Fin 80 → ℝ) (hp : Ent j p S) (k : Fin 256) (σ : ℝ)
    (hk : p.1 (ix2 k j) = (σ : EReal))
    (l : List (Blk × (Fin 80 → ℝ))) (hl : ∀ e ∈ l, Ent j e.1 e.2) :
    Inv j (upd st (p :: l.map Prod.fst)) (fun r => S r + (l.map fun e => e.2 r).sum) := by
  have hl' : ∀ e ∈ ((p, S) :: l), Ent j e.1 e.2 := by
    intro e he
    rcases List.mem_cons.1 he with rfl | he
    · exact hp
    · exact hl e he
  have h1 : maxOver st.1 (p :: l.map Prod.fst) (ix2 0 j) < ⊤ :=
    maxOver_lt_top ((p, S) :: l) hl' _ (by rw [h0]; exact bot_lt_top)
  have h2 : (σ : EReal) ≤ maxOver st.1 (p :: l.map Prod.fst) (ix2 0 j) := by
    rw [maxOver_cons]
    refine le_trans ?_ (le_maxOver j _ _)
    rw [maxf_apply, ← hk]
    exact le_trans (le_colMax p.1 k j) (le_max_right _ _)
  obtain ⟨μ', hμ'⟩ : ∃ μ' : ℝ, maxOver st.1 (p :: l.map Prod.fst) (ix2 0 j) = (μ' : EReal) :=
    ⟨_, (EReal.coe_toReal h1.ne (ne_of_gt (lt_of_lt_of_le (EReal.bot_lt_coe σ) h2))).symm⟩
  refine ⟨μ', hμ', fun r => ?_⟩
  have := foldl_ent hμ' ((p, S) :: l) hl' (A := fun _ => 0)
    (a := mulf (broadcastTo S80x256 (exp2 (subf st.1 (maxOver st.1 (p :: l.map Prod.fst)))) broadcasts_S1x256_S80x256) st.2)
    (fun r => ?_) r
  · refine Eq.trans this ?_
    rw [List.map_cons, List.sum_cons, zero_add]
  · rw [show mulf (broadcastTo S80x256 (exp2 (subf st.1 (maxOver st.1 (p :: l.map Prod.fst)))) broadcasts_S1x256_S80x256) st.2 (ix2 r j)
      = Ideal.exp2 (st.1 (ix2 0 j) - maxOver st.1 (p :: l.map Prod.fst) (ix2 0 j)) * st.2 (ix2 r j) by pointwise; rfl]
    rw [h0, h0', mul_zero, mul_zero, EReal.coe_zero]

theorem upd_first {j : Fin 256} (p : Blk) (S : Fin 80 → ℝ) (hp : Ent j p S) (k : Fin 256) (σ : ℝ)
    (hk : p.1 (ix2 k j) = (σ : EReal))
    (l : List (Blk × (Fin 80 → ℝ))) (hl : ∀ e ∈ l, Ent j e.1 e.2) :
    Inv j (upd st0 (p :: l.map Prod.fst)) (fun r => S r + (l.map fun e => e.2 r).sum) :=
  upd_bot (st := st0) ninf_f32 (fun _ => Ideal.ofBits_zero_f32) p S hp k σ hk l hl

end Cert.KernelIdeal.Da
end
-- ==== Proof.Tiles.lean ====
/- The blocks of keys and values the streams go through: a tile of keys scored against the queries, with a
   head's values of the same tile. -/
module

public import proofs.«01_k».proof.Proof.Stream
public import proofs.«01_k».proof.Proof.Offsets

@[expose] public section

noncomputable section

namespace Cert.KernelIdeal.Da

open Idealize.ShloMosaic Idealize.SL.Sem Cert.KernelIdeal Cert.KernelIdeal.Gen

/-- The score of key `n` for query `j`. -/
def sc (K : ℕ → Fin 128 → ℝ) (Q : Fin 128 → Fin 256 → ℝ) (n : ℕ) (j : Fin 256) : ℝ := ∑ d, K n d * Q d j

/-- Row `r` of a head's values in tile `T`, and of the ones under them. -/
def vv (V : ℕ → ℕ → Fin 256 → ℝ) (o T : ℕ) (r : Fin 80) (k : Fin 256) : ℝ := if r.val < 64 then V T (o + r.val) k else 1

/-- A tile's sums, -/
def ts (K : ℕ → Fin 128 → ℝ) (Q : Fin 128 → Fin 256 → ℝ) (V : ℕ → ℕ → Fin 256 → ℝ) (o : ℕ) (j : Fin 256) (T : ℕ)
    (r : Fin 80) : ℝ := ∑ k : Fin 256, vv V o T r k * (2 : ℝ) ^ sc K Q (256 * T + k.val) j

/-- and those of the queries' own tile. -/
def td (K : ℕ → Fin 128 → ℝ) (Q : Fin 128 → Fin 256 → ℝ) (V : ℕ → ℕ → Fin 256 → ℝ) (o : ℕ) (j : Fin 256) (T : ℕ)
    (r : Fin 80) : ℝ :=
  ∑ k : Fin 256, vv V o T r k * (if k.val / 64 ≤ j.val / 64 then (2 : ℝ) ^ sc K Q (256 * T + k.val) j else 0)

section

variable {K : ℕ → Fin 128 → ℝ} {Q : Fin 128 → Fin 256 → ℝ} {V : ℕ → ℕ → Fin 256 → ℝ}
  {x1 : Vec Ideal S1x4096x128 .bf16} {x2 : Vec Ideal S1x16x128x256 .bf16} {q : FVec Ideal S128x256 .bf16}

theorem score_real {u : Vec Ideal S1x256x128 .bf16} {T : ℕ} (hu : ∀ k d, u (ix3 0 k d) = (K (256 * T + k.val) d : EReal))
    (hQ : ∀ d j, q (ix2 d j) = (Q d j : EReal)) (k j : Fin 256) :
    score u q (ix2 k j) = (sc K Q (256 * T + k.val) j : EReal) := by
  rw [score_apply, sc, ← coe_sum]
  refine Finset.sum_congr rfl fun d _ => ?_
  rw [hu, hQ, EReal.coe_mul]

theorem val1_real {v : Vec Ideal S1x1x64x256 .bf16} {o T : ℕ}
    (hv : ∀ r k, v (ix4 0 0 r k) = (V T (o + r.val) k : EReal)) (r : Fin 80) (k : Fin 256) :
    val1 v (ix2 r k) = (vv V o T r k : EReal) := by
  rw [val1_apply, vv]
  split
  · rw [hv]
  · rfl

theorem ent_score {u : Vec Ideal S1x256x128 .bf16} {v : Vec Ideal S1x1x64x256 .bf16} {o T : ℕ}
    (hu : ∀ k d, u (ix3 0 k d) = (K (256 * T + k.val) d : EReal)) (hQ : ∀ d j, q (ix2 d j) = (Q d j : EReal))
    (hv : ∀ r k, v (ix4 0 0 r k) = (V T (o + r.val) k : EReal)) (j : Fin 256) :
    Ent j (score u q, v) (ts K Q V o j T) :=
  ⟨fun k => (2 : ℝ) ^ sc K Q (256 * T + k.val) j, vv V o T,
    fun k => Or.inl ⟨_, score_real hu hQ k j, rfl⟩, val1_real hv, fun _ => rfl⟩

theorem ent_scoreD {u : Vec Ideal S1x256x128 .bf16} {v : Vec Ideal S1x1x64x256 .bf16} {o T : ℕ}
    (hu : ∀ k d, u (ix3 0 k d) = (K (256 * T + k.val) d : EReal)) (hQ : ∀ d j, q (ix2 d j) = (Q d j : EReal))
    (hv : ∀ r k, v (ix4 0 0 r k) = (V T (o + r.val) k : EReal)) (j : Fin 256) :
    Ent j (scoreD u q, v) (td K Q V o j T) := by
  refine ⟨fun k => if k.val / 64 ≤ j.val / 64 then (2 : ℝ) ^ sc K Q (256 * T + k.val) j else 0, vv V o T,
    fun k => ?_, val1_real hv, fun _ => rfl⟩
  by_cases h : k.val / 64 ≤ j.val / 64
  · refine Or.inl ⟨sc K Q (256 * T + k.val) j, ?_, if_pos h⟩
    rw [← score_real hu hQ k j]
    exact (scoreD_apply u q k j).trans (if_pos h)
  · exact Or.inr ⟨(scoreD_apply u q k j).trans (if_neg h), if_neg h⟩

/-- The first key of the queries' own tile is seen by each of them. -/
theorem scoreD_first {u : Vec Ideal S1x256x128 .bf16} {T : ℕ}
    (hu : ∀ k d, u (ix3 0 k d) = (K (256 * T + k.val) d : EReal)) (hQ : ∀ d j, q (ix2 d j) = (Q d j : EReal))
    (j : Fin 256) : scoreD u q (ix2 0 j) = (sc K Q (256 * T + (0 : Fin 256).val) j : EReal) := by
  rw [← score_real hu hQ 0 j]
  exact (scoreD_apply u q 0 j).trans (if_pos (Nat.zero_le _))

theorem ld_key (hK : ∀ (n : Fin 4096) d, x1 (ix3 0 n d) = (K n.val d : EReal)) {o : Fin 3 → ℕ} {T : ℕ}
    (ho : o = ![0, 256 * T, 0]) (h : ∀ a, o a + S1x256x128.size a ≤ S1x4096x128.size a) (k : Fin 256) (d : Fin 128) :
    View.ld x1 (keyR o h) (ix3 0 k d) = (K (256 * T + k.val) d : EReal) := by
  subst ho
  have hT : 256 * T + 256 ≤ 4096 := h 1
  rw [show (K (256 * T + k.val) d : EReal) = x1 (ix3 0 ⟨256 * T + k.val, by omega⟩ d) from (hK ⟨256 * T + k.val, by omega⟩ d).symm]
  pointwise [View.ld]

theorem ld_val (hV : ∀ (T : Fin 16) (r : Fin 128) k, x2 (ix4 0 T r k) = (V T.val r.val k : EReal)) {o : Fin 4 → ℕ} {b T : ℕ}
    (ho : o = ![0, T, b, 0]) (h : ∀ a, o a + S1x1x64x256.size a ≤ S1x16x128x256.size a) (r : Fin 64) (k : Fin 256) :
    View.ld x2 (valR o h) (ix4 0 0 r k) = (V T (b + r.val) k : EReal) := by
  subst ho
  have hT : T + 1 ≤ 16 := h 1
  have hb : b + 64 ≤ 128 := h 2
  rw [show (V T (b + r.val) k : EReal) = x2 (ix4 0 ⟨T, by omega⟩ ⟨b + r.val, by omega⟩ k) from (hV ⟨T, by omega⟩ ⟨b + r.val, by omega⟩ k).symm]
  pointwise [View.ld]

end

end Cert.KernelIdeal.Da
end
-- ==== Proof.Fins.lean ====
/- A stream at the end: its sums over every tile up to the queries' own. -/
module

public import proofs.«01_k».proof.Proof.Tiles

@[expose] public section

noncomputable section

namespace Cert.KernelIdeal.Da

open Idealize.ShloMosaic Idealize.SL.Sem Cert.KernelIdeal Cert.KernelIdeal.Gen

/-- The sums of a query of tile `Tq` over the keys it sees. -/
def tot (K : ℕ → Fin 128 → ℝ) (Q : Fin 128 → Fin 256 → ℝ) (V : ℕ → ℕ → Fin 256 → ℝ) (o : ℕ) (j : Fin 256) (Tq : ℕ)
    (r : Fin 80) : ℝ := td K Q V o j Tq r + ∑ T ∈ Finset.range Tq, ts K Q V o j T r

theorem Inv.congr {j : Fin 256} {st : St Ideal} {W W' : Fin 80 → ℝ} (h : Inv j st W) (e : ∀ r, W r = W' r) : Inv j st W' :=
  (funext e : W = W') ▸ h

section

variable {K : ℕ → Fin 128 → ℝ} {Q : Fin 128 → Fin 256 → ℝ} {V : ℕ → ℕ → Fin 256 → ℝ}
  {i : grid0.Coords} {x1 : Vec Ideal S1x4096x128 .bf16} {x2 : Vec Ideal S1x16x128x256 .bf16} {q : FVec Ideal S128x256 .bf16}

/-- One trip of the loop. -/
theorem trip0_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    {j : Fin 256} {st : St Ideal} {W : Fin 80 → ℝ} (h : Inv j st W) (k : Fin (k0_t1_loop i).trips) :
    Inv j (trip0 i x1 x2 q k st) (fun r => W r + (ts K Q V 0 j (4 * ((i 2).val / 2) - 1 - 4 * k.val - 0) r
      + (ts K Q V 0 j (4 * ((i 2).val / 2) - 1 - 4 * k.val - 1) r
      + (ts K Q V 0 j (4 * ((i 2).val / 2) - 1 - 4 * k.val - 2) r
      + (ts K Q V 0 j (4 * ((i 2).val / 2) - 1 - 4 * k.val - 3) r + 0))))) := by
  have e : ∀ r : Fin 4, Ent j (blk0 i x1 x2 q k r) (ts K Q V 0 j (4 * ((i 2).val / 2) - 1 - 4 * k.val - r.val)) := fun r =>
    ent_score (fun a d => ld_key hK (off16 i k r) _ a d) hQ (fun a d => ld_val hV (off17 i k r) _ a d) j
  refine upd_inv h [(blk0 i x1 x2 q k 0, ts K Q V 0 j (4 * ((i 2).val / 2) - 1 - 4 * k.val - 0)),
    (blk0 i x1 x2 q k 1, ts K Q V 0 j (4 * ((i 2).val / 2) - 1 - 4 * k.val - 1)),
    (blk0 i x1 x2 q k 2, ts K Q V 0 j (4 * ((i 2).val / 2) - 1 - 4 * k.val - 2)),
    (blk0 i x1 x2 q k 3, ts K Q V 0 j (4 * ((i 2).val / 2) - 1 - 4 * k.val - 3))] ?_
  simp only [List.forall_mem_cons]
  exact ⟨e 0, e 1, e 2, e 3, fun _ h => absurd h List.not_mem_nil⟩

/-- All its trips. -/
theorem run0_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    {j : Fin 256} {st : St Ideal} {W : Fin 80 → ℝ} (h : Inv j st W) (n : ℕ) (hn : n ≤ (i 2).val / 2) :
    Inv j (run0 i x1 x2 q st n) (fun r => W r + (∑ T ∈ Finset.range (4 * ((i 2).val / 2)), ts K Q V 0 j T r
      - ∑ T ∈ Finset.range (4 * ((i 2).val / 2) - 4 * n), ts K Q V 0 j T r)) := by
  induction n with
  | zero => exact h.congr fun r => by simp
  | succ n ih =>
    have hlt : n < (k0_t1_loop i).trips := by rw [trips1]; omega
    rw [run0, dif_pos hlt]
    refine (trip0_inv hK hV hQ (ih (by omega)) ⟨n, hlt⟩).congr fun r => ?_
    generalize hh : (i 2).val / 2 = hf at *
    obtain ⟨a, ha⟩ : ∃ a, 4 * hf = a + 4 + 4 * n := ⟨4 * hf - 4 - 4 * n, by omega⟩
    rw [show 4 * hf - 4 * n = a + 4 by omega, show 4 * hf - 4 * (n + 1) = a by omega]
    dsimp only
    rw [show 4 * hf - 1 - 4 * n - 0 = a + 3 by omega, show 4 * hf - 1 - 4 * n - 1 = a + 2 by omega,
      show 4 * hf - 1 - 4 * n - 2 = a + 1 by omega, show 4 * hf - 1 - 4 * n - 3 = a by omega]
    rw [Finset.sum_range_succ _ (a + 3), Finset.sum_range_succ _ (a + 2), Finset.sum_range_succ _ (a + 1), Finset.sum_range_succ _ a]
    ring

/-- One trip of the loop. -/
theorem trip1_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    {j : Fin 256} {st : St Ideal} {W : Fin 80 → ℝ} (h : Inv j st W) (k : Fin (k0_t1_loop i).trips) :
    Inv j (trip1 i x1 x2 q k st) (fun r => W r + (ts K Q V 64 j (4 * ((i 2).val / 2) - 1 - 4 * k.val - 0) r
      + (ts K Q V 64 j (4 * ((i 2).val / 2) - 1 - 4 * k.val - 1) r
      + (ts K Q V 64 j (4 * ((i 2).val / 2) - 1 - 4 * k.val - 2) r
      + (ts K Q V 64 j (4 * ((i 2).val / 2) - 1 - 4 * k.val - 3) r + 0))))) := by
  have e : ∀ r : Fin 4, Ent j (blk1 i x1 x2 q k r) (ts K Q V 64 j (4 * ((i 2).val / 2) - 1 - 4 * k.val - r.val)) := fun r =>
    ent_score (fun a d => ld_key hK (off16 i k r) _ a d) hQ (fun a d => ld_val hV (off18 i k r) _ a d) j
  refine upd_inv h [(blk1 i x1 x2 q k 0, ts K Q V 64 j (4 * ((i 2).val / 2) - 1 - 4 * k.val - 0)),
    (blk1 i x1 x2 q k 1, ts K Q V 64 j (4 * ((i 2).val / 2) - 1 - 4 * k.val - 1)),
    (blk1 i x1 x2 q k 2, ts K Q V 64 j (4 * ((i 2).val / 2) - 1 - 4 * k.val - 2)),
    (blk1 i x1 x2 q k 3, ts K Q V 64 j (4 * ((i 2).val / 2) - 1 - 4 * k.val - 3))] ?_
  simp only [List.forall_mem_cons]
  exact ⟨e 0, e 1, e 2, e 3, fun _ h => absurd h List.not_mem_nil⟩

/-- All its trips. -/
theorem run1_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    {j : Fin 256} {st : St Ideal} {W : Fin 80 → ℝ} (h : Inv j st W) (n : ℕ) (hn : n ≤ (i 2).val / 2) :
    Inv j (run1 i x1 x2 q st n) (fun r => W r + (∑ T ∈ Finset.range (4 * ((i 2).val / 2)), ts K Q V 64 j T r
      - ∑ T ∈ Finset.range (4 * ((i 2).val / 2) - 4 * n), ts K Q V 64 j T r)) := by
  induction n with
  | zero => exact h.congr fun r => by simp
  | succ n ih =>
    have hlt : n < (k0_t1_loop i).trips := by rw [trips1]; omega
    rw [run1, dif_pos hlt]
    refine (trip1_inv hK hV hQ (ih (by omega)) ⟨n, hlt⟩).congr fun r => ?_
    generalize hh : (i 2).val / 2 = hf at *
    obtain ⟨a, ha⟩ : ∃ a, 4 * hf = a + 4 + 4 * n := ⟨4 * hf - 4 - 4 * n, by omega⟩
    rw [show 4 * hf - 4 * n = a + 4 by omega, show 4 * hf - 4 * (n + 1) = a by omega]
    dsimp only
    rw [show 4 * hf - 1 - 4 * n - 0 = a + 3 by omega, show 4 * hf - 1 - 4 * n - 1 = a + 2 by omega,
      show 4 * hf - 1 - 4 * n - 2 = a + 1 by omega, show 4 * hf - 1 - 4 * n - 3 = a by omega]
    rw [Finset.sum_range_succ _ (a + 3), Finset.sum_range_succ _ (a + 2), Finset.sum_range_succ _ (a + 1), Finset.sum_range_succ _ a]
    ring

theorem headA00_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : k0_cond1 i = 1#1) :
    Inv j (headA00 i x1 x2 q h) (fun r => td K Q V 0 j (2 * (i 2).val) r + ((ts K Q V 0 j (2 * (i 2).val - 1 - 0) r + (ts K Q V 0 j (2 * (i 2).val - 1 - 1) r + 0)))) := by
  have hc := (cond1_iff i).1 h
  refine upd_first (_, _) (td K Q V 0 j (2 * (i 2).val)) (ent_scoreD (fun a d => ld_key hK (off2 i) _ a d) hQ
      (fun a d => ld_val hV (off4 i) _ a d) j) 0 _ (scoreD_first (fun a d => ld_key hK (off2 i) _ a d) hQ j)
    [((_, _), ts K Q V 0 j (2 * (i 2).val - 1 - 0)), ((_, _), ts K Q V 0 j (2 * (i 2).val - 1 - 1))] ?_
  simp only [List.forall_mem_cons]
  exact ⟨ent_score (fun a d => ld_key hK (off3 i hc 0) _ a d) hQ (fun a d => ld_val hV (off5 i hc 0) _ a d) j, ent_score (fun a d => ld_key hK (off3 i hc 1) _ a d) hQ (fun a d => ld_val hV (off5 i hc 1) _ a d) j, fun _ h => absurd h List.not_mem_nil⟩

theorem headA01_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : k0_cond1 i = 1#1) :
    Inv j (headA01 i x1 x2 q h) (fun r => td K Q V 64 j (2 * (i 2).val) r + ((ts K Q V 64 j (2 * (i 2).val - 1 - 0) r + (ts K Q V 64 j (2 * (i 2).val - 1 - 1) r + 0)))) := by
  have hc := (cond1_iff i).1 h
  refine upd_first (_, _) (td K Q V 64 j (2 * (i 2).val)) (ent_scoreD (fun a d => ld_key hK (off2 i) _ a d) hQ
      (fun a d => ld_val hV (off6 i) _ a d) j) 0 _ (scoreD_first (fun a d => ld_key hK (off2 i) _ a d) hQ j)
    [((_, _), ts K Q V 64 j (2 * (i 2).val - 1 - 0)), ((_, _), ts K Q V 64 j (2 * (i 2).val - 1 - 1))] ?_
  simp only [List.forall_mem_cons]
  exact ⟨ent_score (fun a d => ld_key hK (off3 i hc 0) _ a d) hQ (fun a d => ld_val hV (off7 i hc 0) _ a d) j, ent_score (fun a d => ld_key hK (off3 i hc 1) _ a d) hQ (fun a d => ld_val hV (off7 i hc 1) _ a d) j, fun _ h => absurd h List.not_mem_nil⟩

theorem headA10_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : k0_cond1 i = 1#1) :
    Inv j (headA10 i x1 x2 q h) (fun r => td K Q V 0 j (2 * (i 2).val + 1) r + ((ts K Q V 0 j (2 * (i 2).val) r + (ts K Q V 0 j (2 * (i 2).val - 1 - 0) r + (ts K Q V 0 j (2 * (i 2).val - 1 - 1) r + 0))))) := by
  have hc := (cond1_iff i).1 h
  refine upd_first (_, _) (td K Q V 0 j (2 * (i 2).val + 1)) (ent_scoreD (fun a d => ld_key hK (off1 i) _ a d) hQ
      (fun a d => ld_val hV (off8 i) _ a d) j) 0 _ (scoreD_first (fun a d => ld_key hK (off1 i) _ a d) hQ j)
    [((_, _), ts K Q V 0 j (2 * (i 2).val)), ((_, _), ts K Q V 0 j (2 * (i 2).val - 1 - 0)), ((_, _), ts K Q V 0 j (2 * (i 2).val - 1 - 1))] ?_
  simp only [List.forall_mem_cons]
  exact ⟨ent_score (fun a d => ld_key hK (off2 i) _ a d) hQ (fun a d => ld_val hV (off4 i) _ a d) j, ent_score (fun a d => ld_key hK (off3 i hc 0) _ a d) hQ (fun a d => ld_val hV (off5 i hc 0) _ a d) j, ent_score (fun a d => ld_key hK (off3 i hc 1) _ a d) hQ (fun a d => ld_val hV (off5 i hc 1) _ a d) j, fun _ h => absurd h List.not_mem_nil⟩

theorem headA11_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : k0_cond1 i = 1#1) :
    Inv j (headA11 i x1 x2 q h) (fun r => td K Q V 64 j (2 * (i 2).val + 1) r + ((ts K Q V 64 j (2 * (i 2).val) r + (ts K Q V 64 j (2 * (i 2).val - 1 - 0) r + (ts K Q V 64 j (2 * (i 2).val - 1 - 1) r + 0))))) := by
  have hc := (cond1_iff i).1 h
  refine upd_first (_, _) (td K Q V 64 j (2 * (i 2).val + 1)) (ent_scoreD (fun a d => ld_key hK (off1 i) _ a d) hQ
      (fun a d => ld_val hV (off9 i) _ a d) j) 0 _ (scoreD_first (fun a d => ld_key hK (off1 i) _ a d) hQ j)
    [((_, _), ts K Q V 64 j (2 * (i 2).val)), ((_, _), ts K Q V 64 j (2 * (i 2).val - 1 - 0)), ((_, _), ts K Q V 64 j (2 * (i 2).val - 1 - 1))] ?_
  simp only [List.forall_mem_cons]
  exact ⟨ent_score (fun a d => ld_key hK (off2 i) _ a d) hQ (fun a d => ld_val hV (off6 i) _ a d) j, ent_score (fun a d => ld_key hK (off3 i hc 0) _ a d) hQ (fun a d => ld_val hV (off7 i hc 0) _ a d) j, ent_score (fun a d => ld_key hK (off3 i hc 1) _ a d) hQ (fun a d => ld_val hV (off7 i hc 1) _ a d) j, fun _ h => absurd h List.not_mem_nil⟩

theorem headB00_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : ¬k0_cond1 i = 1#1) :
    Inv j (headB00 i x1 x2 q h) (fun r => td K Q V 0 j (2 * (i 2).val) r + (0)) := by
  refine upd_first (_, _) (td K Q V 0 j (2 * (i 2).val)) (ent_scoreD (fun a d => ld_key hK (off11 i) _ a d) hQ
      (fun a d => ld_val hV (off12 i) _ a d) j) 0 _ (scoreD_first (fun a d => ld_key hK (off11 i) _ a d) hQ j)
    [] ?_
  exact fun _ h => absurd h List.not_mem_nil

theorem headB01_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : ¬k0_cond1 i = 1#1) :
    Inv j (headB01 i x1 x2 q h) (fun r => td K Q V 64 j (2 * (i 2).val) r + (0)) := by
  refine upd_first (_, _) (td K Q V 64 j (2 * (i 2).val)) (ent_scoreD (fun a d => ld_key hK (off11 i) _ a d) hQ
      (fun a d => ld_val hV (off13 i) _ a d) j) 0 _ (scoreD_first (fun a d => ld_key hK (off11 i) _ a d) hQ j)
    [] ?_
  exact fun _ h => absurd h List.not_mem_nil

theorem headB10_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : ¬k0_cond1 i = 1#1) :
    Inv j (headB10 i x1 x2 q h) (fun r => td K Q V 0 j (2 * (i 2).val + 1) r + ((ts K Q V 0 j (2 * (i 2).val) r + 0))) := by
  refine upd_first (_, _) (td K Q V 0 j (2 * (i 2).val + 1)) (ent_scoreD (fun a d => ld_key hK (off10 i) _ a d) hQ
      (fun a d => ld_val hV (off14 i) _ a d) j) 0 _ (scoreD_first (fun a d => ld_key hK (off10 i) _ a d) hQ j)
    [((_, _), ts K Q V 0 j (2 * (i 2).val))] ?_
  simp only [List.forall_mem_cons]
  exact ⟨ent_score (fun a d => ld_key hK (off11 i) _ a d) hQ (fun a d => ld_val hV (off12 i) _ a d) j, fun _ h => absurd h List.not_mem_nil⟩

theorem headB11_inv (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) (h : ¬k0_cond1 i = 1#1) :
    Inv j (headB11 i x1 x2 q h) (fun r => td K Q V 64 j (2 * (i 2).val + 1) r + ((ts K Q V 64 j (2 * (i 2).val) r + 0))) := by
  refine upd_first (_, _) (td K Q V 64 j (2 * (i 2).val + 1)) (ent_scoreD (fun a d => ld_key hK (off10 i) _ a d) hQ
      (fun a d => ld_val hV (off15 i) _ a d) j) 0 _ (scoreD_first (fun a d => ld_key hK (off10 i) _ a d) hQ j)
    [((_, _), ts K Q V 64 j (2 * (i 2).val))] ?_
  simp only [List.forall_mem_cons]
  exact ⟨ent_score (fun a d => ld_key hK (off11 i) _ a d) hQ (fun a d => ld_val hV (off13 i) _ a d) j, fun _ h => absurd h List.not_mem_nil⟩

/-- A stream's sums at the end. -/
theorem fin00_eq (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) : ∃ μ : ℝ, ∀ r, fin00 i x1 x2 q (ix2 r j)
      = (((2 : ℝ) ^ (-μ) * tot K Q V 0 j (2 * (i 2).val) r : ℝ) : EReal) := by
  have hI : Inv j (run0 i x1 x2 q (head00 i x1 x2 q) (k0_t1_loop i).trips) (tot K Q V 0 j (2 * (i 2).val)) := by
    rw [trips1]
    by_cases h : k0_cond1 i = 1#1
    · have hc := (cond1_iff i).1 h
      rw [head00, dif_pos h]
      refine (run0_inv hK hV hQ (headA00_inv hK hV hQ j h) _ le_rfl).congr fun r => ?_
      rw [tot]
      obtain ⟨a, ha⟩ : ∃ a, (i 2).val = 2 * a + 1 := ⟨(i 2).val / 2, by omega⟩
      rw [ha, show (2 * a + 1) / 2 = a by omega, Nat.sub_self, Finset.sum_range_zero]
      rw [show 2 * (2 * a + 1) = 4 * a + 2 by omega, show 4 * a + 2 - 1 - 0 = 4 * a + 1 by omega,
        show 4 * a + 2 - 1 - 1 = 4 * a by omega]
      simp only [Finset.sum_range_succ]
      ring
    · have hc := mt (cond1_iff i).2 h
      rw [head00, dif_neg h]
      refine (run0_inv hK hV hQ (headB00_inv hK hV hQ j h) _ le_rfl).congr fun r => ?_
      rw [tot]
      obtain ⟨a, ha⟩ : ∃ a, (i 2).val = 2 * a := ⟨(i 2).val / 2, by omega⟩
      rw [ha, show (2 * a) / 2 = a by omega, Nat.sub_self, Finset.sum_range_zero]
      rw [show 2 * (2 * a) = 4 * a by omega]
      skip
      ring
  obtain ⟨μ, -, h⟩ := hI
  exact ⟨μ, h⟩

/-- A stream's sums at the end. -/
theorem fin01_eq (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) : ∃ μ : ℝ, ∀ r, fin01 i x1 x2 q (ix2 r j)
      = (((2 : ℝ) ^ (-μ) * tot K Q V 64 j (2 * (i 2).val) r : ℝ) : EReal) := by
  have hI : Inv j (run1 i x1 x2 q (head01 i x1 x2 q) (k0_t1_loop i).trips) (tot K Q V 64 j (2 * (i 2).val)) := by
    rw [trips1]
    by_cases h : k0_cond1 i = 1#1
    · have hc := (cond1_iff i).1 h
      rw [head01, dif_pos h]
      refine (run1_inv hK hV hQ (headA01_inv hK hV hQ j h) _ le_rfl).congr fun r => ?_
      rw [tot]
      obtain ⟨a, ha⟩ : ∃ a, (i 2).val = 2 * a + 1 := ⟨(i 2).val / 2, by omega⟩
      rw [ha, show (2 * a + 1) / 2 = a by omega, Nat.sub_self, Finset.sum_range_zero]
      rw [show 2 * (2 * a + 1) = 4 * a + 2 by omega, show 4 * a + 2 - 1 - 0 = 4 * a + 1 by omega,
        show 4 * a + 2 - 1 - 1 = 4 * a by omega]
      simp only [Finset.sum_range_succ]
      ring
    · have hc := mt (cond1_iff i).2 h
      rw [head01, dif_neg h]
      refine (run1_inv hK hV hQ (headB01_inv hK hV hQ j h) _ le_rfl).congr fun r => ?_
      rw [tot]
      obtain ⟨a, ha⟩ : ∃ a, (i 2).val = 2 * a := ⟨(i 2).val / 2, by omega⟩
      rw [ha, show (2 * a) / 2 = a by omega, Nat.sub_self, Finset.sum_range_zero]
      rw [show 2 * (2 * a) = 4 * a by omega]
      skip
      ring
  obtain ⟨μ, -, h⟩ := hI
  exact ⟨μ, h⟩

/-- A stream's sums at the end. -/
theorem fin10_eq (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) : ∃ μ : ℝ, ∀ r, fin10 i x1 x2 q (ix2 r j)
      = (((2 : ℝ) ^ (-μ) * tot K Q V 0 j (2 * (i 2).val + 1) r : ℝ) : EReal) := by
  have hI : Inv j (run0 i x1 x2 q (head10 i x1 x2 q) (k0_t1_loop i).trips) (tot K Q V 0 j (2 * (i 2).val + 1)) := by
    rw [trips1]
    by_cases h : k0_cond1 i = 1#1
    · have hc := (cond1_iff i).1 h
      rw [head10, dif_pos h]
      refine (run0_inv hK hV hQ (headA10_inv hK hV hQ j h) _ le_rfl).congr fun r => ?_
      rw [tot]
      obtain ⟨a, ha⟩ : ∃ a, (i 2).val = 2 * a + 1 := ⟨(i 2).val / 2, by omega⟩
      rw [ha, show (2 * a + 1) / 2 = a by omega, Nat.sub_self, Finset.sum_range_zero]
      rw [show 2 * (2 * a + 1) = 4 * a + 2 by omega, show 4 * a + 2 - 1 - 0 = 4 * a + 1 by omega,
        show 4 * a + 2 - 1 - 1 = 4 * a by omega]
      simp only [Finset.sum_range_succ]
      ring
    · have hc := mt (cond1_iff i).2 h
      rw [head10, dif_neg h]
      refine (run0_inv hK hV hQ (headB10_inv hK hV hQ j h) _ le_rfl).congr fun r => ?_
      rw [tot]
      obtain ⟨a, ha⟩ : ∃ a, (i 2).val = 2 * a := ⟨(i 2).val / 2, by omega⟩
      rw [ha, show (2 * a) / 2 = a by omega, Nat.sub_self, Finset.sum_range_zero]
      rw [show 2 * (2 * a) = 4 * a by omega]
      simp only [Finset.sum_range_succ]
      ring
  obtain ⟨μ, -, h⟩ := hI
  exact ⟨μ, h⟩

/-- A stream's sums at the end. -/
theorem fin11_eq (hK : ∀ (n : Fin 4096) d, x1 (ix3 0 n d) = (K n.val d : EReal))
    (hV : ∀ (T : Fin 16) (r : Fin 128) k, x2 (ix4 0 T r k) = (V T.val r.val k : EReal))
    (hQ : ∀ d j, q (ix2 d j) = (Q d j : EReal))
    (j : Fin 256) : ∃ μ : ℝ, ∀ r, fin11 i x1 x2 q (ix2 r j)
      = (((2 : ℝ) ^ (-μ) * tot K Q V 64 j (2 * (i 2).val + 1) r : ℝ) : EReal) := by
  have hI : Inv j (run1 i x1 x2 q (head11 i x1 x2 q) (k0_t1_loop i).trips) (tot K Q V 64 j (2 * (i 2).val + 1)) := by
    rw [trips1]
    by_cases h : k0_cond1 i = 1#1
    · have hc := (cond1_iff i).1 h
      rw [head11, dif_pos h]
      refine (run1_inv hK hV hQ (headA11_inv hK hV hQ j h) _ le_rfl).congr fun r => ?_
      rw [tot]
      obtain ⟨a, ha⟩ : ∃ a, (i 2).val = 2 * a + 1 := ⟨(i 2).val / 2, by omega⟩
      rw [ha, show (2 * a + 1) / 2 = a by omega, Nat.sub_self, Finset.sum_range_zero]
      rw [show 2 * (2 * a + 1) = 4 * a + 2 by omega, show 4 * a + 2 - 1 - 0 = 4 * a + 1 by omega,
        show 4 * a + 2 - 1 - 1 = 4 * a by omega]
      simp only [Finset.sum_range_succ]
      ring
    · have hc := mt (cond1_iff i).2 h
      rw [head11, dif_neg h]
      refine (run1_inv hK hV hQ (headB11_inv hK hV hQ j h) _ le_rfl).congr fun r => ?_
      rw [tot]
      obtain ⟨a, ha⟩ : ∃ a, (i 2).val = 2 * a := ⟨(i 2).val / 2, by omega⟩
      rw [ha, show (2 * a) / 2 = a by omega, Nat.sub_self, Finset.sum_range_zero]
      rw [show 2 * (2 * a) = 4 * a by omega]
      simp only [Finset.sum_range_succ]
      ring
  obtain ⟨μ, -, h⟩ := hI
  exact ⟨μ, h⟩

end

end Cert.KernelIdeal.Da
end
-- ==== Proof.Tail.lean ====
/- The end of a grid point, read at an index: a head's difference of two maps, its mean square one, the gate. -/
module

public import proofs.«01_k».proof.Proof.Fins

@[expose] public section

noncomputable section

namespace Cert.KernelIdeal.Da

open Idealize.ShloMosaic Idealize.SL.Sem Cert.KernelIdeal Cert.KernelIdeal.Gen

/-- A head's row over its root mean square, times the gain and 0.8. -/
def normed (o : Fin 64 → EReal) (gain : EReal) (r : Fin 64) : EReal :=
  o r * Ideal.rsqrt (Ideal.div (∑ d : Fin 64, o d * o d) (Ideal.ofBits .f32 0x42800000#32) + Ideal.ofBits .f32 0x358637BD#32)
    * gain * Ideal.ofBits .f32 0x3F4CCCCD#32

/-- The gate's part. -/
def gated (x : EReal) : EReal := x * Ideal.div 1 (1 + Ideal.exp (-x))

/-- The difference of the two maps' rows. -/
def diffRow (a b : FVec Ideal S80x256 .f32) (lam : EReal) (j : Fin 256) (r : Fin 64) : EReal :=
  Ideal.div (a (ix2 ⟨r.val, by omega⟩ j)) (a (ix2 64 j)) - lam * Ideal.div (b (ix2 ⟨r.val, by omega⟩ j)) (b (ix2 64 j))

theorem headOut_apply (a b : FVec Ideal S80x256 .f32) (lam : FVec Ideal S1x1 .f32) (g : Vec Ideal S64x1 .f32)
    (r : Fin 64) (j : Fin 256) :
    headOut a b lam g (ix2 r j) = normed (diffRow a b (lam (ix2 0 0)) j) (g (ix2 r 0)) r := by
  pointwise [headOut, k0_pay414, normed, diffRow]

theorem tileOut_apply (a b : FVec Ideal S64x256 .f32) (g : Vec Ideal S1x1x128x256 .bf16) (r : Fin 128) (j : Fin 256) :
    tileOut a b g (ix4 0 0 r j)
      = (if h : r.val < 64 then a (ix2 ⟨r.val, h⟩ j) else b (ix2 ⟨r.val - 64, by omega⟩ j)) * gated (g (ix4 0 0 r j)) := by
  pointwise [tileOut, k0_pay413, gated]
  rw [zero_sub]

/-- The weight of the second map. -/
theorem lam_apply (x4 : Vec Ideal S4x32 .f32) :
    k0_pay409 (View.ld x4 rl) (ix2 0 0)
      = Ideal.exp (∑ d : Fin 32, x4 (ix2 0 d) * x4 (ix2 1 d)) - Ideal.exp (∑ d : Fin 32, x4 (ix2 2 d) * x4 (ix2 3 d))
        + Ideal.ofBits .f32 0x3E4CCCCD#32 := by
  pointwise [k0_pay409, View.ld]

theorem gain_apply (x5 : Vec Ideal S64x1 .f32) (r : Fin 64) : View.ld x5 rg (ix2 r 0) = x5 (ix2 r 0) := by
  pointwise [View.ld]

theorem ld_t0 (x : Vec Ideal S1x2x128x256 .bf16) (r : Fin 128) (j : Fin 256) :
    View.ld x t0 (ix4 0 0 r j) = x (ix4 0 0 r j) := by
  pointwise [View.ld]

theorem ld_t1 (x : Vec Ideal S1x2x128x256 .bf16) (r : Fin 128) (j : Fin 256) :
    View.ld x t1 (ix4 0 0 r j) = x (ix4 0 1 r j) := by
  pointwise [View.ld]

theorem mask_rows : ∀ (d : Fin 128) (c : Fin 4),
    (IntOp.andi (IntOp.cmpi CmpIPredicate.sge (BitVec.ofNat 32 d.val) (BitVec.ofNat 32 (32 * c.val)))
        (IntOp.cmpi CmpIPredicate.slt (BitVec.ofNat 32 d.val) (BitVec.ofNat 32 (32 * c.val + 32)))) = 1#1
      ↔ d.val / 32 = c.val := by
  decide +kernel

theorem rowsOf_apply (c : Fin 4) (x : Vec Ideal S1x1x128x256 .bf16) (d : Fin 128) (j : Fin 256) :
    rowsOf (BitVec.ofNat 32 (32 * c.val)) (BitVec.ofNat 32 (32 * c.val + 32)) x (ix2 d j)
      = if d.val / 32 = c.val then x (ix4 0 0 d j) else 0 := by
  pointwise [rowsOf]
  unfold Scalar.select
  refine if_congr (Iff.trans (mask_rows d c) ?_) rfl rfl
  rfl

end Cert.KernelIdeal.Da
end
-- ==== Proof.Point.lean ====
/- What a grid point leaves in its block of the result, from the reals its blocks hold. -/
module

public import proofs.«01_k».proof.Proof.Tail

@[expose] public section

noncomputable section

namespace Cert.KernelIdeal.Da

open Idealize.ShloMosaic Idealize.SL.Sem Cert.KernelIdeal Cert.KernelIdeal.Gen

/-- The queries of map `c` of a pair of heads: its 32 rows, zeros elsewhere. -/
def qc (c : ℕ) (X : Fin 128 → Fin 256 → ℝ) (d : Fin 128) (j : Fin 256) : ℝ := if d.val / 32 = c then X d j else 0

/-- The mean of a head's values that map `c` takes for a query. -/
def mapRow (K : ℕ → Fin 128 → ℝ) (X : Fin 128 → Fin 256 → ℝ) (V : ℕ → ℕ → Fin 256 → ℝ) (Tq : ℕ) (j : Fin 256) (c o : ℕ)
    (r : Fin 64) : ℝ :=
  tot K (qc c X) V o j Tq ⟨r.val, by omega⟩ / tot K (qc c X) V o j Tq 64

/-- The block's element in row `row` of tile `Tq`. -/
def ptVal (K : ℕ → Fin 128 → ℝ) (X : Fin 128 → Fin 256 → ℝ) (V : ℕ → ℕ → Fin 256 → ℝ) (lam : ℝ) (gain : Fin 64 → EReal)
    (gate : EReal) (Tq : ℕ) (row : Fin 128) (j : Fin 256) : EReal :=
  normed (fun r => ((mapRow K X V Tq j (2 * (row.val / 64)) (64 * (row.val / 64)) r
      - lam * mapRow K X V Tq j (2 * (row.val / 64) + 1) (64 * (row.val / 64)) r : ℝ) : EReal))
    (gain ⟨row.val % 64, by omega⟩) ⟨row.val % 64, by omega⟩ * gated gate

theorem tot_pos (K : ℕ → Fin 128 → ℝ) (Q : Fin 128 → Fin 256 → ℝ) (V : ℕ → ℕ → Fin 256 → ℝ) (o : ℕ) (j : Fin 256) (Tq : ℕ) :
    0 < tot K Q V o j Tq 64 := by
  have hv : ∀ T k, vv V o T 64 k = 1 := fun T k => if_neg (by decide)
  refine add_pos_of_pos_of_nonneg ?_ (Finset.sum_nonneg fun T _ => Finset.sum_nonneg fun k _ => ?_)
  · refine Finset.sum_pos' (fun k _ => ?_) ⟨0, Finset.mem_univ _, ?_⟩
    · rw [hv, one_mul]; split <;> positivity
    · rw [hv, one_mul, if_pos (by simp)]; positivity
  · rw [hv, one_mul]; positivity

theorem div_scaled (s N D : ℝ) (hs : 0 < s) (hD : 0 < D) :
    Ideal.div ((s * N : ℝ) : EReal) ((s * D : ℝ) : EReal) = ((N / D : ℝ) : EReal) := by
  rw [Ideal.div_coe (by positivity), ← EReal.coe_mul]
  congr 1
  field_simp

theorem diffRow_eq {a b : FVec Ideal S80x256 .f32} {A B : Fin 80 → ℝ} {j : Fin 256}
    (ha : ∃ μ : ℝ, ∀ r, a (ix2 r j) = (((2 : ℝ) ^ (-μ) * A r : ℝ) : EReal))
    (hb : ∃ μ : ℝ, ∀ r, b (ix2 r j) = (((2 : ℝ) ^ (-μ) * B r : ℝ) : EReal)) (hA : 0 < A 64) (hB : 0 < B 64) (lam : ℝ) (r : Fin 64) :
    diffRow a b (lam : EReal) j r = ((A ⟨r.val, by omega⟩ / A 64 - lam * (B ⟨r.val, by omega⟩ / B 64) : ℝ) : EReal) := by
  obtain ⟨μ, ha⟩ := ha
  obtain ⟨ν, hb⟩ := hb
  rw [diffRow, ha, ha, hb, hb, div_scaled _ _ _ (by positivity) hA, div_scaled _ _ _ (by positivity) hB, ← EReal.coe_mul,
    ← EReal.coe_sub]

theorem qrow {X : Fin 128 → Fin 256 → ℝ} {x : Vec Ideal S1x1x128x256 .bf16} (h : ∀ d j, x (ix4 0 0 d j) = (X d j : EReal))
    (c : Fin 4) (d : Fin 128) (j : Fin 256) :
    rowsOf (BitVec.ofNat 32 (32 * c.val)) (BitVec.ofNat 32 (32 * c.val + 32)) x (ix2 d j) = (qc c.val X d j : EReal) := by
  rw [rowsOf_apply, qc]
  split
  · rw [h]
  · rfl

section

variable {K : ℕ → Fin 128 → ℝ} {X : ℕ → Fin 128 → Fin 256 → ℝ} {V : ℕ → ℕ → Fin 256 → ℝ} {lam : ℝ}
  {i : grid0.Coords} {x0 : Vec Ideal S1x2x128x256 .bf16} {x1 : Vec Ideal S1x4096x128 .bf16} {x2 : Vec Ideal S1x16x128x256 .bf16}
  {x3 : Vec Ideal S1x2x128x256 .bf16} {x4 : Vec Ideal S4x32 .f32} {x5 : Vec Ideal S64x1 .f32}

theorem out0_apply (hK : ∀ (n : Fin 4096) d, x1 (ix3 0 n d) = (K n.val d : EReal))
    (hV : ∀ (T : Fin 16) (r : Fin 128) k, x2 (ix4 0 T r k) = (V T.val r.val k : EReal))
    (hX : ∀ (u : Fin 2) d j, x0 (ix4 0 u d j) = (X u.val d j : EReal))
    (hl : k0_pay409 (View.ld x4 rl) (ix2 0 0) = (lam : EReal)) (row : Fin 128) (j : Fin 256) :
    out0 i x0 x1 x2 x3 x4 x5 (ix4 0 0 row j)
      = ptVal K (X 0) V lam (fun r => x5 (ix2 r 0)) (x3 (ix4 0 0 row j)) (2 * (i 2).val) row j := by
  rw [out0, tileOut_apply, ptVal, ld_t0]
  congr 1
  have hx : ∀ d j, View.ld x0 t0 (ix4 0 0 d j) = (X 0 d j : EReal) := fun d j => (ld_t0 x0 d j).trans (hX 0 d j)
  by_cases h : row.val < 64
  · rw [dif_pos h, headOut_apply, hl, gain_apply]
    have h1 : row.val / 64 = 0 := by omega
    have h2 : row.val % 64 = row.val := by omega
    simp only [h1, h2]
    congr 1
    funext r
    exact diffRow_eq (fin00_eq hK hV (qrow hx 0) j) (fin00_eq hK hV (qrow hx 1) j) (tot_pos ..) (tot_pos ..) lam r
  · rw [dif_neg h, headOut_apply, hl, gain_apply]
    have h1 : row.val / 64 = 1 := by omega
    have h2 : row.val % 64 = row.val - 64 := by omega
    simp only [h1, h2]
    congr 1
    funext r
    exact diffRow_eq (fin01_eq hK hV (qrow hx 2) j) (fin01_eq hK hV (qrow hx 3) j) (tot_pos ..) (tot_pos ..) lam r

theorem out1_apply (hK : ∀ (n : Fin 4096) d, x1 (ix3 0 n d) = (K n.val d : EReal))
    (hV : ∀ (T : Fin 16) (r : Fin 128) k, x2 (ix4 0 T r k) = (V T.val r.val k : EReal))
    (hX : ∀ (u : Fin 2) d j, x0 (ix4 0 u d j) = (X u.val d j : EReal))
    (hl : k0_pay409 (View.ld x4 rl) (ix2 0 0) = (lam : EReal)) (row : Fin 128) (j : Fin 256) :
    out1 i x0 x1 x2 x3 x4 x5 (ix4 0 0 row j)
      = ptVal K (X 1) V lam (fun r => x5 (ix2 r 0)) (x3 (ix4 0 1 row j)) (2 * (i 2).val + 1) row j := by
  rw [out1, tileOut_apply, ptVal, ld_t1]
  congr 1
  have hx : ∀ d j, View.ld x0 t1 (ix4 0 0 d j) = (X 1 d j : EReal) := fun d j => (ld_t1 x0 d j).trans (hX 1 d j)
  by_cases h : row.val < 64
  · rw [dif_pos h, headOut_apply, hl, gain_apply]
    have h1 : row.val / 64 = 0 := by omega
    have h2 : row.val % 64 = row.val := by omega
    simp only [h1, h2]
    congr 1
    funext r
    exact diffRow_eq (fin10_eq hK hV (qrow hx 0) j) (fin10_eq hK hV (qrow hx 1) j) (tot_pos ..) (tot_pos ..) lam r
  · rw [dif_neg h, headOut_apply, hl, gain_apply]
    have h1 : row.val / 64 = 1 := by omega
    have h2 : row.val % 64 = row.val - 64 := by omega
    simp only [h1, h2]
    congr 1
    funext r
    exact diffRow_eq (fin11_eq hK hV (qrow hx 2) j) (fin11_eq hK hV (qrow hx 3) j) (tot_pos ..) (tot_pos ..) lam r

theorem idx_tile (x : S1x1x128x256.Idx) : ∃ r j, x = ix4 0 0 r j :=
  ⟨x 2, x 3, (eq_ix4 (n0 := 1) (n1 := 1) (n2 := 128) (n3 := 256) x).trans (by
    rw [Subsingleton.elim (α := Fin 1) (x 0) 0, Subsingleton.elim (α := Fin 1) (x 1) 0])⟩

/-- What the block holds, index by index. -/
def blkVal (K : ℕ → Fin 128 → ℝ) (X : ℕ → Fin 128 → Fin 256 → ℝ) (V : ℕ → ℕ → Fin 256 → ℝ) (lam : ℝ) (x3 : Vec Ideal S1x2x128x256 .bf16)
    (x5 : Vec Ideal S64x1 .f32) (a : ℕ) (y : S1x2x128x256.Idx) : Elt Ideal .bf16 :=
  ptVal K (X (y 1).val) V lam (fun r => x5 (ix2 r 0)) (x3 y) (2 * a + (y 1).val) (y 2) (y 3)

/-- The whole block. -/
theorem out_apply (hK : ∀ (n : Fin 4096) d, x1 (ix3 0 n d) = (K n.val d : EReal))
    (hV : ∀ (T : Fin 16) (r : Fin 128) k, x2 (ix4 0 T r k) = (V T.val r.val k : EReal))
    (hX : ∀ (u : Fin 2) d j, x0 (ix4 0 u d j) = (X u.val d j : EReal))
    (hl : k0_pay409 (View.ld x4 rl) (ix2 0 0) = (lam : EReal)) (y : S1x2x128x256.Idx) :
    out i x0 x1 x2 x3 x4 x5 y = blkVal K X V lam x3 x5 (i 2).val y := by
  refine View.canon_apply_of_pieces (blkVal K X V lam x3 x5 (i 2).val) _ ?_ y (cover _ _ _)
  simp only [List.forall_mem_cons]
  refine ⟨fun x => ?_, fun x => ?_, fun _ h => absurd h List.not_mem_nil⟩
  · obtain ⟨r, j, rfl⟩ := idx_tile x
    refine (out1_apply hK hV hX hl r j).trans ?_
    exact (ld_t1 (blkVal K X V lam x3 x5 (i 2).val) r j).symm
  · obtain ⟨r, j, rfl⟩ := idx_tile x
    refine (out0_apply hK hV hX hl r j).trans ?_
    exact (ld_t0 (blkVal K X V lam x3 x5 (i 2).val) r j).symm

end

end Cert.KernelIdeal.Da
end
-- ==== Proof.Array.lean ====
/- The blocks of the call, read at an index of the arguments, and the whole result array. -/
module

public import proofs.«01_k».proof.Proof.Layout
public import proofs.«01_k».proof.Proof.Point
public import proofs.«01_k».proof.Proof.Run
public import Idealize.ShloMosaic.Lib.Pipeline.Value

@[expose] public section

set_option maxRecDepth 16384

noncomputable section

namespace Cert.KernelIdeal.Da

open Idealize.ShloMosaic Idealize.ShloMosaic.TcCoe Idealize.SL.Sem Cert.KernelIdeal Cert.KernelIdeal.Gen

theorem tr0 (i : grid0.Coords) : cc0_transform_0 i = ![(i 0).val, (i 2).val, 18 + (i 1).val, 0] := by
  have h0 : (i 0).val < 8 := (i 0).isLt
  have h1 : (i 1).val < 2 := (i 1).isLt
  have h2 : (i 2).val < 8 := (i 2).isLt
  simp [cc0_transform_0, Scalar.addi, IntOp.addi, BitVec.toNat_add, BitVec.toNat_ofNat]
  omega

theorem tr1 (i : grid0.Coords) : cc0_transform_1 i = ![(i 0).val, 0, 6 + (i 1).val] := by
  have h0 : (i 0).val < 8 := (i 0).isLt
  have h1 : (i 1).val < 2 := (i 1).isLt
  simp [cc0_transform_1, Scalar.addi, IntOp.addi, BitVec.toNat_add, BitVec.toNat_ofNat]
  omega

theorem tr2 (i : grid0.Coords) : cc0_transform_2 i = ![(i 0).val, 0, 20 + (i 1).val, 0] := by
  have h0 : (i 0).val < 8 := (i 0).isLt
  have h1 : (i 1).val < 2 := (i 1).isLt
  simp [cc0_transform_2, Scalar.addi, IntOp.addi, BitVec.toNat_add, BitVec.toNat_ofNat]
  omega

theorem tr3 (i : grid0.Coords) : cc0_transform_3 i = ![(i 0).val, (i 2).val, 22 + (i 1).val, 0] := by
  have h0 : (i 0).val < 8 := (i 0).isLt
  have h1 : (i 1).val < 2 := (i 1).isLt
  have h2 : (i 2).val < 8 := (i 2).isLt
  simp [cc0_transform_3, Scalar.addi, IntOp.addi, BitVec.toNat_add, BitVec.toNat_ofNat]
  omega

theorem tr6 (i : grid0.Coords) : cc0_transform_6 i = ![(i 0).val, (i 2).val, (i 1).val, 0] := by
  have h0 : (i 0).val < 8 := (i 0).isLt
  have h1 : (i 1).val < 2 := (i 1).isLt
  have h2 : (i 2).val < 8 := (i 2).isLt
  simp [cc0_transform_6, BitVec.toNat_ofNat]
  omega

/-- The grid coordinates of a point, in their ranges. -/
def gb (t : Fin cfg0.N) : Fin 8 := grid0.coords t 0
def gp (t : Fin cfg0.N) : Fin 2 := grid0.coords t 1
def gi (t : Fin cfg0.N) : Fin 8 := grid0.coords t 2

theorem emb0 (t : Fin cfg0.N) (u : Fin 2) (d : Fin 128) (j : Fin 256) :
    (win0_0.rect t).emb (ix4 0 u d j) = ix4 (gb t) ⟨2 * (gi t).val + u.val, by have := (gi t).isLt; omega⟩
      ⟨2304 + (128 * (gp t).val + d.val), by have := (gp t).isLt; omega⟩ j := by
  funext a
  have e := win0_0.rect_emb_val t (ix4 0 u d j) a
  have h : win0_0.index t = _ := tr0 (grid0.coords t)
  rw [h] at e
  refine Fin.ext (e.trans ?_)
  match a with
  | ⟨0, _⟩ => show (gb t).val * 1 + 0 = (gb t).val; omega
  | ⟨1, _⟩ => show (gi t).val * 2 + u.val = 2 * (gi t).val + u.val; omega
  | ⟨2, _⟩ => show (18 + (gp t).val) * 128 + d.val = 2304 + (128 * (gp t).val + d.val); omega
  | ⟨3, _⟩ => show 0 * 256 + j.val = j.val; omega

theorem emb1 (t : Fin cfg0.N) (n : Fin 4096) (d : Fin 128) :
    (win0_1.rect t).emb (ix3 0 n d) = ix3 (gb t) n ⟨768 + (128 * (gp t).val + d.val), by have := (gp t).isLt; omega⟩ := by
  funext a
  have e := win0_1.rect_emb_val t (ix3 0 n d) a
  have h : win0_1.index t = _ := tr1 (grid0.coords t)
  rw [h] at e
  refine Fin.ext (e.trans ?_)
  match a with
  | ⟨0, _⟩ => show (gb t).val * 1 + 0 = (gb t).val; omega
  | ⟨1, _⟩ => show 0 * 4096 + n.val = n.val; omega
  | ⟨2, _⟩ => show (6 + (gp t).val) * 128 + d.val = 768 + (128 * (gp t).val + d.val); omega

theorem emb2 (t : Fin cfg0.N) (T : Fin 16) (d : Fin 128) (j : Fin 256) :
    (win0_2.rect t).emb (ix4 0 T d j) = ix4 (gb t) T
      ⟨2560 + (128 * (gp t).val + d.val), by have := (gp t).isLt; omega⟩ j := by
  funext a
  have e := win0_2.rect_emb_val t (ix4 0 T d j) a
  have h : win0_2.index t = _ := tr2 (grid0.coords t)
  rw [h] at e
  refine Fin.ext (e.trans ?_)
  match a with
  | ⟨0, _⟩ => show (gb t).val * 1 + 0 = (gb t).val; omega
  | ⟨1, _⟩ => show 0 * 16 + T.val = T.val; omega
  | ⟨2, _⟩ => show (20 + (gp t).val) * 128 + d.val = 2560 + (128 * (gp t).val + d.val); omega
  | ⟨3, _⟩ => show 0 * 256 + j.val = j.val; omega

theorem emb3 (t : Fin cfg0.N) (u : Fin 2) (d : Fin 128) (j : Fin 256) :
    (win0_3.rect t).emb (ix4 0 u d j) = ix4 (gb t) ⟨2 * (gi t).val + u.val, by have := (gi t).isLt; omega⟩
      ⟨2816 + (128 * (gp t).val + d.val), by have := (gp t).isLt; omega⟩ j := by
  funext a
  have e := win0_3.rect_emb_val t (ix4 0 u d j) a
  have h : win0_3.index t = _ := tr3 (grid0.coords t)
  rw [h] at e
  refine Fin.ext (e.trans ?_)
  match a with
  | ⟨0, _⟩ => show (gb t).val * 1 + 0 = (gb t).val; omega
  | ⟨1, _⟩ => show (gi t).val * 2 + u.val = 2 * (gi t).val + u.val; omega
  | ⟨2, _⟩ => show (22 + (gp t).val) * 128 + d.val = 2816 + (128 * (gp t).val + d.val); omega
  | ⟨3, _⟩ => show 0 * 256 + j.val = j.val; omega

theorem emb6 (t : Fin cfg0.N) (u : Fin 2) (d : Fin 128) (j : Fin 256) :
    (win0_6.rect t).emb (ix4 0 u d j) = ix4 (gb t) ⟨2 * (gi t).val + u.val, by have := (gi t).isLt; omega⟩
      ⟨128 * (gp t).val + d.val, by have := (gp t).isLt; omega⟩ j := by
  funext a
  have e := win0_6.rect_emb_val t (ix4 0 u d j) a
  have h : win0_6.index t = _ := tr6 (grid0.coords t)
  rw [h] at e
  refine Fin.ext (e.trans ?_)
  match a with
  | ⟨0, _⟩ => show (gb t).val * 1 + 0 = (gb t).val; omega
  | ⟨1, _⟩ => show (gi t).val * 2 + u.val = 2 * (gi t).val + u.val; omega
  | ⟨2, _⟩ => show (gp t).val * 128 + d.val = 128 * (gp t).val + d.val; omega
  | ⟨3, _⟩ => show 0 * 256 + j.val = j.val; omega

theorem emb4 (t : Fin cfg0.N) (y : S4x32.Idx) : (win0_4.rect t).emb y = y := by
  funext a
  have e := win0_4.rect_emb_val t y a
  refine Fin.ext (e.trans ?_)
  match a with
  | ⟨0, _⟩ => show 0 * 4 + (y 0).val = (y 0).val; omega
  | ⟨1, _⟩ => show 0 * 32 + (y 1).val = (y 1).val; omega

theorem emb5 (t : Fin cfg0.N) (y : S64x1.Idx) : (win0_5.rect t).emb y = y := by
  funext a
  have e := win0_5.rect_emb_val t y a
  refine Fin.ext (e.trans ?_)
  match a with
  | ⟨0, _⟩ => show 0 * 64 + (y 0).val = (y 0).val; omega
  | ⟨1, _⟩ => show 0 * 1 + (y 1).val = (y 1).val; omega

section reads
variable (m : (ℓ : Loc nD τ sig) → Buf (Elt Ideal) ℓ) (c : Dev nD) (t : Fin cfg0.N)

theorem iblk0 (u : Fin 2) (d : Fin 128) (j : Fin 256) :
    iblk m c 0 t (ix4 0 u d j) = @HMul.hMul EReal EReal EReal _ ((m ((c : Thread nD τ).loc main_arg0) : FVec Ideal S8x4096x256 .f32)
      (ix3 (gb t) ⟨(2 * (gi t).val + u.val) * 256 + j.val, by have := (gi t).isLt; omega⟩
        ⟨128 * (gp t).val + d.val, by have := (gp t).isLt; omega⟩)) scale := by
  show V m c main_v15 ((win0_0.rect t).emb (ix4 0 u d j)) = _
  rw [emb0, V_qvg]
  exact qvg_q _ _ _ (gb t) ⟨2 * (gi t).val + u.val, _⟩ ⟨128 * (gp t).val + d.val, by have := (gp t).isLt; omega⟩ j

theorem iblk1 (n : Fin 4096) (d : Fin 128) :
    iblk m c 1 t (ix3 0 n d) = (m ((c : Thread nD τ).loc main_arg1) : FVec Ideal S8x4096x256 .f32)
      (ix3 (gb t) n ⟨128 * (gp t).val + d.val, by have := (gp t).isLt; omega⟩) := by
  show V m c main_v18 ((win0_1.rect t).emb (ix3 0 n d)) = _
  rw [emb1, V_kk]
  exact kk_k _ (gb t) n ⟨128 * (gp t).val + d.val, by have := (gp t).isLt; omega⟩

theorem iblk2 (T : Fin 16) (d : Fin 128) (j : Fin 256) :
    iblk m c 2 t (ix4 0 T d j) = (m ((c : Thread nD τ).loc main_arg2) : FVec Ideal S8x4096x256 .f32)
      (ix3 (gb t) ⟨T.val * 256 + j.val, by omega⟩ ⟨128 * (gp t).val + d.val, by have := (gp t).isLt; omega⟩) := by
  show V m c main_v15 ((win0_2.rect t).emb (ix4 0 T d j)) = _
  rw [emb2, V_qvg]
  exact qvg_v _ _ _ (gb t) T ⟨128 * (gp t).val + d.val, by have := (gp t).isLt; omega⟩ j

theorem iblk3 (u : Fin 2) (d : Fin 128) (j : Fin 256) :
    iblk m c 3 t (ix4 0 u d j) = (m ((c : Thread nD τ).loc main_arg3) : FVec Ideal S8x4096x256 .f32)
      (ix3 (gb t) ⟨(2 * (gi t).val + u.val) * 256 + j.val, by have := (gi t).isLt; omega⟩
        ⟨128 * (gp t).val + d.val, by have := (gp t).isLt; omega⟩) := by
  show V m c main_v15 ((win0_3.rect t).emb (ix4 0 u d j)) = _
  rw [emb3, V_qvg]
  exact qvg_g _ _ _ (gb t) ⟨2 * (gi t).val + u.val, _⟩ ⟨128 * (gp t).val + d.val, by have := (gp t).isLt; omega⟩ j

theorem iblk4 : iblk m c 4 t = lams (m ((c : Thread nD τ).loc main_arg4)) (m ((c : Thread nD τ).loc main_arg5))
    (m ((c : Thread nD τ).loc main_arg6)) (m ((c : Thread nD τ).loc main_arg7)) := by
  funext y
  show V m c main_v23 ((win0_4.rect t).emb y) = _
  rw [emb4, V_lams]

theorem iblk5 (r : Fin 64) : iblk m c 5 t (ix2 r 0) = (m ((c : Thread nD τ).loc main_arg8) : FVec Ideal S64 .f32) (ix1 r) := by
  show V m c main_v24 ((win0_5.rect t).emb (ix2 r 0)) = _
  rw [emb5, V_gain]
  pointwise
end reads

/-! ## The result array -/

/-- Keys, queries and values of a batch row and a pair of heads, as reals. -/
def KR (k : S8x4096x256.Idx → ℝ) (b : Fin 8) (p : ℕ) (n : ℕ) (d : Fin 128) : ℝ := k (ix3 b (Fin.ofNat 4096 n) (Fin.ofNat 256 (128 * p + d.val)))
def XR (q : S8x4096x256.Idx → ℝ) (s : ℝ) (b : Fin 8) (p T : ℕ) (d : Fin 128) (j : Fin 256) : ℝ :=
  q (ix3 b (Fin.ofNat 4096 (T * 256 + j.val)) (Fin.ofNat 256 (128 * p + d.val))) * s
def VR (v : S8x4096x256.Idx → ℝ) (b : Fin 8) (p : ℕ) (T : ℕ) (r : ℕ) (k : Fin 256) : ℝ :=
  v (ix3 b (Fin.ofNat 4096 (T * 256 + k.val)) (Fin.ofNat 256 (128 * p + r)))

/-- The result at an index. -/
def resVal (q k v : S8x4096x256.Idx → ℝ) (s lam : ℝ) (g : FVec Ideal S8x4096x256 .f32) (gain : FVec Ideal S64 .f32)
    (b : Fin 8) (T : Fin 16) (col : Fin 256) (j : Fin 256) : EReal :=
  ptVal (KR k b (col.val / 128)) (XR q s b (col.val / 128) T.val) (VR v b (col.val / 128)) lam (fun r => gain (ix1 r))
    (g (ix3 b ⟨T.val * 256 + j.val, by omega⟩ col)) T.val ⟨col.val % 128, by omega⟩ j

def resArr (q k v : S8x4096x256.Idx → ℝ) (s lam : ℝ) (g : FVec Ideal S8x4096x256 .f32) (gain : FVec Ideal S64 .f32) :
    Vec Ideal S8x16x256x256 .bf16 := fun i => resVal q k v s lam g gain (i 0) (i 1) (i 2) (i 3)

theorem ofNat_of_lt {n : ℕ} [NeZero n] {a : ℕ} (h : a < n) : Fin.ofNat n a = ⟨a, h⟩ := Fin.ext (Nat.mod_eq_of_lt h)

section final
variable (m : (ℓ : Loc nD τ sig) → Buf (Elt Ideal) ℓ) (c : Dev nD) {q k v : S8x4096x256.Idx → ℝ} {s lam : ℝ}

theorem flushed_eq (hq : ∀ i, (m ((c : Thread nD τ).loc main_arg0) : FVec Ideal S8x4096x256 .f32) i = (q i : EReal))
    (hk : ∀ i, (m ((c : Thread nD τ).loc main_arg1) : FVec Ideal S8x4096x256 .f32) i = (k i : EReal))
    (hv : ∀ i, (m ((c : Thread nD τ).loc main_arg2) : FVec Ideal S8x4096x256 .f32) i = (v i : EReal))
    (hs : scale = (s : EReal))
    (hl : k0_pay409 (View.ld (lams (m ((c : Thread nD τ).loc main_arg4)) (m ((c : Thread nD τ).loc main_arg5))
      (m ((c : Thread nD τ).loc main_arg6)) (m ((c : Thread nD τ).loc main_arg7))) rl) (ix2 0 0) = (lam : EReal)) (t : Fin cfg0.N) :
    (dats m 0 c).flushed 6 t = (win0_6.blk t).view.read (Elt Ideal)
      (resArr q k v s lam (m ((c : Thread nD τ).loc main_arg3)) (m ((c : Thread nD τ).loc main_arg8))) := by
  have hp := (gp t).isLt
  have hi := (gi t).isLt
  show (cfg0.win 6).cut (grid0.coords t) ((dats m 0 c).after 6 t) = _
  rw [after0_6]
  funext y
  show out (grid0.coords t) _ _ _ _ _ _ y = resArr q k v s lam _ _ ((win0_6.rect t).emb y)
  refine (out_apply (K := KR k (gb t) (gp t).val) (X := fun u => XR q s (gb t) (gp t).val (2 * (gi t).val + u))
    (V := VR v (gb t) (gp t).val) (lam := lam) ?_ ?_ ?_ ?_ y).trans ?_
  · intro n d
    rw [iblk1, hk, KR, ofNat_of_lt n.isLt, ofNat_of_lt (by omega)]
  · intro T r k
    rw [iblk2, hv, VR, ofNat_of_lt (by omega), ofNat_of_lt (by omega)]
  · intro u d j
    rw [iblk0, hq, hs, XR, ofNat_of_lt (by omega), ofNat_of_lt (by omega), EReal.coe_mul]
  · rw [iblk4]; exact hl
  · obtain ⟨u, d, j, rfl⟩ : ∃ u d j, y = ix4 0 u d j := ⟨y 1, y 2, y 3, (eq_ix4 (n0 := 1) (n1 := 2) (n2 := 128) (n3 := 256) y).trans (by
      rw [Subsingleton.elim (α := Fin 1) (y 0) 0])⟩
    rw [emb6]
    have e1 : (128 * (gp t).val + d.val) / 128 = (gp t).val := by omega
    have e2 : (128 * (gp t).val + d.val) % 128 = d.val := by omega
    show ptVal _ _ _ _ _ _ (2 * (gi t).val + u.val) d j = resVal _ _ _ _ _ _ _ (gb t) ⟨2 * (gi t).val + u.val, _⟩ ⟨128 * (gp t).val + d.val, _⟩ j
    rw [resVal]
    simp only [e1, e2, iblk3, iblk5]
    rfl

theorem cover6 (i : S8x16x256x256.Idx) :
    ∃ t : Fin cfg0.N, (cfg0.win 6).flush t = true ∧ i ∈ ((cfg0.win 6).blk t).view.set := by
  have h0 : (i 0).val < 8 := (i 0).isLt
  have h1 : (i 1).val < 16 := (i 1).isLt
  have h2 : (i 2).val < 256 := (i 2).isLt
  obtain ⟨t, ht⟩ : ∃ t : Fin cfg0.N, ((gb t).val = (i 0).val ∧ (gp t).val = (i 2).val / 128) ∧ (gi t).val = (i 1).val / 2 := by
    have : ∀ (a : Fin 8) (p : Fin 2) (r : Fin 8), ∃ t : Fin cfg0.N, (gb t = a ∧ gp t = p) ∧ gi t = r := by decide +kernel
    obtain ⟨t, ⟨ha, hp⟩, hr⟩ := this (i 0) ⟨(i 2).val / 128, by omega⟩ ⟨(i 1).val / 2, by omega⟩
    exact ⟨t, ⟨by rw [ha], by rw [hp]⟩, by rw [hr]⟩
  refine ⟨t, flush0_6 t, ?_⟩
  have e : (win0_6.rect t).emb (ix4 0 ⟨(i 1).val % 2, by omega⟩ ⟨(i 2).val % 128, by omega⟩ (i 3)) = i := by
    refine (emb6 t _ _ (i 3)).trans ?_
    funext a
    refine Fin.ext ?_
    match a with
    | ⟨0, _⟩ => exact ht.1.1
    | ⟨1, _⟩ => show 2 * (gi t).val + (i 1).val % 2 = (i 1).val; omega
    | ⟨2, _⟩ => show 128 * (gp t).val + (i 2).val % 128 = (i 2).val; omega
    | ⟨3, _⟩ => rfl
  rw [← e]
  exact (win0_6.blk t).view.emb_mem_set _

/-- The array the kernel leaves. -/
theorem final (hq : ∀ i, (m ((c : Thread nD τ).loc main_arg0) : FVec Ideal S8x4096x256 .f32) i = (q i : EReal))
    (hk : ∀ i, (m ((c : Thread nD τ).loc main_arg1) : FVec Ideal S8x4096x256 .f32) i = (k i : EReal))
    (hv : ∀ i, (m ((c : Thread nD τ).loc main_arg2) : FVec Ideal S8x4096x256 .f32) i = (v i : EReal))
    (hs : scale = (s : EReal))
    (hl : k0_pay409 (View.ld (lams (m ((c : Thread nD τ).loc main_arg4)) (m ((c : Thread nD τ).loc main_arg5))
      (m ((c : Thread nD τ).loc main_arg6)) (m ((c : Thread nD τ).loc main_arg7))) rl) (ix2 0 0) = (lam : EReal)) :
    (dats m 0 c).arrAt 6 cfg0.N
      = resArr q k v s lam (m ((c : Thread nD τ).loc main_arg3)) (m ((c : Thread nD τ).loc main_arg8)) :=
  (dats m 0 c).arrAt_eq_of_cover 6 _ (fun t _ => flushed_eq m c hq hk hv hs hl t) cover6

end final

end Cert.KernelIdeal.Da
end
-- ==== Proof.Sums.lean ====
/- The streamed sums over tiles as sums over all keys. -/
module

public import proofs.«01_k».proof.Proof.Array

@[expose] public section

noncomputable section

namespace Cert.KernelIdeal.Da

open Idealize.ShloMosaic Idealize.SL.Sem Cert.KernelIdeal Cert.KernelIdeal.Gen

theorem sum_tiles (F : ℕ → ℝ) : ∑ i : Fin 4096, F i.val = ∑ T ∈ Finset.range 16, ∑ k : Fin 256, F (256 * T + k.val) := by
  rw [Finset.sum_range fun T => ∑ k : Fin 256, F (256 * T + k.val), ← Fintype.sum_prod_type' (f := fun (T : Fin 16) (k : Fin 256) => F (256 * T.val + k.val))]
  refine (Fintype.sum_equiv (finProdFinEquiv (m := 16) (n := 256)) _ _ fun x => ?_).symm
  congr 1
  show 256 * x.1.val + x.2.val = x.2.val + 256 * x.1.val
  omega

/-- A sum over the keys a query sees: the tiles before its own, and of its own the chunks up to its own. -/
theorem sum_seen (f : ℕ → ℝ) (T : Fin 16) (j : Fin 256) :
    (∑ i : Fin 4096, if i.val / 64 ≤ (T.val * 256 + j.val) / 64 then f i.val else 0)
      = (∑ k : Fin 256, if k.val / 64 ≤ j.val / 64 then f (256 * T.val + k.val) else 0)
        + ∑ t ∈ Finset.range T.val, ∑ k : Fin 256, f (256 * t + k.val) := by
  have hj := j.isLt
  rw [sum_tiles (fun i => if i / 64 ≤ (T.val * 256 + j.val) / 64 then f i else 0)]
  rw [← Finset.sum_subset (s₁ := Finset.range (T.val + 1)) (s₂ := Finset.range 16)]
  · rw [Finset.sum_range_succ, add_comm]
    congr 1
    · refine Finset.sum_congr rfl fun k _ => if_congr ?_ rfl rfl
      have := k.isLt
      constructor <;> intro h <;> omega
    · refine Finset.sum_congr rfl fun t ht => Finset.sum_congr rfl fun k _ => if_pos ?_
      have := k.isLt
      have := Finset.mem_range.1 ht
      omega
  · intro t ht
    have := Finset.mem_range.1 ht
    have := T.isLt
    exact Finset.mem_range.2 (by omega)
  · intro t _ ht
    refine Finset.sum_eq_zero fun k _ => if_neg ?_
    have : ¬t < T.val + 1 := fun h => ht (Finset.mem_range.2 h)
    have := k.isLt
    omega

/-- The score of a map is over its own 32 rows. -/
theorem sc_map (K : ℕ → Fin 128 → ℝ) (X : Fin 128 → Fin 256 → ℝ) (c : Fin 4) (n : ℕ) (j : Fin 256) :
    sc K (qc c.val X) n j = ∑ d : Fin 32, K n ⟨32 * c.val + d.val, by omega⟩ * X ⟨32 * c.val + d.val, by omega⟩ j := by
  rw [sc, ← (finProdFinEquiv (m := 4) (n := 32)).sum_comp (fun d : Fin 128 => K n d * qc c.val X d j), Fintype.sum_prod_type,
    Finset.sum_eq_single c]
  · refine Finset.sum_congr rfl fun d _ => ?_
    have e : (finProdFinEquiv (c, d) : Fin (4 * 32)) = (⟨32 * c.val + d.val, by omega⟩ : Fin 128) :=
      Fin.ext (show d.val + 32 * c.val = 32 * c.val + d.val by omega)
    rw [e, qc, if_pos (show (32 * c.val + d.val) / 32 = c.val by omega)]
  · intro a _ ha
    refine Finset.sum_eq_zero fun d _ => ?_
    have e : (finProdFinEquiv (a, d) : Fin (4 * 32)) = (⟨32 * a.val + d.val, by omega⟩ : Fin 128) :=
      Fin.ext (show d.val + 32 * a.val = 32 * a.val + d.val by omega)
    rw [e, qc, if_neg (show ¬(32 * a.val + d.val) / 32 = c.val from fun h => ha (Fin.ext (by omega))), mul_zero]
  · exact fun h => absurd (Finset.mem_univ c) h

/-- Both sums a map's mean is made of, over all keys. -/
theorem tot_eq (K : ℕ → Fin 128 → ℝ) (Q : Fin 128 → Fin 256 → ℝ) (V : ℕ → ℕ → Fin 256 → ℝ) (o : ℕ) (j : Fin 256) (T : Fin 16)
    (r : Fin 80) (w u : ℕ → ℝ) (hw : ∀ i, i < 4096 → (2 : ℝ) ^ sc K Q i j = w i)
    (hu : ∀ (t : ℕ) (k : Fin 256), t < 16 → vv V o t r k = u (256 * t + k.val)) :
    tot K Q V o j T.val r = ∑ i : Fin 4096, if i.val / 64 ≤ (T.val * 256 + j.val) / 64 then w i.val * u i.val else 0 := by
  have hT := T.isLt
  rw [sum_seen (fun i => w i * u i), tot, td]
  congr 1
  · refine Finset.sum_congr rfl fun k _ => ?_
    have := k.isLt
    rw [hu _ _ hT, hw _ (by omega), mul_comm, ite_mul, zero_mul]
  · refine Finset.sum_congr rfl fun t ht => Finset.sum_congr rfl fun k _ => ?_
    have := k.isLt
    have := Finset.mem_range.1 ht
    rw [hu _ _ (by omega), hw _ (by omega), mul_comm]

end Cert.KernelIdeal.Da
end
-- ==== Proof.RefValue.lean ====
/- The reference's result in stages, each read at an index. -/
module

public import proofs.«01_k».proof.Proof.Gen.ReferenceIdeal.Run
public import Idealize.ShloMosaic.Lib.Pointwise

@[expose] public section

set_option maxRecDepth 16384

noncomputable section

namespace Cert.ReferenceIdeal.Da

open Idealize.ShloMosaic Idealize.ShloMosaic.TcCoe Idealize.SL.Sem Cert.ReferenceIdeal Cert.ReferenceIdeal.Gen

/-- Which keys a query sees. -/
def maskR : IVec S4096x4096 1 :=
  cmpi .sle (broadcastInDim S4096x4096 ![0, 1] bcast_S1x4096_S4096x4096_0_1 (broadcastInDim S1x4096 ![1] bcast_S4096_S1x4096_1 (Host.divsi (iotaInDim S4096 32 0) (broadcastInDim S4096 ![] bcast_S_S4096 (constantI S_ 32 64#32))))) (broadcastInDim S4096x4096 ![0, 1] bcast_S4096x1_S4096x4096_0_1 (broadcastInDim S4096x1 ![0] bcast_S4096_S4096x1_0 (Host.divsi (iotaInDim S4096 32 0) (broadcastInDim S4096 ![] bcast_S_S4096 (constantI S_ 32 64#32)))))

/-- The masked scores. -/
def scoresR (q k : FVec Ideal S8x4096x256 .f32) : FVec Ideal S8x4x2x4096x4096 .f32 :=
  select (broadcastInDim S8x4x2x4096x4096 ![3, 4] bcast_S4096x4096_S8x4x2x4096x4096_3_4 maskR)
    (mulf (Host.dotGeneral dot_S8x4x2x4096x32_S8x4x2x4096x32_S8x4x2x4096x4096_4_4_3_3_012_012 none (transpose S8x4x2x4096x32 [0, 2, 3, 1, 4] (shapeCast _ q shapeCasts_S8x4096x256_S8x4096x4x2x32) transposes_S8x4096x4x2x32_S8x4x2x4096x32_0_2_3_1_4) (transpose S8x4x2x4096x32 [0, 2, 3, 1, 4] (shapeCast _ k shapeCasts_S8x4096x256_S8x4096x4x2x32) transposes_S8x4096x4x2x32_S8x4x2x4096x32_0_2_3_1_4)) (broadcastInDim S8x4x2x4096x4096 ![] bcast_S_S8x4x2x4096x4096 (Host.rsqrt (constant S_ .f32 0x42000000#32))))
    (broadcastInDim S8x4x2x4096x4096 ![] bcast_S_S8x4x2x4096x4096 (id (constant (F := Ideal) S_ .f32 0xFF800000#32)))

/-- The largest score of each query. -/
def maxR (s : FVec Ideal S8x4x2x4096x4096 .f32) : FVec Ideal S8x4x2x4096 .f32 :=
  maximumf (broadcastInDim S8x4x2x4096 ![] bcast_S_S8x4x2x4096 (constant (F := Ideal) S_ .f32 0xFF800000#32)) (Host.reduce FloatOps.maximumf s (constant (F := Ideal) S_ .f32 0xFF800000#32) reducesTo_S8x4x2x4096x4096_S8x4x2x4096_d4 h_S_)

/-- The exponentials of the scores less the largest. -/
def expR (s : FVec Ideal S8x4x2x4096x4096 .f32) (t : FVec Ideal S8x4x2x4096 .f32) : FVec Ideal S8x4x2x4096x4096 .f32 :=
  Host.exp (subf s (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 t)))

/-- The weights. -/
def probR (e : FVec Ideal S8x4x2x4096x4096 .f32) : FVec Ideal S8x4x2x4096x4096 .f32 :=
  Host.divf e (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (Host.reduceAdd e (constant S_ .f32 0x00000000#32) reducesTo_S8x4x2x4096x4096_S8x4x2x4096_d4 h_S_)))

/-- λ. -/
def lamR (a b d e : FVec Ideal S32 .f32) : FVec Ideal S_ .f32 :=
  addf (subf (Host.exp (Host.reduceAdd (mulf a b) (constant S_ .f32 0x00000000#32) reducesTo_S32_S_d0 h_S_))
    (Host.exp (Host.reduceAdd (mulf d e) (constant S_ .f32 0x00000000#32) reducesTo_S32_S_d0 h_S_))) (constant S_ .f32 0x3E4CCCCD#32)

/-- The difference of the two maps' weights, applied to the values. -/
def outR (p : FVec Ideal S8x4x2x4096x4096 .f32) (l : FVec Ideal S_ .f32) (v : FVec Ideal S8x4096x256 .f32) : FVec Ideal S8x4x4096x64 .f32 :=
  Host.dotGeneral dot_S8x4x4096x4096_S8x4x4096x64_S8x4x4096x64_3_2_2_3_01_01 none
    (subf (shapeCast _ (extractStridedSlice S8x4x1x4096x4096 ![0, 0, 0, 0, 0] p slices_S8x4x2x4096x4096_S8x4x1x4096x4096_0_0_0_0_0) shapeCasts_S8x4x1x4096x4096_S8x4x4096x4096)
      (mulf (broadcastInDim S8x4x4096x4096 ![] bcast_S_S8x4x4096x4096 l) (shapeCast _ (extractStridedSlice S8x4x1x4096x4096 ![0, 0, 1, 0, 0] p slices_S8x4x2x4096x4096_S8x4x1x4096x4096_0_0_1_0_0) shapeCasts_S8x4x1x4096x4096_S8x4x4096x4096)))
    (transpose S8x4x4096x64 [0, 2, 1, 3] (shapeCast _ v shapeCasts_S8x4096x256_S8x4096x4x64) transposes_S8x4096x4x64_S8x4x4096x64_0_2_1_3)

/-- A head's output normalised, with its gain and the layer's factor. -/
def normR (o : FVec Ideal S8x4x4096x64 .f32) (gain : FVec Ideal S64 .f32) : FVec Ideal S8x4x4096x64 .f32 :=
  mulf (mulf (mulf o (broadcastInDim S8x4x4096x64 ![0, 1, 2, 3] bcast_S8x4x4096x1_S8x4x4096x64_0_1_2_3 (Host.rsqrt (addf (Host.divf (broadcastInDim S8x4x4096x1 ![0, 1, 2] bcast_S8x4x4096_S8x4x4096x1_0_1_2 (Host.reduceAdd (mulf o o) (constant S_ .f32 0x00000000#32) reducesTo_S8x4x4096x64_S8x4x4096_d3 h_S_)) (broadcastInDim S8x4x4096x1 ![] bcast_S_S8x4x4096x1 (constant S_ .f32 0x42800000#32))) (broadcastInDim S8x4x4096x1 ![] bcast_S_S8x4x4096x1 (constant S_ .f32 0x358637BD#32))))))
    (broadcastInDim S8x4x4096x64 ![0, 1, 2, 3] bcast_S1x1x1x64_S8x4x4096x64_0_1_2_3 (broadcastInDim S1x1x1x64 ![3] bcast_S64_S1x1x1x64_3 gain))) (broadcastInDim S8x4x4096x64 ![] bcast_S_S8x4x4096x64 (constant S_ .f32 0x3F4CCCCD#32))

/-- The gated result in the call's layout. -/
def tailR (y : FVec Ideal S8x4x4096x64 .f32) (g : FVec Ideal S8x4096x256 .f32) : FVec Ideal S8x16x256x256 .bf16 :=
  truncf .bf16 (transpose S8x16x256x256 [0, 1, 3, 2] (shapeCast _ (mulf (shapeCast _ (transpose S8x4096x4x64 [0, 2, 1, 3] y transposes_S8x4x4096x64_S8x4096x4x64_0_2_1_3) shapeCasts_S8x4096x4x64_S8x4096x256) (mulf g (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf g)))))) shapeCasts_S8x4096x256_S8x16x256x256) transposes_S8x16x256x256_S8x16x256x256_0_1_3_2) bitsLt_bf16_f32

set_option maxHeartbeats 2000000 in
theorem res_eq (m : (ℓ : Loc nD τ sig) → Buf (Elt Ideal) ℓ) (c : Dev nD) : Value.res_main_v67 m c
    = tailR (normR (outR (probR (expR (scoresR (m ((c : Thread nD τ).loc main_arg0)) (m ((c : Thread nD τ).loc main_arg1)))
        (maxR (scoresR (m ((c : Thread nD τ).loc main_arg0)) (m ((c : Thread nD τ).loc main_arg1))))))
        (lamR (m ((c : Thread nD τ).loc main_arg4)) (m ((c : Thread nD τ).loc main_arg5)) (m ((c : Thread nD τ).loc main_arg6)) (m ((c : Thread nD τ).loc main_arg7)))
        (m ((c : Thread nD τ).loc main_arg2))) (m ((c : Thread nD τ).loc main_arg8))) (m ((c : Thread nD τ).loc main_arg3)) := rfl

end Cert.ReferenceIdeal.Da
end
-- ==== Proof.RefPoint.lean ====
/- The reference's stages, each read at an index. -/
module

public import proofs.«01_k».proof.Proof.RefValue

@[expose] public section

set_option maxRecDepth 16384

noncomputable section

namespace Cert.ReferenceIdeal.Da

open Idealize.ShloMosaic Idealize.ShloMosaic.TcCoe Idealize.SL.Sem Cert.ReferenceIdeal Cert.ReferenceIdeal.Gen

theorem maskR_apply (n k : Fin 4096) : maskR (ix2 n k) = if k.val / 64 ≤ n.val / 64 then 1#1 else 0#1 := by
  have h1 : ∀ a < 4096, IntOp.divsi .host (BitVec.ofNat 32 a) 64#32 = BitVec.ofNat 32 (a / 64) := by decide +kernel
  have h2 : ∀ a < 64, ∀ b < 64, IntOp.cmpi .sle (BitVec.ofNat 32 a) (BitVec.ofNat 32 b) = if a ≤ b then 1#1 else 0#1 := by decide +kernel
  pointwise [maskR]
  rw [h1 _ k.isLt, h1 _ n.isLt, h2 _ (by omega) _ (by omega)]

theorem scoresR_apply (q k : FVec Ideal S8x4096x256 .f32) (b : Fin 8) (h : Fin 4) (c : Fin 2) (n j : Fin 4096) :
    scoresR q k (ix5 b h c n j) = if j.val / 64 ≤ n.val / 64 then
      (∑ d : Fin 32, q (ix3 b n ⟨h.val * 64 + c.val * 32 + d.val, by omega⟩) * k (ix3 b j ⟨h.val * 64 + c.val * 32 + d.val, by omega⟩))
        * Ideal.rsqrt (Ideal.ofBits .f32 0x42000000#32) else ⊥ := by
  pointwise [scoresR]
  rw [maskR_apply]
  unfold Scalar.select
  have hb : id (constant (F := Ideal) S_ FTy.f32 4286578688#32) ix0 = (⊥ : EReal) := by
    show Ideal.ofBits .f32 0xFF800000#32 = ⊥
    simp [Ideal.ofBits, Ideal.ieee]
  rw [hb]
  split <;> simp [*]

theorem expR_apply (s : FVec Ideal S8x4x2x4096x4096 .f32) (t : FVec Ideal S8x4x2x4096 .f32) (b : Fin 8) (h : Fin 4) (c : Fin 2) (n j : Fin 4096) :
    expR s t (ix5 b h c n j) = Ideal.exp (s (ix5 b h c n j) - t (ix4 b h c n)) := by
  pointwise [expR]

theorem probR_apply (e : FVec Ideal S8x4x2x4096x4096 .f32) (b : Fin 8) (h : Fin 4) (c : Fin 2) (n j : Fin 4096) :
    probR e (ix5 b h c n j) = Ideal.div (e (ix5 b h c n j)) (∑ i : Fin 4096, e (ix5 b h c n i)) := by
  pointwise [probR]

theorem lamR_apply (x y z w : FVec Ideal S32 .f32) (i : S_.Idx) :
    lamR x y z w i = Ideal.exp (∑ d : Fin 32, x (ix1 d) * y (ix1 d)) - Ideal.exp (∑ d : Fin 32, z (ix1 d) * w (ix1 d))
      + Ideal.ofBits .f32 0x3E4CCCCD#32 := by
  pointwise [lamR]

theorem outR_apply (p : FVec Ideal S8x4x2x4096x4096 .f32) (l : FVec Ideal S_ .f32) (v : FVec Ideal S8x4096x256 .f32)
    (b : Fin 8) (h : Fin 4) (n : Fin 4096) (r : Fin 64) :
    outR p l v (ix4 b h n r) = ∑ j : Fin 4096, (p (ix5 b h 0 n j) - l ix0 * p (ix5 b h 1 n j)) * v (ix3 b j ⟨h.val * 64 + r.val, by omega⟩) := by
  pointwise [outR]

theorem normR_apply (o : FVec Ideal S8x4x4096x64 .f32) (gain : FVec Ideal S64 .f32) (b : Fin 8) (h : Fin 4) (n : Fin 4096) (r : Fin 64) :
    normR o gain (ix4 b h n r) = o (ix4 b h n r) * Ideal.rsqrt (Ideal.div (∑ d : Fin 64, o (ix4 b h n d) * o (ix4 b h n d)) (Ideal.ofBits .f32 0x42800000#32)
      + Ideal.ofBits .f32 0x358637BD#32) * gain (ix1 r) * Ideal.ofBits .f32 0x3F4CCCCD#32 := by
  pointwise [normR]

theorem tailR_apply (y : FVec Ideal S8x4x4096x64 .f32) (g : FVec Ideal S8x4096x256 .f32) (b : Fin 8) (T : Fin 16) (col j : Fin 256) :
    tailR y g (ix4 b T col j) = y (ix4 b ⟨col.val / 64, by omega⟩ ⟨T.val * 256 + j.val, by omega⟩ ⟨col.val % 64, by omega⟩)
      * (g (ix3 b ⟨T.val * 256 + j.val, by omega⟩ col) * Ideal.div 1 (1 + Ideal.exp (-g (ix3 b ⟨T.val * 256 + j.val, by omega⟩ col)))) := by
  pointwise [tailR]

end Cert.ReferenceIdeal.Da
end
-- ==== Proof.RefMax.lean ====
/- A query's largest score is a real. -/
module

public import proofs.«01_k».proof.Proof.RefValue

@[expose] public section

set_option maxRecDepth 16384

noncomputable section

namespace Cert.ReferenceIdeal.Da

open Idealize.ShloMosaic Idealize.ShloMosaic.TcCoe Idealize.SL.Sem Cert.ReferenceIdeal Cert.ReferenceIdeal.Gen

theorem foldl_max {ι : Type} (x : ι → EReal) (hx : ∀ i, x i = ⊥ ∨ ∃ r : ℝ, x i = (r : EReal)) :
    ∀ (l : List ι) (a : EReal), (a = ⊥ ∨ ∃ r : ℝ, a = (r : EReal)) → ((∃ r : ℝ, a = (r : EReal)) ∨ ∃ i ∈ l, ∃ r : ℝ, x i = (r : EReal)) →
      ∃ r : ℝ, l.foldl (fun r i => max r (x i)) a = (r : EReal)
  | [], a, _, h => by
    rcases h with h | ⟨i, hi, _⟩
    · exact h
    · exact absurd hi List.not_mem_nil
  | i :: l, a, ha, h => by
    rw [List.foldl_cons]
    have key : max a (x i) = ⊥ ∨ ∃ r : ℝ, max a (x i) = (r : EReal) := by
      rcases max_choice a (x i) with e | e <;> rw [e]
      · exact ha
      · exact hx i
    refine foldl_max x hx l _ key ?_
    have up : ∀ {u v : EReal}, (∃ r : ℝ, u = (r : EReal)) → u ≤ v → (v = ⊥ ∨ ∃ r : ℝ, v = (r : EReal)) → ∃ r : ℝ, v = (r : EReal) := by
      rintro u v ⟨r, rfl⟩ huv (rfl | h)
      · exact absurd huv (not_le.mpr (EReal.bot_lt_coe r))
      · exact h
    rcases h with h | ⟨k, hk, h⟩
    · exact .inl (up h (le_max_left _ _) key)
    · rcases List.mem_cons.1 hk with rfl | hk
      · exact .inl (up h (le_max_right _ _) key)
      · exact .inr ⟨k, hk, h⟩

theorem drop_row (b : Fin 8) (h : Fin 4) (c : Fin 2) (n j : Fin 4096) :
    reducesTo_S8x4x2x4096x4096_S8x4x2x4096_d4.drop (ix5 b h c n j) = ix4 b h c n := by
  funext a
  match a with
  | ⟨0, _⟩ => rfl
  | ⟨1, _⟩ => rfl
  | ⟨2, _⟩ => rfl
  | ⟨3, _⟩ => rfl

theorem reduce_max_real {s t u : Shape} {axes : List (Fin s.rank)} (x : FVec Ideal s .f32) (init : FVec Ideal u .f32) (h : s.ReducesTo axes t)
    (hu : 0 < u.numel) (j : t.Idx) (hinit : init (Shape.Idx.first hu) = (⊥ : EReal)) (hx : ∀ i, x i = (⊥ : EReal) ∨ ∃ r : ℝ, x i = (r : EReal))
    (i : s.Idx) (hi : h.drop i = j) (hr : ∃ r : ℝ, x i = (r : EReal)) :
    ∃ r : ℝ, Host.reduce (FloatOps.maximumf (F := Ideal) (φ := .f32)) x init h hu j = (r : EReal) := by
  rw [Host.reduce_eq_foldl]
  refine foldl_max x hx _ _ (.inl hinit) (.inr ⟨i, ?_, hr⟩)
  rw [List.mem_filter]
  exact ⟨List.mem_map.2 ⟨s.rowMajor i, List.mem_finRange _, Equiv.symm_apply_apply _ _⟩, decide_eq_true hi⟩

theorem maxR_real {s : FVec Ideal S8x4x2x4096x4096 .f32} (hs : ∀ i, s i = (⊥ : EReal) ∨ ∃ r : ℝ, s i = (r : EReal))
    (b : Fin 8) (h : Fin 4) (c : Fin 2) (n j : Fin 4096) (hj : ∃ r : ℝ, s (ix5 b h c n j) = (r : EReal)) :
    ∃ r : ℝ, maxR s (ix4 b h c n) = (r : EReal) := by
  have hb : Ideal.ofBits .f32 0xFF800000#32 = (⊥ : EReal) := by simp [Ideal.ofBits, Ideal.ieee]
  obtain ⟨r, hr⟩ := reduce_max_real s (constant (F := Ideal) S_ .f32 0xFF800000#32) reducesTo_S8x4x2x4096x4096_S8x4x2x4096_d4 h_S_
    (ix4 b h c n) hb hs (ix5 b h c n j) (drop_row b h c n j) hj
  refine ⟨r, ?_⟩
  unfold maxR
  rw [maximumf_apply, hr]
  exact (congrArg (fun a : EReal => max a (r : EReal)) hb).trans (max_eq_right bot_le)

end Cert.ReferenceIdeal.Da
end
-- ==== Proof.RefReal.lean ====
/- On reals, the reference's softmax is a quotient of two sums over the keys a query sees. -/
module

public import proofs.«01_k».proof.Proof.RefPoint
public import proofs.«01_k».proof.Proof.RefMax

@[expose] public section

set_option maxRecDepth 16384

noncomputable section

namespace Cert.ReferenceIdeal.Da

open Idealize.ShloMosaic Idealize.ShloMosaic.TcCoe Idealize.SL.Sem Cert.ReferenceIdeal Cert.ReferenceIdeal.Gen

theorem sum_coe {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The scaled score of a map of a head. -/
def dotR (q k : S8x4096x256.Idx → ℝ) (ρ : ℝ) (b : Fin 8) (h : Fin 4) (c : Fin 2) (n i : Fin 4096) : ℝ :=
  (∑ d : Fin 32, q (ix3 b n ⟨h.val * 64 + c.val * 32 + d.val, by omega⟩) * k (ix3 b i ⟨h.val * 64 + c.val * 32 + d.val, by omega⟩)) * ρ

/-- What a query gives a key, before the quotient. -/
def wtR (q k : S8x4096x256.Idx → ℝ) (ρ : ℝ) (b : Fin 8) (h : Fin 4) (c : Fin 2) (n i : Fin 4096) : ℝ :=
  if i.val / 64 ≤ n.val / 64 then Real.exp (dotR q k ρ b h c n i) else 0

/-- The mean of a head's values that map `c` takes for a query. -/
def meanR (q k v : S8x4096x256.Idx → ℝ) (ρ : ℝ) (b : Fin 8) (h : Fin 4) (c : Fin 2) (n : Fin 4096) (r : Fin 64) : ℝ :=
  (∑ i : Fin 4096, wtR q k ρ b h c n i * v (ix3 b i ⟨h.val * 64 + r.val, by omega⟩)) / ∑ i : Fin 4096, wtR q k ρ b h c n i

theorem wtR_pos (q k : S8x4096x256.Idx → ℝ) (ρ : ℝ) (b : Fin 8) (h : Fin 4) (c : Fin 2) (n : Fin 4096) : 0 < ∑ i, wtR q k ρ b h c n i := by
  refine Finset.sum_pos' (fun i _ => ?_) ⟨n, Finset.mem_univ _, ?_⟩
  · unfold wtR; split <;> positivity
  · unfold wtR; rw [if_pos le_rfl]; positivity

variable {q k v : S8x4096x256.Idx → ℝ} {ρ : ℝ} {Q K W : FVec Ideal S8x4096x256 .f32}

theorem scoresR_real (hρ : Ideal.rsqrt (Ideal.ofBits .f32 0x42000000#32) = (ρ : EReal)) (hq : ∀ i, Q i = (q i : EReal)) (hk : ∀ i, K i = (k i : EReal))
    (b : Fin 8) (h : Fin 4) (c : Fin 2) (n j : Fin 4096) :
    scoresR Q K (ix5 b h c n j) = if j.val / 64 ≤ n.val / 64 then (dotR q k ρ b h c n j : EReal) else ⊥ := by
  rw [scoresR_apply, hρ]
  refine if_congr Iff.rfl ?_ rfl
  rw [dotR, EReal.coe_mul, ← sum_coe]
  refine congrArg (fun x : EReal => x * (ρ : EReal)) (Finset.sum_congr rfl fun d _ => ?_)
  rw [hq, hk, EReal.coe_mul]

theorem probR_real (hρ : Ideal.rsqrt (Ideal.ofBits .f32 0x42000000#32) = (ρ : EReal)) (hq : ∀ i, Q i = (q i : EReal)) (hk : ∀ i, K i = (k i : EReal))
    (b : Fin 8) (h : Fin 4) (c : Fin 2) (n j : Fin 4096) :
    probR (expR (scoresR Q K) (maxR (scoresR Q K))) (ix5 b h c n j)
      = ((wtR q k ρ b h c n j / ∑ i, wtR q k ρ b h c n i : ℝ) : EReal) := by
  have hs : ∀ (b : Fin 8) (h : Fin 4) (c : Fin 2) (n j : Fin 4096),
      scoresR Q K (ix5 b h c n j) = (⊥ : EReal) ∨ ∃ r : ℝ, scoresR Q K (ix5 b h c n j) = (r : EReal) := fun b h c n j => by
    rw [scoresR_real hρ hq hk]
    by_cases hm : j.val / 64 ≤ n.val / 64
    · exact Or.inr ⟨_, if_pos hm⟩
    · exact Or.inl (if_neg hm)
  obtain ⟨μ, hμ⟩ := maxR_real (s := scoresR Q K) (fun i => by
    rw [eq_ix5 i]; exact hs (i 0) (i 1) (i 2) (i 3) (i 4)) b h c n n
    ⟨_, (scoresR_real hρ hq hk b h c n n).trans (if_pos le_rfl)⟩
  have he : ∀ i, expR (scoresR Q K) (maxR (scoresR Q K)) (ix5 b h c n i) = ((wtR q k ρ b h c n i * Real.exp (-μ) : ℝ) : EReal) := fun i => by
    rw [expR_apply, hμ, scoresR_real hρ hq hk, wtR]
    split
    · rw [← EReal.coe_sub, Ideal.exp_coe, sub_eq_add_neg, Real.exp_add]
    · rw [EReal.bot_sub, Ideal.exp_bot, zero_mul, EReal.coe_zero]
  have hp := wtR_pos q k ρ b h c n
  have hx := Real.exp_pos (-μ)
  rw [probR_apply, he, Finset.sum_congr rfl fun i _ => he i, sum_coe, ← Finset.sum_mul, Ideal.div_coe (mul_pos hp hx).ne', ← EReal.coe_mul,
    mul_one_div, mul_div_mul_right _ _ hx.ne']

/-- The difference of the two maps' means. -/
theorem outR_real {l : FVec Ideal S_ .f32} {lam : ℝ}
    (hρ : Ideal.rsqrt (Ideal.ofBits .f32 0x42000000#32) = (ρ : EReal)) (hq : ∀ i, Q i = (q i : EReal)) (hk : ∀ i, K i = (k i : EReal))
    (hv : ∀ i, W i = (v i : EReal)) (hl : l ix0 = (lam : EReal)) (b : Fin 8) (h : Fin 4) (n : Fin 4096) (r : Fin 64) :
    outR (probR (expR (scoresR Q K) (maxR (scoresR Q K)))) l W (ix4 b h n r)
      = ((meanR q k v ρ b h 0 n r - lam * meanR q k v ρ b h 1 n r : ℝ) : EReal) := by
  rw [outR_apply]
  simp only [probR_real hρ hq hk, hv, hl, ← EReal.coe_mul, ← EReal.coe_sub]
  rw [sum_coe]
  refine congrArg Real.toEReal ?_
  rw [meanR, meanR, Finset.sum_div, Finset.sum_div, Finset.mul_sum, ← Finset.sum_sub_distrib]
  refine Finset.sum_congr rfl fun i _ => ?_
  ring

end Cert.ReferenceIdeal.Da
end
-- ==== Proof.Equation.lean ====
/- The kernel's element and the reference's, equal on reals. -/
module

public import proofs.«01_k».proof.Proof.Sums
public import proofs.«01_k».proof.Proof.RefReal

@[expose] public section

set_option maxRecDepth 16384

noncomputable section

namespace Cert.KernelIdeal.Da

open Idealize.ShloMosaic Idealize.ShloMosaic.TcCoe Idealize.SL.Sem Cert.KernelIdeal Cert.KernelIdeal.Gen
open Cert.ReferenceIdeal.Da (dotR wtR meanR)

variable (q k v : S8x4096x256.Idx → ℝ) (ρ : ℝ) (b : Fin 8) (T : Fin 16) (col j : Fin 256)

/-- The head's column, seen from its pair. -/
theorem col_eq (h : Fin 4) (p u : ℕ) (hu : u < 2) (hp : h.val = 2 * p + u) (x : ℕ) (hx : x < 64) :
    Fin.ofNat 256 (128 * p + (64 * u + x)) = ⟨h.val * 64 + x, by omega⟩ := by
  have := h.isLt
  rw [ofNat_of_lt (show 128 * p + (64 * u + x) < 256 by omega)]
  exact Fin.ext (show 128 * p + (64 * u + x) = h.val * 64 + x by omega)

/-- Two to the kernel's score is the exponential of the reference's. -/
theorem weight_eq (h : Fin 4) (c : Fin 2) (p u : ℕ) (hu : u < 2) (hp : h.val = 2 * p + u) (i : ℕ) (hi : i < 4096) :
    (2 : ℝ) ^ sc (KR k b p) (qc (2 * u + c.val) (XR q (ρ / Real.log 2) b p T.val)) i j
      = Real.exp (dotR q k ρ b h c ⟨T.val * 256 + j.val, by omega⟩ (Fin.ofNat 4096 i)) := by
  have hl : Real.log 2 ≠ 0 := (Real.log_pos one_lt_two).ne'
  have hc := c.isLt
  have e := sc_map (KR k b p) (XR q (ρ / Real.log 2) b p T.val) ⟨2 * u + c.val, by omega⟩ i j
  rw [Real.rpow_def_of_pos two_pos]
  refine congrArg Real.exp ?_
  refine (congrArg (Real.log 2 * ·) e).trans ?_
  show Real.log 2 * _ = _
  rw [dotR, Finset.mul_sum, Finset.sum_mul]
  refine Finset.sum_congr rfl fun d _ => ?_
  have hd := d.isLt
  have e1 : Fin.ofNat 256 (128 * p + (32 * (2 * u + c.val) + d.val)) = ⟨h.val * 64 + c.val * 32 + d.val, by omega⟩ := by
    rw [show 128 * p + (32 * (2 * u + c.val) + d.val) = 128 * p + (64 * u + (c.val * 32 + d.val)) by omega,
      col_eq h p u hu hp _ (by omega)]
    exact Fin.ext (by show h.val * 64 + (c.val * 32 + d.val) = h.val * 64 + c.val * 32 + d.val; omega)
  have e2 : Fin.ofNat 4096 (T.val * 256 + j.val) = ⟨T.val * 256 + j.val, by omega⟩ := ofNat_of_lt (by omega)
  unfold KR XR
  dsimp only
  rw [e1, e2]
  field_simp

/-- A map's mean, on both sides. -/
theorem mapRow_eq (h : Fin 4) (c : Fin 2) (p u : ℕ) (hu : u < 2) (hp : h.val = 2 * p + u) (r : Fin 64) :
    mapRow (KR k b p) (XR q (ρ / Real.log 2) b p T.val) (VR v b p) T.val j (2 * u + c.val) (64 * u) r
      = meanR q k v ρ b h c ⟨T.val * 256 + j.val, by omega⟩ r := by
  have hw := fun i hi => weight_eq q k ρ b T j h c p u hu hp i hi
  have hr := r.isLt
  have hn : ∀ i : Fin 4096, Fin.ofNat 4096 i.val = i := fun i => ofNat_of_lt i.isLt
  rw [mapRow, meanR,
    tot_eq _ _ _ _ _ T _ _ (fun i => v (ix3 b (Fin.ofNat 4096 i) ⟨h.val * 64 + r.val, by omega⟩)) hw (fun t k ht => by
      rw [vv, if_pos (show r.val < 64 from hr), VR, col_eq h p u hu hp r.val hr, mul_comm t 256]),
    tot_eq _ _ _ _ _ T _ _ (fun _ => 1) hw (fun t k ht => if_neg (by decide))]
  refine congrArg₂ (· / ·) (Finset.sum_congr rfl fun i _ => ?_) (Finset.sum_congr rfl fun i _ => ?_)
  · rw [wtR, hn, ite_mul, zero_mul]
  · rw [wtR, hn, mul_one]

end Cert.KernelIdeal.Da
end
-- ==== Proof.Constants.lean ====
/- The scales and the weight of the second map, as reals. -/
module

public import proofs.«01_k».proof.Proof.Equation

@[expose] public section

set_option maxRecDepth 16384

noncomputable section

namespace Cert.KernelIdeal.Da

open Idealize.ShloMosaic Idealize.ShloMosaic.TcCoe Idealize.SL.Sem Cert.KernelIdeal Cert.KernelIdeal.Gen

theorem thirtytwo : Ideal.ofBits .f32 0x42000000#32 = ((32 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem start_real : ∃ r : ℝ, Ideal.ofBits .f32 0x3E4CCCCD#32 = (r : EReal) := by
  refine ⟨13421773 / 67108864, ?_⟩
  simp [Ideal.ofBits, Ideal.ieee, -EReal.coe_mul]; norm_num

/-- One over the square root of 32. -/
def rho : ℝ := (Real.sqrt 32)⁻¹

theorem rho_eq : Ideal.rsqrt (Ideal.ofBits .f32 0x42000000#32) = (rho : EReal) := by
  rw [thirtytwo, Ideal.rsqrt_coe, if_neg (by norm_num), if_neg (by norm_num), rho]

theorem scale_eq : scale = ((rho / Real.log 2 : ℝ) : EReal) := by
  have hl : Real.log 2 ≠ 0 := (Real.log_pos one_lt_two).ne'
  rw [scale, rho_eq, two, Ideal.log_coe, if_neg (by norm_num), Ideal.div_coe hl, ← EReal.coe_mul, mul_one_div]

/-- The weight of the second map is a real when its four inputs are. -/
theorem lam_real (x y z w : S32.Idx → ℝ) : ∃ lam : ℝ,
    Ideal.exp (∑ d : Fin 32, (x (ix1 d) : EReal) * (y (ix1 d) : EReal)) - Ideal.exp (∑ d : Fin 32, (z (ix1 d) : EReal) * (w (ix1 d) : EReal))
      + Ideal.ofBits .f32 0x3E4CCCCD#32 = (lam : EReal) := by
  obtain ⟨r, hr⟩ := start_real
  simp only [← EReal.coe_mul]
  rw [coe_sum, coe_sum, Ideal.exp_coe, Ideal.exp_coe, hr, ← EReal.coe_sub, ← EReal.coe_add]
  exact ⟨_, rfl⟩

end Cert.KernelIdeal.Da
end
-- ==== Proof.Finite.lean ====
/- What the precondition says: every element of the seven inputs it names is a real. -/
module

public import proofs.«01_k».proof.Pre_finite_inputs
public import Idealize.ShloMosaic.Lib.ReduceAll
public import Idealize.ShloMosaic.Lib.Pointwise

@[expose] public section

set_option maxRecDepth 16384

noncomputable section

namespace Cert.Pre_finite_inputs.Da

open Idealize.ShloMosaic Cert.Pre_finite_inputs

theorem bcast3 : S_.BroadcastsInDim S8x4096x256 (![] : Fin 0 → Fin S8x4096x256.rank) := by decide
theorem red3 : S8x4096x256.ReducesTo [0, 1, 2] S_ := by decide
theorem pos : 0 < S_.numel := by decide
theorem bcast1 : S_.BroadcastsInDim S32 (![] : Fin 0 → Fin S32.rank) := by decide
theorem red1 : S32.ReducesTo [0] S_ := by decide

instance facts : Facts := ⟨bcast3, red3, pos, bcast1, red1⟩

instance one : Subsingleton S_.Idx := ⟨fun a b => funext fun i => i.elim0⟩

/-- An element whose size is below infinity is a real. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- An array whose test holds at every element is an array of reals. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) :
    ∃ r : s.Idx → ℝ, ∀ i, x i = (r i : EReal) := by
  have hx : ∀ i, ∃ r : ℝ, x i = (r : EReal) := fun i => real_of_lt (x i) (Host.reduce_andi_all _ _ h hu j e i)
  exact ⟨fun i => (hx i).choose, fun i => (hx i).choose_spec⟩

theorem reals (a0 a1 a2 a3 : FVec Ideal S8x4096x256 .f32) (a4 a5 a6 a7 : FVec Ideal S32 .f32) (a8 : FVec Ideal S64 .f32)
    (h : fn (F := Ideal) a0 a1 a2 a3 a4 a5 a6 a7 a8 = fun _ => 1#1) :
    ((∃ r : S8x4096x256.Idx → ℝ, ∀ i, a0 i = (r i : EReal)) ∧ (∃ r : S8x4096x256.Idx → ℝ, ∀ i, a1 i = (r i : EReal))
      ∧ (∃ r : S8x4096x256.Idx → ℝ, ∀ i, a2 i = (r i : EReal)))
    ∧ ((∃ r : S32.Idx → ℝ, ∀ i, a4 i = (r i : EReal)) ∧ (∃ r : S32.Idx → ℝ, ∀ i, a5 i = (r i : EReal))
      ∧ (∃ r : S32.Idx → ℝ, ∀ i, a6 i = (r i : EReal)) ∧ (∃ r : S32.Idx → ℝ, ∀ i, a7 i = (r i : EReal))) := by
  have h0 := congrFun h ix0
  obtain ⟨hA, hB⟩ := IntOp.andi_eq_one.1 h0
  obtain ⟨hA, h2⟩ := IntOp.andi_eq_one.1 hA
  obtain ⟨h0, h1⟩ := IntOp.andi_eq_one.1 hA
  obtain ⟨hB, h7⟩ := IntOp.andi_eq_one.1 hB
  obtain ⟨hB, h6⟩ := IntOp.andi_eq_one.1 hB
  obtain ⟨h4, h5⟩ := IntOp.andi_eq_one.1 hB
  exact ⟨⟨real_of_all a0 _ _ _ ix0 h0, real_of_all a1 _ _ _ ix0 h1, real_of_all a2 _ _ _ ix0 h2⟩,
    real_of_all a4 _ _ _ ix0 h4, real_of_all a5 _ _ _ ix0 h5, real_of_all a6 _ _ _ ix0 h6, real_of_all a7 _ _ _ ix0 h7⟩

end Cert.Pre_finite_inputs.Da
end
-- ==== Proof.Value.lean ====
/- The kernel's result is the reference's, element by element, on finite inputs. -/
module

public import proofs.«01_k».proof.Defs
public import proofs.«01_k».proof.Proof.Constants
public import proofs.«01_k».proof.Proof.Finite
public import proofs.«01_k».proof.Proof.Gen.ReferenceIdeal.Run
public import Idealize.ShloMosaic.Lib.Claim

@[expose] public section

set_option maxRecDepth 16384

noncomputable section

namespace Cert.KernelIdeal.Da

open Idealize.ShloMosaic Idealize.ShloMosaic.TcCoe Idealize.SL.Sem Cert.KernelIdeal Cert.KernelIdeal.Gen
open Cert.ReferenceIdeal.Da (dotR wtR meanR scoresR maxR expR probR lamR outR normR tailR outR_real tailR_apply normR_apply lamR_apply)

section point

variable {q k v : S8x4096x256.Idx → ℝ} {lam : ℝ} {Q K W : FVec Ideal S8x4096x256 .f32} {l : FVec Ideal S_ .f32}
variable (g : FVec Ideal S8x4096x256 .f32) (gain : FVec Ideal S64 .f32)

theorem point_eq (hq : ∀ i, Q i = (q i : EReal)) (hk : ∀ i, K i = (k i : EReal)) (hv : ∀ i, W i = (v i : EReal))
    (hl : l ix0 = (lam : EReal)) (b : Fin 8) (T : Fin 16) (col j : Fin 256) :
    tailR (normR (outR (probR (expR (scoresR Q K) (maxR (scoresR Q K)))) l W) gain) g (ix4 b T col j)
      = resVal q k v (rho / Real.log 2) lam g gain b T col j := by
  have hc := col.isLt
  have hm (c : Fin 2) (r : Fin 64) := mapRow_eq q k v rho b T j ⟨col.val / 64, by omega⟩ c (col.val / 128) (col.val % 128 / 64)
    (by omega) (show col.val / 64 = 2 * (col.val / 128) + col.val % 128 / 64 by omega) r
  have ho : ∀ r : Fin 64, outR (probR (expR (scoresR Q K) (maxR (scoresR Q K)))) l W
      (ix4 b ⟨col.val / 64, by omega⟩ ⟨T.val * 256 + j.val, by omega⟩ r)
      = ((mapRow (KR k b (col.val / 128)) (XR q (rho / Real.log 2) b (col.val / 128) T.val) (VR v b (col.val / 128)) T.val j
            (2 * (col.val % 128 / 64)) (64 * (col.val % 128 / 64)) r
          - lam * mapRow (KR k b (col.val / 128)) (XR q (rho / Real.log 2) b (col.val / 128) T.val) (VR v b (col.val / 128)) T.val j
            (2 * (col.val % 128 / 64) + 1) (64 * (col.val % 128 / 64)) r : ℝ) : EReal) := fun r => by
    rw [outR_real rho_eq hq hk hv hl, ← hm 0 r, ← hm 1 r]
    rfl
  have hr : (⟨col.val % 128 % 64, by omega⟩ : Fin 64) = ⟨col.val % 64, by omega⟩ := Fin.ext (by show col.val % 128 % 64 = col.val % 64; omega)
  rw [tailR_apply, normR_apply, resVal, ptVal]
  dsimp only
  rw [hr, normed, gated]
  simp only [ho]

theorem arr_eq (hq : ∀ i, Q i = (q i : EReal)) (hk : ∀ i, K i = (k i : EReal)) (hv : ∀ i, W i = (v i : EReal))
    (hl : l ix0 = (lam : EReal)) :
    tailR (normR (outR (probR (expR (scoresR Q K) (maxR (scoresR Q K)))) l W) gain) g = resArr q k v (rho / Real.log 2) lam g gain := by
  funext i
  rw [eq_ix4 i]
  exact point_eq g gain hq hk hv hl (i 0) (i 1) (i 2) (i 3)

/-- The weight of the second map: the reference's and the kernel's are one real. -/
theorem lam_both (a b d e : FVec Ideal S32 .f32) (x y z w : S32.Idx → ℝ) (hx : ∀ i, a i = (x i : EReal)) (hy : ∀ i, b i = (y i : EReal))
    (hz : ∀ i, d i = (z i : EReal)) (hw : ∀ i, e i = (w i : EReal)) :
    ∃ lam : ℝ, lamR a b d e ix0 = (lam : EReal) ∧ k0_pay409 (View.ld (lams a b d e) rl) (ix2 0 0) = (lam : EReal) := by
  obtain ⟨lam, hlam⟩ := lam_real x y z w
  refine ⟨lam, ?_, ?_⟩
  · rw [lamR_apply, ← hlam]; simp only [hx, hy, hz, hw]
  · rw [lam_apply, ← hlam]; simp only [lams_0, lams_1, lams_2, lams_3, hx, hy, hz, hw]

end point

attribute [local instance] Cert.KernelIdeal.Gen.facts Cert.ReferenceIdeal.Gen.facts Cert.Pre_finite_inputs.Da.facts

/-- The kernel's run and the reference's end at one array. -/
theorem algebraic : Cert.algebraic_KernelIdeal_ReferenceIdeal_pre_finite_inputs := by
  intro m ρ m' ρ' hpre hagree
  refine ⟨fun c => (dats m 0 c).arrAt 6 cfg0.N, ?_, ?_⟩
  · exact (θ_run defs _ _).mono (fun _ h c => ⟨(h.2 c).1 6, h.1 c⟩) (θ_run_and (unchanged m ρ) (run_main m ρ))
  refine (θ_run Cert.ReferenceIdeal.defs _ _).mono (fun _ h c => ⟨(h c).1.trans ?_, (h c).2⟩)
    (Cert.ReferenceIdeal.Value.run (F := Ideal) m' ρ')
  obtain ⟨⟨⟨q, hq⟩, ⟨k, hk⟩, ⟨v, hv⟩⟩, ⟨x, hx⟩, ⟨y, hy⟩, ⟨z, hz⟩, ⟨w, hw⟩⟩ := Cert.Pre_finite_inputs.Da.reals _ _ _ _ _ _ _ _ _ (hpre c)
  obtain ⟨lam, hl, hl'⟩ := lam_both _ _ _ _ x y z w hx hy hz hw
  obtain ⟨e0, e1, e2, e3, e4, e5, e6, e7, e8⟩ := hagree c
  rw [Cert.ReferenceIdeal.Da.res_eq]
  erw [e0, e1, e2, e3, e4, e5, e6, e7, e8]
  exact (arr_eq _ _ hq hk hv hl).trans (final m c hq hk hv scale_eq hl').symm

end Cert.KernelIdeal.Da
end
-- ==== Proof.InProj.lean ====
/- The input projection: its two blocks of results read at an index. -/
module

public import proofs.«01_k».proof.Proof.Gen.InProjIdeal.Value
public import Idealize.ShloMosaic.Lib.StableHlo.RunRead
public import Idealize.ShloMosaic.Lib.Claim
public import Idealize.ShloMosaic.Lib.Pipeline.Value
public import Idealize.ShloMosaic.Lib.Pointwise

@[expose] public section

set_option maxRecDepth 16384

noncomputable section

namespace Cert.InProjIdeal.Hand

open Idealize.ShloMosaic Idealize.ShloMosaic.TcCoe Idealize.SL.Sem Cert.InProjIdeal Cert.InProjIdeal.Gen

/-- The queries' factors of groups B and C, the named constants. -/
abbrev scaleB : EReal := Named.named (F := Ideal) κ "scale_b" (φ := .f32) 0x3E38AA3B#32
abbrev scaleC : EReal := Named.named (F := Ideal) κ "scale_c" (φ := .f32) 0x3E8293EE#32

/-- A normalised entry of a token: the token's row, its gain, the place. -/
def hval (x g : Fin 1024 → EReal) (d : Fin 1024) : EReal :=
  x d * Ideal.rsqrt (Ideal.div (∑ e, x e * x e) (Ideal.ofBits .f32 0x44800000#32) + Ideal.ofBits .f32 0x358637BD#32) * g d

/-- The rotation of a token's 256 entries: each group of 32 is two halves of 16, turned by the token's 16 angles. -/
def rot (q : Fin 256 → EReal) (cs sn : Fin 16 → EReal) (i : Fin 256) : EReal :=
  if h : i.val % 32 < 16 then
    q i * cs ⟨i.val % 32, h⟩ - q ⟨i.val + 16, by omega⟩ * sn ⟨i.val % 32, h⟩
  else
    q i * cs ⟨i.val % 32 - 16, by omega⟩ + q ⟨i.val - 16, by omega⟩ * sn ⟨i.val % 32 - 16, by omega⟩

/-- A position as a number. -/
def posr (p : BitVec 32) : EReal := FloatOps.sitofp (F := Ideal) .f32 p

theorem pay4_apply (x : FVec Ideal S1x512x1024 .f32) (g : FVec Ideal S1x1024 .f32) (n : Fin 512) (d : Fin 1024) :
    k0_pay4 (F := Ideal) x g (ix2 n d) = hval (fun d => x (ix3 0 n d)) (fun d => g (ix2 0 d)) d := by
  pointwise [k0_pay4, hval]

theorem pay6_apply (p : Vec Ideal S1x1x512 .i32) (f : FVec Ideal S16x1 .f32) (s : Fin 16) (n : Fin 512) :
    k0_pay6 (F := Ideal) p f (ix2 s n) = Ideal.cos (posr (p (ix3 0 0 n)) * f (ix2 s 0)) := by
  pointwise [k0_pay6, k0_pay5, posr]

theorem pay7_apply (p : Vec Ideal S1x1x512 .i32) (f : FVec Ideal S16x1 .f32) (s : Fin 16) (n : Fin 512) :
    k0_pay7 (F := Ideal) p f (ix2 s n) = Ideal.sin (posr (p (ix3 0 0 n)) * f (ix2 s 0)) := by
  pointwise [k0_pay7, k0_pay5, posr]

theorem pay9_apply (x : FVec Ideal S1x512x1024 .f32) (g : FVec Ideal S1x1024 .f32) (w : FVec Ideal S384x1024 .bf16) (r : Fin 384) (j : Fin 256) :
    k0_pay9 (F := Ideal) x g w (ix4 0 0 r j) = (∑ d, w (ix2 r d) * k0_pay4 (F := Ideal) x g (ix2 ⟨j.val, by omega⟩ d)) * Ideal.ofBits .f32 0x3E000000#32 := by
  pointwise [k0_pay9, k0_pay8]

theorem pay10_apply (x : FVec Ideal S1x512x1024 .f32) (g : FVec Ideal S1x1024 .f32) (w : FVec Ideal S384x1024 .bf16) (r : Fin 384) (j : Fin 256) :
    k0_pay10 (F := Ideal) (k0_pay8 (F := Ideal) x g w) (ix4 0 0 r j) = (∑ d, w (ix2 r d) * k0_pay4 (F := Ideal) x g (ix2 ⟨256 + j.val, by omega⟩ d)) * Ideal.ofBits .f32 0x3E000000#32 := by
  pointwise [k0_pay10, k0_pay8]

theorem pay12_apply (H : FVec Ideal S512x1024 .bf16) (w : FVec Ideal S384x1024 .bf16) (r : Fin 384) (j : Fin 256) :
    k0_pay12 (F := Ideal) H w (ix4 0 0 r j) = (∑ d, w (ix2 r d) * H (ix2 ⟨j.val, by omega⟩ d)) := by
  pointwise [k0_pay12, k0_pay11]

theorem pay13_apply (H : FVec Ideal S512x1024 .bf16) (w : FVec Ideal S384x1024 .bf16) (r : Fin 384) (j : Fin 256) :
    k0_pay13 (F := Ideal) H w (ix4 0 0 r j) = (∑ d, w (ix2 r d) * H (ix2 ⟨256 + j.val, by omega⟩ d)) := by
  pointwise [k0_pay13, k0_pay11]

theorem pay15_apply (H : FVec Ideal S512x1024 .bf16) (w : FVec Ideal S384x1024 .bf16) (r : Fin 384) (j : Fin 256) :
    k0_pay15 (F := Ideal) H w (ix4 0 0 r j) = (∑ d, w (ix2 r d) * H (ix2 ⟨j.val, by omega⟩ d)) := by
  pointwise [k0_pay15, k0_pay14]

theorem pay17_apply (H : FVec Ideal S512x1024 .bf16) (w : FVec Ideal S384x1024 .bf16) (r : Fin 384) (j : Fin 256) :
    k0_pay17 (F := Ideal) (k0_pay16 (F := Ideal) H w) (ix4 0 0 r j) = (∑ d, w (ix2 r d) * H (ix2 ⟨256 + j.val, by omega⟩ d)) := by
  pointwise [k0_pay17, k0_pay16, k0_pay14]

theorem pay19_apply (H : FVec Ideal S512x1024 .bf16) (w : FVec Ideal S384x1024 .bf16) (r : Fin 384) (j : Fin 256) :
    k0_pay19 (F := Ideal) H w (ix4 0 0 r j) = (∑ d, w (ix2 r d) * H (ix2 ⟨j.val, by omega⟩ d)) * scaleB := by
  pointwise [k0_pay19, k0_pay18]

theorem pay20_apply (H : FVec Ideal S512x1024 .bf16) (w : FVec Ideal S384x1024 .bf16) (r : Fin 384) (j : Fin 256) :
    k0_pay20 (F := Ideal) H w (ix4 0 0 r j) = (∑ d, w (ix2 r d) * H (ix2 ⟨256 + j.val, by omega⟩ d)) * scaleB := by
  pointwise [k0_pay20, k0_pay18]

theorem pay22_apply (H : FVec Ideal S512x1024 .bf16) (w : FVec Ideal S384x1024 .bf16) (r : Fin 384) (j : Fin 256) :
    k0_pay22 (F := Ideal) H w (ix4 0 0 r j) = (∑ d, w (ix2 r d) * H (ix2 ⟨j.val, by omega⟩ d)) := by
  pointwise [k0_pay22, k0_pay21]

theorem pay23_apply (H : FVec Ideal S512x1024 .bf16) (w : FVec Ideal S384x1024 .bf16) (r : Fin 384) (j : Fin 256) :
    k0_pay23 (F := Ideal) H w (ix4 0 0 r j) = (∑ d, w (ix2 r d) * H (ix2 ⟨256 + j.val, by omega⟩ d)) := by
  pointwise [k0_pay23, k0_pay21]

theorem pay25_apply (H : FVec Ideal S512x1024 .bf16) (w : FVec Ideal S384x1024 .bf16) (r : Fin 384) (j : Fin 256) :
    k0_pay25 (F := Ideal) H w (ix4 0 0 r j) = (∑ d, w (ix2 r d) * H (ix2 ⟨j.val, by omega⟩ d)) := by
  pointwise [k0_pay25, k0_pay24]

theorem pay26_apply (H : FVec Ideal S512x1024 .bf16) (w : FVec Ideal S384x1024 .bf16) (r : Fin 384) (j : Fin 256) :
    k0_pay26 (F := Ideal) H w (ix4 0 0 r j) = (∑ d, w (ix2 r d) * H (ix2 ⟨256 + j.val, by omega⟩ d)) := by
  pointwise [k0_pay26, k0_pay24]

theorem pay53_apply (H : FVec Ideal S512x1024 .bf16) (w : FVec Ideal S384x1024 .bf16) (r : Fin 384) (j : Fin 256) :
    k0_pay53 (F := Ideal) H w (ix4 0 0 r j) = (∑ d, w (ix2 r d) * H (ix2 ⟨j.val, by omega⟩ d)) := by
  pointwise [k0_pay53, k0_pay52]

theorem pay54_apply (H : FVec Ideal S512x1024 .bf16) (w : FVec Ideal S384x1024 .bf16) (r : Fin 384) (j : Fin 256) :
    k0_pay54 (F := Ideal) H w (ix4 0 0 r j) = (∑ d, w (ix2 r d) * H (ix2 ⟨256 + j.val, by omega⟩ d)) := by
  pointwise [k0_pay54, k0_pay52]

theorem pay50_apply (H : FVec Ideal S512x1024 .bf16) (w : FVec Ideal S384x1024 .bf16) (r : Fin 128) (j : Fin 256) :
    k0_pay50 (F := Ideal) (k0_pay49 (F := Ideal) (k0_pay27 (F := Ideal) H w)) (ix4 0 0 r j) = ∑ d, w (ix2 ⟨256 + r.val, by omega⟩ d) * H (ix2 ⟨j.val, by omega⟩ d) := by
  pointwise [k0_pay50, k0_pay49, k0_pay48, k0_pay27]

theorem pay51_apply (H : FVec Ideal S512x1024 .bf16) (w : FVec Ideal S384x1024 .bf16) (r : Fin 128) (j : Fin 256) :
    k0_pay51 (F := Ideal) (k0_pay48 (F := Ideal) (k0_pay27 (F := Ideal) H w)) (ix4 0 0 r j) = ∑ d, w (ix2 ⟨256 + r.val, by omega⟩ d) * H (ix2 ⟨256 + j.val, by omega⟩ d) := by
  pointwise [k0_pay51, k0_pay48, k0_pay27]

theorem pay28_apply (H : FVec Ideal S512x1024 .bf16) (w : FVec Ideal S384x1024 .bf16) (r : Fin 256) (j : Fin 512) :
    k0_pay28 (F := Ideal) H w (ix2 r j) = ∑ d, w (ix2 ⟨r.val, by omega⟩ d) * H (ix2 j d) := by
  pointwise [k0_pay28, k0_pay27]

theorem pay56_apply (H : FVec Ideal S512x1024 .bf16) (w : FVec Ideal S256x1024 .bf16) (r : Fin 256) (j : Fin 512) :
    k0_pay56 (F := Ideal) H w (ix2 r j) = ∑ d, w (ix2 r d) * H (ix2 j d) := by
  pointwise [k0_pay56]

theorem pay55_apply (H : FVec Ideal S512x1024 .bf16) (w : FVec Ideal S1024x768 .bf16) (n : Fin 512) (e : Fin 768) :
    k0_pay55 (F := Ideal) H w (ix3 0 n e) = ∑ d, H (ix2 n d) * w (ix2 d e) := by
  pointwise [k0_pay55]

/-! ## The rotated slabs -/

/-- Sixteen parts of 16 rows, stacked. -/
def cat16 (v0 v1 v2 v3 v4 v5 v6 v7 v8 v9 v10 v11 v12 v13 v14 v15 : FVec Ideal S16x512 .f32) : FVec Ideal S256x512 .f32 :=
  concatenate S256x512 0 [⟨S16x512, v0⟩, ⟨S16x512, v1⟩, ⟨S16x512, v2⟩, ⟨S16x512, v3⟩, ⟨S16x512, v4⟩, ⟨S16x512, v5⟩, ⟨S16x512, v6⟩, ⟨S16x512, v7⟩, ⟨S16x512, v8⟩, ⟨S16x512, v9⟩, ⟨S16x512, v10⟩, ⟨S16x512, v11⟩, ⟨S16x512, v12⟩, ⟨S16x512, v13⟩, ⟨S16x512, v14⟩, ⟨S16x512, v15⟩] concatenates_S16x512_S16x512_S16x512_S16x512_S16x512_S16x512_S16x512_S16x512_S16x512_S16x512_S16x512_S16x512_S16x512_S16x512_S16x512_S16x512_S256x512_d0

set_option maxHeartbeats 2000000 in
theorem cat16_at (v0 v1 v2 v3 v4 v5 v6 v7 v8 v9 v10 v11 v12 v13 v14 v15 : FVec Ideal S16x512 .f32) (j : Fin 512) (f : Fin 256 → EReal)
    (h0 : ∀ s : Fin 16, v0 (ix2 s j) = f ⟨0 + s.val, by omega⟩)
    (h1 : ∀ s : Fin 16, v1 (ix2 s j) = f ⟨16 + s.val, by omega⟩)
    (h2 : ∀ s : Fin 16, v2 (ix2 s j) = f ⟨32 + s.val, by omega⟩)
    (h3 : ∀ s : Fin 16, v3 (ix2 s j) = f ⟨48 + s.val, by omega⟩)
    (h4 : ∀ s : Fin 16, v4 (ix2 s j) = f ⟨64 + s.val, by omega⟩)
    (h5 : ∀ s : Fin 16, v5 (ix2 s j) = f ⟨80 + s.val, by omega⟩)
    (h6 : ∀ s : Fin 16, v6 (ix2 s j) = f ⟨96 + s.val, by omega⟩)
    (h7 : ∀ s : Fin 16, v7 (ix2 s j) = f ⟨112 + s.val, by omega⟩)
    (h8 : ∀ s : Fin 16, v8 (ix2 s j) = f ⟨128 + s.val, by omega⟩)
    (h9 : ∀ s : Fin 16, v9 (ix2 s j) = f ⟨144 + s.val, by omega⟩)
    (h10 : ∀ s : Fin 16, v10 (ix2 s j) = f ⟨160 + s.val, by omega⟩)
    (h11 : ∀ s : Fin 16, v11 (ix2 s j) = f ⟨176 + s.val, by omega⟩)
    (h12 : ∀ s : Fin 16, v12 (ix2 s j) = f ⟨192 + s.val, by omega⟩)
    (h13 : ∀ s : Fin 16, v13 (ix2 s j) = f ⟨208 + s.val, by omega⟩)
    (h14 : ∀ s : Fin 16, v14 (ix2 s j) = f ⟨224 + s.val, by omega⟩)
    (h15 : ∀ s : Fin 16, v15 (ix2 s j) = f ⟨240 + s.val, by omega⟩)
    (r : Fin 256) : cat16 v0 v1 v2 v3 v4 v5 v6 v7 v8 v9 v10 v11 v12 v13 v14 v15 (ix2 r j) = f r := by
  have hr := r.isLt
  rcases (by omega : (0 ≤ r.val ∧ r.val < 16) ∨ (16 ≤ r.val ∧ r.val < 32) ∨ (32 ≤ r.val ∧ r.val < 48) ∨ (48 ≤ r.val ∧ r.val < 64) ∨ (64 ≤ r.val ∧ r.val < 80) ∨ (80 ≤ r.val ∧ r.val < 96) ∨ (96 ≤ r.val ∧ r.val < 112) ∨ (112 ≤ r.val ∧ r.val < 128) ∨ (128 ≤ r.val ∧ r.val < 144) ∨ (144 ≤ r.val ∧ r.val < 160) ∨ (160 ≤ r.val ∧ r.val < 176) ∨ (176 ≤ r.val ∧ r.val < 192) ∨ (192 ≤ r.val ∧ r.val < 208) ∨ (208 ≤ r.val ∧ r.val < 224) ∨ (224 ≤ r.val ∧ r.val < 240) ∨ (240 ≤ r.val ∧ r.val < 256)) with h | h | h | h | h | h | h | h | h | h | h | h | h | h | h | h
  · refine ((concatenate_apply_piece 0 _ _ (ix2 r j) 0 (by show 0 < 16; omega) S16x512 v0 rfl rfl 0 rfl (ix2 ⟨r.val - 0, by omega⟩ j) (fun b hb => ?_) ?_).trans (h0 _)).trans (congrArg f (Fin.ext (by dsimp only; omega)))
    · match b, hb with
      | ⟨0, _⟩, hb => exact absurd rfl hb
      | ⟨1, _⟩, _ => rfl
    · show 0 + (r.val - 0) = r.val
      omega
  · refine ((concatenate_apply_piece 0 _ _ (ix2 r j) 1 (by show 1 < 16; omega) S16x512 v1 rfl rfl 16 rfl (ix2 ⟨r.val - 16, by omega⟩ j) (fun b hb => ?_) ?_).trans (h1 _)).trans (congrArg f (Fin.ext (by dsimp only; omega)))
    · match b, hb with
      | ⟨0, _⟩, hb => exact absurd rfl hb
      | ⟨1, _⟩, _ => rfl
    · show 16 + (r.val - 16) = r.val
      omega
  · refine ((concatenate_apply_piece 0 _ _ (ix2 r j) 2 (by show 2 < 16; omega) S16x512 v2 rfl rfl 32 rfl (ix2 ⟨r.val - 32, by omega⟩ j) (fun b hb => ?_) ?_).trans (h2 _)).trans (congrArg f (Fin.ext (by dsimp only; omega)))
    · match b, hb with
      | ⟨0, _⟩, hb => exact absurd rfl hb
      | ⟨1, _⟩, _ => rfl
    · show 32 + (r.val - 32) = r.val
      omega
  · refine ((concatenate_apply_piece 0 _ _ (ix2 r j) 3 (by show 3 < 16; omega) S16x512 v3 rfl rfl 48 rfl (ix2 ⟨r.val - 48, by omega⟩ j) (fun b hb => ?_) ?_).trans (h3 _)).trans (congrArg f (Fin.ext (by dsimp only; omega)))
    · match b, hb with
      | ⟨0, _⟩, hb => exact absurd rfl hb
      | ⟨1, _⟩, _ => rfl
    · show 48 + (r.val - 48) = r.val
      omega
  · refine ((concatenate_apply_piece 0 _ _ (ix2 r j) 4 (by show 4 < 16; omega) S16x512 v4 rfl rfl 64 rfl (ix2 ⟨r.val - 64, by omega⟩ j) (fun b hb => ?_) ?_).trans (h4 _)).trans (congrArg f (Fin.ext (by dsimp only; omega)))
    · match b, hb with
      | ⟨0, _⟩, hb => exact absurd rfl hb
      | ⟨1, _⟩, _ => rfl
    · show 64 + (r.val - 64) = r.val
      omega
  · refine ((concatenate_apply_piece 0 _ _ (ix2 r j) 5 (by show 5 < 16; omega) S16x512 v5 rfl rfl 80 rfl (ix2 ⟨r.val - 80, by omega⟩ j) (fun b hb => ?_) ?_).trans (h5 _)).trans (congrArg f (Fin.ext (by dsimp only; omega)))
    · match b, hb with
      | ⟨0, _⟩, hb => exact absurd rfl hb
      | ⟨1, _⟩, _ => rfl
    · show 80 + (r.val - 80) = r.val
      omega
  · refine ((concatenate_apply_piece 0 _ _ (ix2 r j) 6 (by show 6 < 16; omega) S16x512 v6 rfl rfl 96 rfl (ix2 ⟨r.val - 96, by omega⟩ j) (fun b hb => ?_) ?_).trans (h6 _)).trans (congrArg f (Fin.ext (by dsimp only; omega)))
    · match b, hb with
      | ⟨0, _⟩, hb => exact absurd rfl hb
      | ⟨1, _⟩, _ => rfl
    · show 96 + (r.val - 96) = r.val
      omega
  · refine ((concatenate_apply_piece 0 _ _ (ix2 r j) 7 (by show 7 < 16; omega) S16x512 v7 rfl rfl 112 rfl (ix2 ⟨r.val - 112, by omega⟩ j) (fun b hb => ?_) ?_).trans (h7 _)).trans (congrArg f (Fin.ext (by dsimp only; omega)))
    · match b, hb with
      | ⟨0, _⟩, hb => exact absurd rfl hb
      | ⟨1, _⟩, _ => rfl
    · show 112 + (r.val - 112) = r.val
      omega
  · refine ((concatenate_apply_piece 0 _ _ (ix2 r j) 8 (by show 8 < 16; omega) S16x512 v8 rfl rfl 128 rfl (ix2 ⟨r.val - 128, by omega⟩ j) (fun b hb => ?_) ?_).trans (h8 _)).trans (congrArg f (Fin.ext (by dsimp only; omega)))
    · match b, hb with
      | ⟨0, _⟩, hb => exact absurd rfl hb
      | ⟨1, _⟩, _ => rfl
    · show 128 + (r.val - 128) = r.val
      omega
  · refine ((concatenate_apply_piece 0 _ _ (ix2 r j) 9 (by show 9 < 16; omega) S16x512 v9 rfl rfl 144 rfl (ix2 ⟨r.val - 144, by omega⟩ j) (fun b hb => ?_) ?_).trans (h9 _)).trans (congrArg f (Fin.ext (by dsimp only; omega)))
    · match b, hb with
      | ⟨0, _⟩, hb => exact absurd rfl hb
      | ⟨1, _⟩, _ => rfl
    · show 144 + (r.val - 144) = r.val
      omega
  · refine ((concatenate_apply_piece 0 _ _ (ix2 r j) 10 (by show 10 < 16; omega) S16x512 v10 rfl rfl 160 rfl (ix2 ⟨r.val - 160, by omega⟩ j) (fun b hb => ?_) ?_).trans (h10 _)).trans (congrArg f (Fin.ext (by dsimp only; omega)))
    · match b, hb with
      | ⟨0, _⟩, hb => exact absurd rfl hb
      | ⟨1, _⟩, _ => rfl
    · show 160 + (r.val - 160) = r.val
      omega
  · refine ((concatenate_apply_piece 0 _ _ (ix2 r j) 11 (by show 11 < 16; omega) S16x512 v11 rfl rfl 176 rfl (ix2 ⟨r.val - 176, by omega⟩ j) (fun b hb => ?_) ?_).trans (h11 _)).trans (congrArg f (Fin.ext (by dsimp only; omega)))
    · match b, hb with
      | ⟨0, _⟩, hb => exact absurd rfl hb
      | ⟨1, _⟩, _ => rfl
    · show 176 + (r.val - 176) = r.val
      omega
  · refine ((concatenate_apply_piece 0 _ _ (ix2 r j) 12 (by show 12 < 16; omega) S16x512 v12 rfl rfl 192 rfl (ix2 ⟨r.val - 192, by omega⟩ j) (fun b hb => ?_) ?_).trans (h12 _)).trans (congrArg f (Fin.ext (by dsimp only; omega)))
    · match b, hb with
      | ⟨0, _⟩, hb => exact absurd rfl hb
      | ⟨1, _⟩, _ => rfl
    · show 192 + (r.val - 192) = r.val
      omega
  · refine ((concatenate_apply_piece 0 _ _ (ix2 r j) 13 (by show 13 < 16; omega) S16x512 v13 rfl rfl 208 rfl (ix2 ⟨r.val - 208, by omega⟩ j) (fun b hb => ?_) ?_).trans (h13 _)).trans (congrArg f (Fin.ext (by dsimp only; omega)))
    · match b, hb with
      | ⟨0, _⟩, hb => exact absurd rfl hb
      | ⟨1, _⟩, _ => rfl
    · show 208 + (r.val - 208) = r.val
      omega
  · refine ((concatenate_apply_piece 0 _ _ (ix2 r j) 14 (by show 14 < 16; omega) S16x512 v14 rfl rfl 224 rfl (ix2 ⟨r.val - 224, by omega⟩ j) (fun b hb => ?_) ?_).trans (h14 _)).trans (congrArg f (Fin.ext (by dsimp only; omega)))
    · match b, hb with
      | ⟨0, _⟩, hb => exact absurd rfl hb
      | ⟨1, _⟩, _ => rfl
    · show 224 + (r.val - 224) = r.val
      omega
  · refine ((concatenate_apply_piece 0 _ _ (ix2 r j) 15 (by show 15 < 16; omega) S16x512 v15 rfl rfl 240 rfl (ix2 ⟨r.val - 240, by omega⟩ j) (fun b hb => ?_) ?_).trans (h15 _)).trans (congrArg f (Fin.ext (by dsimp only; omega)))
    · match b, hb with
      | ⟨0, _⟩, hb => exact absurd rfl hb
      | ⟨1, _⟩, _ => rfl
    · show 240 + (r.val - 240) = r.val
      omega

/-- A part of a rotated slab from two parts of it: the one turned forward. -/
def rotA (cs sn : FVec Ideal S16x512 .f32) (a b : FVec Ideal S16x512 .f32) : FVec Ideal S16x512 .f32 :=
  subf (mulf a cs) (mulf b sn)

/-- And the one turned back. -/
def rotB (cs sn : FVec Ideal S16x512 .f32) (a b : FVec Ideal S16x512 .f32) : FVec Ideal S16x512 .f32 :=
  addf (mulf b cs) (mulf a sn)

theorem rotA0_apply (t : FVec Ideal S256x512 .f32) (cs sn : FVec Ideal S16x512 .f32) (j : Fin 512) (s : Fin 16) :
    rotA cs sn (extractStridedSlice S16x512 ![0, 0] t slices_S256x512_o0_0_S16x512) (extractStridedSlice S16x512 ![16, 0] t slices_S256x512_o16_0_S16x512) (ix2 s j) = rot (fun i => t (ix2 i j)) (fun s => cs (ix2 s j)) (fun s => sn (ix2 s j)) ⟨0 + s.val, by omega⟩ := by
  have h : (0 + s.val) % 32 = s.val := by omega
  unfold rot
  rw [dif_pos (by dsimp only; omega)]
  simp only [h]
  pointwise [rotA]
  simp only [Nat.add_assoc, Nat.add_comm, Nat.add_left_comm]

theorem rotB0_apply (t : FVec Ideal S256x512 .f32) (cs sn : FVec Ideal S16x512 .f32) (j : Fin 512) (s : Fin 16) :
    rotB cs sn (extractStridedSlice S16x512 ![0, 0] t slices_S256x512_o0_0_S16x512) (extractStridedSlice S16x512 ![16, 0] t slices_S256x512_o16_0_S16x512) (ix2 s j) = rot (fun i => t (ix2 i j)) (fun s => cs (ix2 s j)) (fun s => sn (ix2 s j)) ⟨16 + s.val, by omega⟩ := by
  have h : (16 + s.val) % 32 - 16 = s.val := by omega
  have h' : 16 + s.val - 16 = 0 + s.val := by omega
  unfold rot
  rw [dif_neg (by dsimp only; omega)]
  simp only [h, h']
  pointwise [rotB]

theorem rotA1_apply (t : FVec Ideal S256x512 .f32) (cs sn : FVec Ideal S16x512 .f32) (j : Fin 512) (s : Fin 16) :
    rotA cs sn (extractStridedSlice S16x512 ![32, 0] t slices_S256x512_o32_0_S16x512) (extractStridedSlice S16x512 ![48, 0] t slices_S256x512_o48_0_S16x512) (ix2 s j) = rot (fun i => t (ix2 i j)) (fun s => cs (ix2 s j)) (fun s => sn (ix2 s j)) ⟨32 + s.val, by omega⟩ := by
  have h : (32 + s.val) % 32 = s.val := by omega
  unfold rot
  rw [dif_pos (by dsimp only; omega)]
  simp only [h]
  pointwise [rotA]
  simp only [Nat.add_assoc, Nat.add_comm, Nat.add_left_comm]

theorem rotB1_apply (t : FVec Ideal S256x512 .f32) (cs sn : FVec Ideal S16x512 .f32) (j : Fin 512) (s : Fin 16) :
    rotB cs sn (extractStridedSlice S16x512 ![32, 0] t slices_S256x512_o32_0_S16x512) (extractStridedSlice S16x512 ![48, 0] t slices_S256x512_o48_0_S16x512) (ix2 s j) = rot (fun i => t (ix2 i j)) (fun s => cs (ix2 s j)) (fun s => sn (ix2 s j)) ⟨48 + s.val, by omega⟩ := by
  have h : (48 + s.val) % 32 - 16 = s.val := by omega
  have h' : 48 + s.val - 16 = 32 + s.val := by omega
  unfold rot
  rw [dif_neg (by dsimp only; omega)]
  simp only [h, h']
  pointwise [rotB]

theorem rotA2_apply (t : FVec Ideal S256x512 .f32) (cs sn : FVec Ideal S16x512 .f32) (j : Fin 512) (s : Fin 16) :
    rotA cs sn (extractStridedSlice S16x512 ![64, 0] t slices_S256x512_o64_0_S16x512) (extractStridedSlice S16x512 ![80, 0] t slices_S256x512_o80_0_S16x512) (ix2 s j) = rot (fun i => t (ix2 i j)) (fun s => cs (ix2 s j)) (fun s => sn (ix2 s j)) ⟨64 + s.val, by omega⟩ := by
  have h : (64 + s.val) % 32 = s.val := by omega
  unfold rot
  rw [dif_pos (by dsimp only; omega)]
  simp only [h]
  pointwise [rotA]
  simp only [Nat.add_assoc, Nat.add_comm, Nat.add_left_comm]

theorem rotB2_apply (t : FVec Ideal S256x512 .f32) (cs sn : FVec Ideal S16x512 .f32) (j : Fin 512) (s : Fin 16) :
    rotB cs sn (extractStridedSlice S16x512 ![64, 0] t slices_S256x512_o64_0_S16x512) (extractStridedSlice S16x512 ![80, 0] t slices_S256x512_o80_0_S16x512) (ix2 s j) = rot (fun i => t (ix2 i j)) (fun s => cs (ix2 s j)) (fun s => sn (ix2 s j)) ⟨80 + s.val, by omega⟩ := by
  have h : (80 + s.val) % 32 - 16 = s.val := by omega
  have h' : 80 + s.val - 16 = 64 + s.val := by omega
  unfold rot
  rw [dif_neg (by dsimp only; omega)]
  simp only [h, h']
  pointwise [rotB]

theorem rotA3_apply (t : FVec Ideal S256x512 .f32) (cs sn : FVec Ideal S16x512 .f32) (j : Fin 512) (s : Fin 16) :
    rotA cs sn (extractStridedSlice S16x512 ![96, 0] t slices_S256x512_o96_0_S16x512) (extractStridedSlice S16x512 ![112, 0] t slices_S256x512_o112_0_S16x512) (ix2 s j) = rot (fun i => t (ix2 i j)) (fun s => cs (ix2 s j)) (fun s => sn (ix2 s j)) ⟨96 + s.val, by omega⟩ := by
  have h : (96 + s.val) % 32 = s.val := by omega
  unfold rot
  rw [dif_pos (by dsimp only; omega)]
  simp only [h]
  pointwise [rotA]
  simp only [Nat.add_assoc, Nat.add_comm, Nat.add_left_comm]

theorem rotB3_apply (t : FVec Ideal S256x512 .f32) (cs sn : FVec Ideal S16x512 .f32) (j : Fin 512) (s : Fin 16) :
    rotB cs sn (extractStridedSlice S16x512 ![96, 0] t slices_S256x512_o96_0_S16x512) (extractStridedSlice S16x512 ![112, 0] t slices_S256x512_o112_0_S16x512) (ix2 s j) = rot (fun i => t (ix2 i j)) (fun s => cs (ix2 s j)) (fun s => sn (ix2 s j)) ⟨112 + s.val, by omega⟩ := by
  have h : (112 + s.val) % 32 - 16 = s.val := by omega
  have h' : 112 + s.val - 16 = 96 + s.val := by omega
  unfold rot
  rw [dif_neg (by dsimp only; omega)]
  simp only [h, h']
  pointwise [rotB]

theorem rotA4_apply (t : FVec Ideal S256x512 .f32) (cs sn : FVec Ideal S16x512 .f32) (j : Fin 512) (s : Fin 16) :
    rotA cs sn (extractStridedSlice S16x512 ![128, 0] t slices_S256x512_o128_0_S16x512) (extractStridedSlice S16x512 ![144, 0] t slices_S256x512_o144_0_S16x512) (ix2 s j) = rot (fun i => t (ix2 i j)) (fun s => cs (ix2 s j)) (fun s => sn (ix2 s j)) ⟨128 + s.val, by omega⟩ := by
  have h : (128 + s.val) % 32 = s.val := by omega
  unfold rot
  rw [dif_pos (by dsimp only; omega)]
  simp only [h]
  pointwise [rotA]
  simp only [Nat.add_assoc, Nat.add_comm, Nat.add_left_comm]

theorem rotB4_apply (t : FVec Ideal S256x512 .f32) (cs sn : FVec Ideal S16x512 .f32) (j : Fin 512) (s : Fin 16) :
    rotB cs sn (extractStridedSlice S16x512 ![128, 0] t slices_S256x512_o128_0_S16x512) (extractStridedSlice S16x512 ![144, 0] t slices_S256x512_o144_0_S16x512) (ix2 s j) = rot (fun i => t (ix2 i j)) (fun s => cs (ix2 s j)) (fun s => sn (ix2 s j)) ⟨144 + s.val, by omega⟩ := by
  have h : (144 + s.val) % 32 - 16 = s.val := by omega
  have h' : 144 + s.val - 16 = 128 + s.val := by omega
  unfold rot
  rw [dif_neg (by dsimp only; omega)]
  simp only [h, h']
  pointwise [rotB]

theorem rotA5_apply (t : FVec Ideal S256x512 .f32) (cs sn : FVec Ideal S16x512 .f32) (j : Fin 512) (s : Fin 16) :
    rotA cs sn (extractStridedSlice S16x512 ![160, 0] t slices_S256x512_o160_0_S16x512) (extractStridedSlice S16x512 ![176, 0] t slices_S256x512_o176_0_S16x512) (ix2 s j) = rot (fun i => t (ix2 i j)) (fun s => cs (ix2 s j)) (fun s => sn (ix2 s j)) ⟨160 + s.val, by omega⟩ := by
  have h : (160 + s.val) % 32 = s.val := by omega
  unfold rot
  rw [dif_pos (by dsimp only; omega)]
  simp only [h]
  pointwise [rotA]
  simp only [Nat.add_assoc, Nat.add_comm, Nat.add_left_comm]

theorem rotB5_apply (t : FVec Ideal S256x512 .f32) (cs sn : FVec Ideal S16x512 .f32) (j : Fin 512) (s : Fin 16) :
    rotB cs sn (extractStridedSlice S16x512 ![160, 0] t slices_S256x512_o160_0_S16x512) (extractStridedSlice S16x512 ![176, 0] t slices_S256x512_o176_0_S16x512) (ix2 s j) = rot (fun i => t (ix2 i j)) (fun s => cs (ix2 s j)) (fun s => sn (ix2 s j)) ⟨176 + s.val, by omega⟩ := by
  have h : (176 + s.val) % 32 - 16 = s.val := by omega
  have h' : 176 + s.val - 16 = 160 + s.val := by omega
  unfold rot
  rw [dif_neg (by dsimp only; omega)]
  simp only [h, h']
  pointwise [rotB]

theorem rotA6_apply (t : FVec Ideal S256x512 .f32) (cs sn : FVec Ideal S16x512 .f32) (j : Fin 512) (s : Fin 16) :
    rotA cs sn (extractStridedSlice S16x512 ![192, 0] t slices_S256x512_o192_0_S16x512) (extractStridedSlice S16x512 ![208, 0] t slices_S256x512_o208_0_S16x512) (ix2 s j) = rot (fun i => t (ix2 i j)) (fun s => cs (ix2 s j)) (fun s => sn (ix2 s j)) ⟨192 + s.val, by omega⟩ := by
  have h : (192 + s.val) % 32 = s.val := by omega
  unfold rot
  rw [dif_pos (by dsimp only; omega)]
  simp only [h]
  pointwise [rotA]
  simp only [Nat.add_assoc, Nat.add_comm, Nat.add_left_comm]

theorem rotB6_apply (t : FVec Ideal S256x512 .f32) (cs sn : FVec Ideal S16x512 .f32) (j : Fin 512) (s : Fin 16) :
    rotB cs sn (extractStridedSlice S16x512 ![192, 0] t slices_S256x512_o192_0_S16x512) (extractStridedSlice S16x512 ![208, 0] t slices_S256x512_o208_0_S16x512) (ix2 s j) = rot (fun i => t (ix2 i j)) (fun s => cs (ix2 s j)) (fun s => sn (ix2 s j)) ⟨208 + s.val, by omega⟩ := by
  have h : (208 + s.val) % 32 - 16 = s.val := by omega
  have h' : 208 + s.val - 16 = 192 + s.val := by omega
  unfold rot
  rw [dif_neg (by dsimp only; omega)]
  simp only [h, h']
  pointwise [rotB]

theorem rotA7_apply (t : FVec Ideal S256x512 .f32) (cs sn : FVec Ideal S16x512 .f32) (j : Fin 512) (s : Fin 16) :
    rotA cs sn (extractStridedSlice S16x512 ![224, 0] t slices_S256x512_o224_0_S16x512) (extractStridedSlice S16x512 ![240, 0] t slices_S256x512_o240_0_S16x512) (ix2 s j) = rot (fun i => t (ix2 i j)) (fun s => cs (ix2 s j)) (fun s => sn (ix2 s j)) ⟨224 + s.val, by omega⟩ := by
  have h : (224 + s.val) % 32 = s.val := by omega
  unfold rot
  rw [dif_pos (by dsimp only; omega)]
  simp only [h]
  pointwise [rotA]
  simp only [Nat.add_assoc, Nat.add_comm, Nat.add_left_comm]

theorem rotB7_apply (t : FVec Ideal S256x512 .f32) (cs sn : FVec Ideal S16x512 .f32) (j : Fin 512) (s : Fin 16) :
    rotB cs sn (extractStridedSlice S16x512 ![224, 0] t slices_S256x512_o224_0_S16x512) (extractStridedSlice S16x512 ![240, 0] t slices_S256x512_o240_0_S16x512) (ix2 s j) = rot (fun i => t (ix2 i j)) (fun s => cs (ix2 s j)) (fun s => sn (ix2 s j)) ⟨240 + s.val, by omega⟩ := by
  have h : (240 + s.val) % 32 - 16 = s.val := by omega
  have h' : 240 + s.val - 16 = 224 + s.val := by omega
  unfold rot
  rw [dif_neg (by dsimp only; omega)]
  simp only [h, h']
  pointwise [rotB]

/-- A slab rotated. -/
def rotT (t : FVec Ideal S256x512 .f32) (cs sn : FVec Ideal S16x512 .f32) : FVec Ideal S256x512 .f32 :=
  cat16 (rotA cs sn (extractStridedSlice S16x512 ![0, 0] t slices_S256x512_o0_0_S16x512) (extractStridedSlice S16x512 ![16, 0] t slices_S256x512_o16_0_S16x512))
    (rotB cs sn (extractStridedSlice S16x512 ![0, 0] t slices_S256x512_o0_0_S16x512) (extractStridedSlice S16x512 ![16, 0] t slices_S256x512_o16_0_S16x512))
    (rotA cs sn (extractStridedSlice S16x512 ![32, 0] t slices_S256x512_o32_0_S16x512) (extractStridedSlice S16x512 ![48, 0] t slices_S256x512_o48_0_S16x512))
    (rotB cs sn (extractStridedSlice S16x512 ![32, 0] t slices_S256x512_o32_0_S16x512) (extractStridedSlice S16x512 ![48, 0] t slices_S256x512_o48_0_S16x512))
    (rotA cs sn (extractStridedSlice S16x512 ![64, 0] t slices_S256x512_o64_0_S16x512) (extractStridedSlice S16x512 ![80, 0] t slices_S256x512_o80_0_S16x512))
    (rotB cs sn (extractStridedSlice S16x512 ![64, 0] t slices_S256x512_o64_0_S16x512) (extractStridedSlice S16x512 ![80, 0] t slices_S256x512_o80_0_S16x512))
    (rotA cs sn (extractStridedSlice S16x512 ![96, 0] t slices_S256x512_o96_0_S16x512) (extractStridedSlice S16x512 ![112, 0] t slices_S256x512_o112_0_S16x512))
    (rotB cs sn (extractStridedSlice S16x512 ![96, 0] t slices_S256x512_o96_0_S16x512) (extractStridedSlice S16x512 ![112, 0] t slices_S256x512_o112_0_S16x512))
    (rotA cs sn (extractStridedSlice S16x512 ![128, 0] t slices_S256x512_o128_0_S16x512) (extractStridedSlice S16x512 ![144, 0] t slices_S256x512_o144_0_S16x512))
    (rotB cs sn (extractStridedSlice S16x512 ![128, 0] t slices_S256x512_o128_0_S16x512) (extractStridedSlice S16x512 ![144, 0] t slices_S256x512_o144_0_S16x512))
    (rotA cs sn (extractStridedSlice S16x512 ![160, 0] t slices_S256x512_o160_0_S16x512) (extractStridedSlice S16x512 ![176, 0] t slices_S256x512_o176_0_S16x512))
    (rotB cs sn (extractStridedSlice S16x512 ![160, 0] t slices_S256x512_o160_0_S16x512) (extractStridedSlice S16x512 ![176, 0] t slices_S256x512_o176_0_S16x512))
    (rotA cs sn (extractStridedSlice S16x512 ![192, 0] t slices_S256x512_o192_0_S16x512) (extractStridedSlice S16x512 ![208, 0] t slices_S256x512_o208_0_S16x512))
    (rotB cs sn (extractStridedSlice S16x512 ![192, 0] t slices_S256x512_o192_0_S16x512) (extractStridedSlice S16x512 ![208, 0] t slices_S256x512_o208_0_S16x512))
    (rotA cs sn (extractStridedSlice S16x512 ![224, 0] t slices_S256x512_o224_0_S16x512) (extractStridedSlice S16x512 ![240, 0] t slices_S256x512_o240_0_S16x512))
    (rotB cs sn (extractStridedSlice S16x512 ![224, 0] t slices_S256x512_o224_0_S16x512) (extractStridedSlice S16x512 ![240, 0] t slices_S256x512_o240_0_S16x512))

theorem rotT_apply (t : FVec Ideal S256x512 .f32) (cs sn : FVec Ideal S16x512 .f32) (r : Fin 256) (j : Fin 512) :
    rotT t cs sn (ix2 r j) = rot (fun i => t (ix2 i j)) (fun s => cs (ix2 s j)) (fun s => sn (ix2 s j)) r :=
  cat16_at _ _ _ _ _ _ _ _ _ _ _ _ _ _ _ _ j _ (rotA0_apply t cs sn j) (rotB0_apply t cs sn j) (rotA1_apply t cs sn j) (rotB1_apply t cs sn j) (rotA2_apply t cs sn j) (rotB2_apply t cs sn j) (rotA3_apply t cs sn j) (rotB3_apply t cs sn j) (rotA4_apply t cs sn j) (rotB4_apply t cs sn j) (rotA5_apply t cs sn j) (rotB5_apply t cs sn j) (rotA6_apply t cs sn j) (rotB6_apply t cs sn j) (rotA7_apply t cs sn j) (rotB7_apply t cs sn j) r

theorem pay45_eq (H : FVec Ideal S512x1024 .bf16) (w : FVec Ideal S384x1024 .bf16) (cs sn : FVec Ideal S16x512 .f32) :
    k0_pay45 (F := Ideal) cs sn (k0_pay28 (F := Ideal) H w) (k0_pay31 (F := Ideal) H cs sn w) (k0_pay32 (F := Ideal) H cs sn w) (k0_pay35 (F := Ideal) H cs sn w) (k0_pay36 (F := Ideal) H cs sn w) (k0_pay39 (F := Ideal) H cs sn w) (k0_pay40 (F := Ideal) H cs sn w) (k0_pay41 (F := Ideal) H w) (k0_pay43 (F := Ideal) H cs sn w) (k0_pay44 (F := Ideal) H cs w) = mulf (rotT (k0_pay28 (F := Ideal) H w) cs sn) (broadcast S256x512 (Named.named (F := Ideal) κ "scale_c" (φ := .f32) 0x3E8293EE#32)) := rfl

theorem pay45_apply (H : FVec Ideal S512x1024 .bf16) (w : FVec Ideal S384x1024 .bf16) (cs sn : FVec Ideal S16x512 .f32) (r : Fin 256) (j : Fin 512) :
    k0_pay45 (F := Ideal) cs sn (k0_pay28 (F := Ideal) H w) (k0_pay31 (F := Ideal) H cs sn w) (k0_pay32 (F := Ideal) H cs sn w) (k0_pay35 (F := Ideal) H cs sn w) (k0_pay36 (F := Ideal) H cs sn w) (k0_pay39 (F := Ideal) H cs sn w) (k0_pay40 (F := Ideal) H cs sn w) (k0_pay41 (F := Ideal) H w) (k0_pay43 (F := Ideal) H cs sn w) (k0_pay44 (F := Ideal) H cs w) (ix2 r j) = rot (fun i => ∑ d, w (ix2 ⟨i.val, by omega⟩ d) * H (ix2 j d)) (fun s => cs (ix2 s j)) (fun s => sn (ix2 s j)) r * scaleC := by
  rw [pay45_eq]
  pointwise []
  rw [rotT_apply]
  simp only [pay28_apply]

theorem pay46_apply (H : FVec Ideal S512x1024 .bf16) (w : FVec Ideal S384x1024 .bf16) (cs sn : FVec Ideal S16x512 .f32) (r : Fin 256) (j : Fin 256) :
    k0_pay46 (F := Ideal) cs sn (k0_pay28 (F := Ideal) H w) (k0_pay31 (F := Ideal) H cs sn w) (k0_pay32 (F := Ideal) H cs sn w) (k0_pay35 (F := Ideal) H cs sn w) (k0_pay36 (F := Ideal) H cs sn w) (k0_pay39 (F := Ideal) H cs sn w) (k0_pay40 (F := Ideal) H cs sn w) (k0_pay41 (F := Ideal) H w) (k0_pay43 (F := Ideal) H cs sn w) (k0_pay44 (F := Ideal) H cs w) (ix4 0 0 r j) = rot (fun i => ∑ d, w (ix2 ⟨i.val, by omega⟩ d) * H (ix2 ⟨j.val, by omega⟩ d)) (fun s => cs (ix2 s ⟨j.val, by omega⟩)) (fun s => sn (ix2 s ⟨j.val, by omega⟩)) r * scaleC := by
  refine Eq.trans ?_ (pay45_apply H w cs sn r ⟨j.val, by omega⟩)
  pointwise [k0_pay46]

theorem pay47_apply (H : FVec Ideal S512x1024 .bf16) (w : FVec Ideal S384x1024 .bf16) (cs sn : FVec Ideal S16x512 .f32) (r : Fin 256) (j : Fin 256) :
    k0_pay47 (F := Ideal) cs sn (k0_pay28 (F := Ideal) H w) (k0_pay31 (F := Ideal) H cs sn w) (k0_pay32 (F := Ideal) H cs sn w) (k0_pay35 (F := Ideal) H cs sn w) (k0_pay36 (F := Ideal) H cs sn w) (k0_pay39 (F := Ideal) H cs sn w) (k0_pay40 (F := Ideal) H cs sn w) (k0_pay41 (F := Ideal) H w) (k0_pay43 (F := Ideal) H cs sn w) (k0_pay44 (F := Ideal) H cs w) (ix4 0 0 r j) = rot (fun i => ∑ d, w (ix2 ⟨i.val, by omega⟩ d) * H (ix2 ⟨256 + j.val, by omega⟩ d)) (fun s => cs (ix2 s ⟨256 + j.val, by omega⟩)) (fun s => sn (ix2 s ⟨256 + j.val, by omega⟩)) r * scaleC := by
  refine Eq.trans ?_ (pay45_apply H w cs sn r ⟨256 + j.val, by omega⟩)
  pointwise [k0_pay47]

theorem pay3_eq (H : FVec Ideal S512x1024 .bf16) (w : FVec Ideal S256x1024 .bf16) (cs sn : FVec Ideal S16x512 .f32) :
    k0_pay3 (F := Ideal) (k0_pay59 (F := Ideal) H cs sn w) (k0_pay60 (F := Ideal) H cs sn w) (k0_pay63 (F := Ideal) H cs sn w) (k0_pay64 (F := Ideal) H cs sn w) (k0_pay67 (F := Ideal) H cs sn w) (k0_pay68 (F := Ideal) H cs sn w) (k0_pay71 (F := Ideal) H cs sn w) (k0_pay72 (F := Ideal) H cs sn w) (k0_pay75 (F := Ideal) H cs sn w) (k0_pay76 (F := Ideal) H cs sn w) (k0_pay79 (F := Ideal) H cs sn w) (k0_pay80 (F := Ideal) H cs sn w) (k0_pay83 (F := Ideal) H cs sn w) (addf (k0_pay84 (F := Ideal) H cs w) (k0_pay85 (F := Ideal) H sn w)) (k0_pay1 (F := Ideal) cs sn (extractStridedSlice S16x512 ![224, 0] (k0_pay56 (F := Ideal) H w) slices_S256x512_o224_0_S16x512) (extractStridedSlice S16x512 ![240, 0] (k0_pay56 (F := Ideal) H w) slices_S256x512_o240_0_S16x512)) (k0_pay2 (F := Ideal) cs sn (extractStridedSlice S16x512 ![224, 0] (k0_pay56 (F := Ideal) H w) slices_S256x512_o224_0_S16x512) (extractStridedSlice S16x512 ![240, 0] (k0_pay56 (F := Ideal) H w) slices_S256x512_o240_0_S16x512)) = shapeCast S1x512x256 (truncf .bf16 (transpose S512x256 [1, 0] (rotT (k0_pay56 (F := Ideal) H w) cs sn) transposes_S256x512_p1_0_S512x256) bitsLt_bf16_f32) shapeCasts_S512x256_S1x512x256 := rfl

theorem pay3_apply (H : FVec Ideal S512x1024 .bf16) (w : FVec Ideal S256x1024 .bf16) (cs sn : FVec Ideal S16x512 .f32) (n : Fin 512) (i : Fin 256) :
    k0_pay3 (F := Ideal) (k0_pay59 (F := Ideal) H cs sn w) (k0_pay60 (F := Ideal) H cs sn w) (k0_pay63 (F := Ideal) H cs sn w) (k0_pay64 (F := Ideal) H cs sn w) (k0_pay67 (F := Ideal) H cs sn w) (k0_pay68 (F := Ideal) H cs sn w) (k0_pay71 (F := Ideal) H cs sn w) (k0_pay72 (F := Ideal) H cs sn w) (k0_pay75 (F := Ideal) H cs sn w) (k0_pay76 (F := Ideal) H cs sn w) (k0_pay79 (F := Ideal) H cs sn w) (k0_pay80 (F := Ideal) H cs sn w) (k0_pay83 (F := Ideal) H cs sn w) (addf (k0_pay84 (F := Ideal) H cs w) (k0_pay85 (F := Ideal) H sn w)) (k0_pay1 (F := Ideal) cs sn (extractStridedSlice S16x512 ![224, 0] (k0_pay56 (F := Ideal) H w) slices_S256x512_o224_0_S16x512) (extractStridedSlice S16x512 ![240, 0] (k0_pay56 (F := Ideal) H w) slices_S256x512_o240_0_S16x512)) (k0_pay2 (F := Ideal) cs sn (extractStridedSlice S16x512 ![224, 0] (k0_pay56 (F := Ideal) H w) slices_S256x512_o224_0_S16x512) (extractStridedSlice S16x512 ![240, 0] (k0_pay56 (F := Ideal) H w) slices_S256x512_o240_0_S16x512)) (ix3 0 n i) = rot (fun i => ∑ d, w (ix2 i d) * H (ix2 n d)) (fun s => cs (ix2 s n)) (fun s => sn (ix2 s n)) i := by
  rw [pay3_eq]
  pointwise []
  rw [rotT_apply]
  simp only [pay56_apply]

end Cert.InProjIdeal.Hand
end
-- ==== Proof.InProjBlock.lean ====
/- The blocks a point of the input projection leaves, entry by entry. -/
module

public import proofs.«01_k».proof.Proof.InProj
public import Idealize.ShloMosaic.Lib.WholeRead

@[expose] public section

set_option maxRecDepth 16384

noncomputable section

namespace Cert.InProjIdeal.Hand

open Idealize.ShloMosaic Idealize.ShloMosaic.TcCoe Idealize.SL.Sem Cert.InProjIdeal Cert.InProjIdeal.Gen

/-- The first result's rows of a token: its products, three of the nine spans scaled, one of them rotated first. -/
def kq (p : Fin 3072 → EReal) (cs sn : Fin 16 → EReal) (a : Fin 3072) : EReal :=
  if a.val < 384 then p a * Ideal.ofBits .f32 0x3E000000#32
  else if a.val < 1152 then p a
  else if a.val < 1536 then p a * scaleB
  else if a.val < 2304 then p a
  else if h : 2304 ≤ a.val ∧ a.val < 2560 then
    rot (fun i => p ⟨2304 + i.val, by omega⟩) cs sn ⟨a.val - 2304, by omega⟩ * scaleC
  else p a

/-- The second result's entries of a token: two spans of products and one rotated span. -/
def kk (p : Fin 768 → EReal) (q : Fin 256 → EReal) (cs sn : Fin 16 → EReal) (e : Fin 1024) : EReal :=
  if h : e.val < 768 then p ⟨e.val, h⟩ else rot q cs sn ⟨e.val - 768, by omega⟩

def tok (u : Fin 2) (j : Fin 256) : Fin 512 := ⟨u.val * 256 + j.val, by omega⟩

section blocks
variable (x0 : Vec Ideal S1x512x1024 .f32) (x1 : Vec Ideal S1x1024 .f32) (x2 : Vec Ideal S3072x1024 .bf16) (x3 : Vec Ideal S1024x768 .bf16) (x4 : Vec Ideal S256x1024 .bf16)
    (x5 : Vec Ideal S1x1x512 .i32) (x6 : Vec Ideal S16x1 .f32)

def prodW (n : Fin 512) (a : Fin 3072) : EReal := ∑ d, x2 (ix2 a d) * k0_pay4 (F := Ideal) x0 x1 (ix2 n d)
def prodK (n : Fin 512) (e : Fin 768) : EReal := ∑ d, k0_pay4 (F := Ideal) x0 x1 (ix2 n d) * x3 (ix2 d e)
def prodC (n : Fin 512) (i : Fin 256) : EReal := ∑ d, x4 (ix2 i d) * k0_pay4 (F := Ideal) x0 x1 (ix2 n d)
def csv (n : Fin 512) (s : Fin 16) : EReal := k0_pay6 (F := Ideal) x5 x6 (ix2 s n)
def snv (n : Fin 512) (s : Fin 16) : EReal := k0_pay7 (F := Ideal) x5 x6 (ix2 s n)

def blk7 : Vec Ideal S1x2x3072x256 .bf16 := fun y =>
  kq (prodW x0 x1 x2 (tok (y 1) (y 3))) (csv x5 x6 (tok (y 1) (y 3))) (snv x5 x6 (tok (y 1) (y 3))) (y 2)
def blk8 : Vec Ideal S1x512x1024 .bf16 := fun y =>
  kk (prodK x0 x1 x3 (y 1)) (prodC x0 x1 x4 (y 1)) (csv x5 x6 (y 1)) (snv x5 x6 (y 1)) (y 2)

end blocks

theorem kq_0 (p : Fin 3072 → EReal) (cs sn : Fin 16 → EReal) (r : Fin 384) : kq p cs sn ⟨0 + r.val, by omega⟩ = p ⟨0 + r.val, by omega⟩ * Ideal.ofBits .f32 0x3E000000#32 := by
  have h := r.isLt
  unfold kq
  split_ifs <;> first | rfl | (exfalso; dsimp only at *; omega)
theorem kq_384 (p : Fin 3072 → EReal) (cs sn : Fin 16 → EReal) (r : Fin 384) : kq p cs sn ⟨384 + r.val, by omega⟩ = p ⟨384 + r.val, by omega⟩  := by
  have h := r.isLt
  unfold kq
  split_ifs <;> first | rfl | (exfalso; dsimp only at *; omega)
theorem kq_768 (p : Fin 3072 → EReal) (cs sn : Fin 16 → EReal) (r : Fin 384) : kq p cs sn ⟨768 + r.val, by omega⟩ = p ⟨768 + r.val, by omega⟩  := by
  have h := r.isLt
  unfold kq
  split_ifs <;> first | rfl | (exfalso; dsimp only at *; omega)
theorem kq_1152 (p : Fin 3072 → EReal) (cs sn : Fin 16 → EReal) (r : Fin 384) : kq p cs sn ⟨1152 + r.val, by omega⟩ = p ⟨1152 + r.val, by omega⟩ * scaleB := by
  have h := r.isLt
  unfold kq
  split_ifs <;> first | rfl | (exfalso; dsimp only at *; omega)
theorem kq_1536 (p : Fin 3072 → EReal) (cs sn : Fin 16 → EReal) (r : Fin 384) : kq p cs sn ⟨1536 + r.val, by omega⟩ = p ⟨1536 + r.val, by omega⟩  := by
  have h := r.isLt
  unfold kq
  split_ifs <;> first | rfl | (exfalso; dsimp only at *; omega)
theorem kq_1920 (p : Fin 3072 → EReal) (cs sn : Fin 16 → EReal) (r : Fin 384) : kq p cs sn ⟨1920 + r.val, by omega⟩ = p ⟨1920 + r.val, by omega⟩  := by
  have h := r.isLt
  unfold kq
  split_ifs <;> first | rfl | (exfalso; dsimp only at *; omega)
theorem kq_2560 (p : Fin 3072 → EReal) (cs sn : Fin 16 → EReal) (r : Fin 128) : kq p cs sn ⟨2560 + r.val, by omega⟩ = p ⟨2560 + r.val, by omega⟩  := by
  have h := r.isLt
  unfold kq
  split_ifs <;> first | rfl | (exfalso; dsimp only at *; omega)
theorem kq_2688 (p : Fin 3072 → EReal) (cs sn : Fin 16 → EReal) (r : Fin 384) : kq p cs sn ⟨2688 + r.val, by omega⟩ = p ⟨2688 + r.val, by omega⟩  := by
  have h := r.isLt
  unfold kq
  split_ifs <;> first | rfl | (exfalso; dsimp only at *; omega)
theorem kq_2304 (p : Fin 3072 → EReal) (cs sn : Fin 16 → EReal) (r : Fin 256) : kq p cs sn ⟨2304 + r.val, by omega⟩
    = rot (fun i => p ⟨2304 + i.val, by omega⟩) cs sn r * scaleC := by
  have h := r.isLt
  have e : (⟨2304 + r.val - 2304, by omega⟩ : Fin 256) = r := Fin.ext (by dsimp only; omega)
  unfold kq
  rw [if_neg (by dsimp only; omega), if_neg (by dsimp only; omega), if_neg (by dsimp only; omega), if_neg (by dsimp only; omega), dif_pos ⟨by dsimp only; omega, by dsimp only; omega⟩]
  rw [e]

theorem kk_0 (p : Fin 768 → EReal) (q : Fin 256 → EReal) (cs sn : Fin 16 → EReal) (e : Fin 768) : kk p q cs sn ⟨0 + e.val, by omega⟩ = p e := by
  have h := e.isLt
  unfold kk
  rw [dif_pos (by dsimp only; omega)]
  exact congrArg p (Fin.ext (by dsimp only; omega))
theorem kk_768 (p : Fin 768 → EReal) (q : Fin 256 → EReal) (cs sn : Fin 16 → EReal) (i : Fin 256) : kk p q cs sn ⟨768 + i.val, by omega⟩ = rot q cs sn i := by
  have h := i.isLt
  unfold kk
  rw [dif_neg (by dsimp only; omega)]
  exact congrArg (rot q cs sn) (Fin.ext (by dsimp only; omega))

/-! ## Rectangles -/

theorem ldW (x2 : Vec Ideal S3072x1024 .bf16) (r0 : Nat) (hin : ∀ a, (![r0, 0] : Fin 2 → Nat) a + (![384, 1024] : Fin 2 → Nat) a ≤ S3072x1024.size a)
    (r : Fin 384) (d : Fin 1024) (hr : r0 + r.val < 3072) :
    View.ld x2 (Rect.unit (s := S3072x1024) ![r0, 0] ![384, 1024] hin) (ix2 r d) = x2 (ix2 ⟨r0 + r.val, hr⟩ d) := by
  refine congrArg x2 (funext fun a => Fin.ext ?_)
  match a with
  | ⟨0, _⟩ => show r0 + 1 * r.val = r0 + r.val; omega
  | ⟨1, _⟩ => show 0 + 1 * d.val = d.val; omega

theorem emb7 (u r0 k : Nat) (hin : ∀ a, (![0, u, r0, 0] : Fin 4 → Nat) a + (![1, 1, k, 256] : Fin 4 → Nat) a ≤ S1x2x3072x256.size a)
    (r : Fin k) (j : Fin 256) (hu : u < 2) (hr : r0 + r.val < 3072) :
    (Rect.unit (s := S1x2x3072x256) ![0, u, r0, 0] ![1, 1, k, 256] hin).emb (ix4 0 0 r j : (⟨4, ![1, 1, k, 256]⟩ : Shape).Idx) = ix4 0 ⟨u, hu⟩ ⟨r0 + r.val, hr⟩ j := by
  refine funext fun a => Fin.ext ?_
  match a with
  | ⟨0, _⟩ => rfl
  | ⟨1, _⟩ => show u + 1 * 0 = u; omega
  | ⟨2, _⟩ => show r0 + 1 * r.val = r0 + r.val; omega
  | ⟨3, _⟩ => show 0 + 1 * j.val = j.val; omega

theorem emb8 (e0 k : Nat) (hin : ∀ a, (![0, 0, e0] : Fin 3 → Nat) a + (![1, 512, k] : Fin 3 → Nat) a ≤ S1x512x1024.size a)
    (n : Fin 512) (e : Fin k) (he : e0 + e.val < 1024) :
    (Rect.unit (s := S1x512x1024) ![0, 0, e0] ![1, 512, k] hin).emb (ix3 0 n e : (⟨3, ![1, 512, k]⟩ : Shape).Idx) = ix3 0 n ⟨e0 + e.val, he⟩ := by
  refine funext fun a => Fin.ext ?_
  match a with
  | ⟨0, _⟩ => rfl
  | ⟨1, _⟩ => show 0 + 1 * n.val = n.val; omega
  | ⟨2, _⟩ => show e0 + 1 * e.val = e0 + e.val; omega

theorem sumW (x2 : Vec Ideal S3072x1024 .bf16) (H : FVec Ideal S512x1024 .bf16) (r0 : Nat) (hin : ∀ a, (![r0, 0] : Fin 2 → Nat) a + (![384, 1024] : Fin 2 → Nat) a ≤ S3072x1024.size a)
    (r : Fin 384) (a : Fin 3072) (ha : r0 + r.val = a.val) (n n' : Fin 512) (hn : n.val = n'.val) :
    (∑ d, (View.ld x2 (Rect.unit (s := S3072x1024) ![r0, 0] ![384, 1024] hin) (ix2 r d) : EReal) * H (ix2 n d) : EReal) = ∑ d, x2 (ix2 a d) * H (ix2 n' d) := by
  obtain rfl : n = n' := Fin.ext hn
  refine Finset.sum_congr rfl fun d _ => congrArg (· * H (ix2 n d)) ?_
  refine (ldW x2 r0 hin r d (ha ▸ a.isLt)).trans (congrArg x2 ?_)
  exact congrArg (fun a => ix2 a d) (Fin.ext ha)

theorem idx4 {k : Nat} (x : (⟨4, ![1, 1, k, 256]⟩ : Shape).Idx) : ∃ (r : Fin k) (j : Fin 256), x = ix4 0 0 r j :=
  ⟨x 2, x 3, (eq_ix4 (n0 := 1) (n1 := 1) (n2 := k) (n3 := 256) x).trans (by
    rw [Subsingleton.elim (α := Fin 1) (x 0) 0, Subsingleton.elim (α := Fin 1) (x 1) 0])⟩
theorem idx3 {k : Nat} (x : (⟨3, ![1, 512, k]⟩ : Shape).Idx) : ∃ (n : Fin 512) (e : Fin k), x = ix3 0 n e :=
  ⟨x 1, x 2, (eq_ix3 (n0 := 1) (n1 := 512) (n2 := k) x).trans (by rw [Subsingleton.elim (α := Fin 1) (x 0) 0])⟩

/-! ## The pieces of the first result's block -/

def L7 (x0 : Vec Ideal S1x512x1024 .f32) (x1 : Vec Ideal S1x1024 .f32) (w0 w384 w768 w1152 w1536 w1920 w2304 w2688 : Vec Ideal S384x1024 .bf16) (x5 : Vec Ideal S1x1x512 .i32) (x6 : Vec Ideal S16x1 .f32) :
    List (View.Piece (Elt Ideal) S1x2x3072x256 .bf16) :=
  [⟨Rect.unit ![0, 1, 2688, 0] ![1, 1, 384, 256] inb_S1x2x3072x256_S1x1x384x256_0_1_2688_0, k0_pay54 (F := Ideal) (k0_pay4 (F := Ideal) x0 x1) w2688⟩,
   ⟨Rect.unit ![0, 0, 2688, 0] ![1, 1, 384, 256] inb_S1x2x3072x256_S1x1x384x256_0_0_2688_0, k0_pay53 (F := Ideal) (k0_pay4 (F := Ideal) x0 x1) w2688⟩,
   ⟨Rect.unit ![0, 1, 2560, 0] ![1, 1, 128, 256] inb_S1x2x3072x256_S1x1x128x256_0_1_2560_0, k0_pay51 (F := Ideal) (k0_pay48 (F := Ideal) (k0_pay27 (F := Ideal) (k0_pay4 (F := Ideal) x0 x1) w2304))⟩,
   ⟨Rect.unit ![0, 0, 2560, 0] ![1, 1, 128, 256] inb_S1x2x3072x256_S1x1x128x256_0_0_2560_0, k0_pay50 (F := Ideal) (k0_pay49 (F := Ideal) (k0_pay27 (F := Ideal) (k0_pay4 (F := Ideal) x0 x1) w2304))⟩,
   ⟨Rect.unit ![0, 1, 2304, 0] ![1, 1, 256, 256] inb_S1x2x3072x256_S1x1x256x256_0_1_2304_0, k0_pay47 (F := Ideal) (k0_pay6 (F := Ideal) x5 x6) (k0_pay7 (F := Ideal) x5 x6) (k0_pay28 (F := Ideal) (k0_pay4 (F := Ideal) x0 x1) w2304) (k0_pay31 (F := Ideal) (k0_pay4 (F := Ideal) x0 x1) (k0_pay6 (F := Ideal) x5 x6) (k0_pay7 (F := Ideal) x5 x6) w2304) (k0_pay32 (F := Ideal) (k0_pay4 (F := Ideal) x0 x1) (k0_pay6 (F := Ideal) x5 x6) (k0_pay7 (F := Ideal) x5 x6) w2304) (k0_pay35 (F := Ideal) (k0_pay4 (F := Ideal) x0 x1) (k0_pay6 (F := Ideal) x5 x6) (k0_pay7 (F := Ideal) x5 x6) w2304) (k0_pay36 (F := Ideal) (k0_pay4 (F := Ideal) x0 x1) (k0_pay6 (F := Ideal) x5 x6) (k0_pay7 (F := Ideal) x5 x6) w2304) (k0_pay39 (F := Ideal) (k0_pay4 (F := Ideal) x0 x1) (k0_pay6 (F := Ideal) x5 x6) (k0_pay7 (F := Ideal) x5 x6) w2304) (k0_pay40 (F := Ideal) (k0_pay4 (F := Ideal) x0 x1) (k0_pay6 (F := Ideal) x5 x6) (k0_pay7 (F := Ideal) x5 x6) w2304) (k0_pay41 (F := Ideal) (k0_pay4 (F := Ideal) x0 x1) w2304) (k0_pay43 (F := Ideal) (k0_pay4 (F := Ideal) x0 x1) (k0_pay6 (F := Ideal) x5 x6) (k0_pay7 (F := Ideal) x5 x6) w2304) (k0_pay44 (F := Ideal) (k0_pay4 (F := Ideal) x0 x1) (k0_pay6 (F := Ideal) x5 x6) w2304)⟩,
   ⟨Rect.unit ![0, 0, 2304, 0] ![1, 1, 256, 256] inb_S1x2x3072x256_S1x1x256x256_0_0_2304_0, k0_pay46 (F := Ideal) (k0_pay6 (F := Ideal) x5 x6) (k0_pay7 (F := Ideal) x5 x6) (k0_pay28 (F := Ideal) (k0_pay4 (F := Ideal) x0 x1) w2304) (k0_pay31 (F := Ideal) (k0_pay4 (F := Ideal) x0 x1) (k0_pay6 (F := Ideal) x5 x6) (k0_pay7 (F := Ideal) x5 x6) w2304) (k0_pay32 (F := Ideal) (k0_pay4 (F := Ideal) x0 x1) (k0_pay6 (F := Ideal) x5 x6) (k0_pay7 (F := Ideal) x5 x6) w2304) (k0_pay35 (F := Ideal) (k0_pay4 (F := Ideal) x0 x1) (k0_pay6 (F := Ideal) x5 x6) (k0_pay7 (F := Ideal) x5 x6) w2304) (k0_pay36 (F := Ideal) (k0_pay4 (F := Ideal) x0 x1) (k0_pay6 (F := Ideal) x5 x6) (k0_pay7 (F := Ideal) x5 x6) w2304) (k0_pay39 (F := Ideal) (k0_pay4 (F := Ideal) x0 x1) (k0_pay6 (F := Ideal) x5 x6) (k0_pay7 (F := Ideal) x5 x6) w2304) (k0_pay40 (F := Ideal) (k0_pay4 (F := Ideal) x0 x1) (k0_pay6 (F := Ideal) x5 x6) (k0_pay7 (F := Ideal) x5 x6) w2304) (k0_pay41 (F := Ideal) (k0_pay4 (F := Ideal) x0 x1) w2304) (k0_pay43 (F := Ideal) (k0_pay4 (F := Ideal) x0 x1) (k0_pay6 (F := Ideal) x5 x6) (k0_pay7 (F := Ideal) x5 x6) w2304) (k0_pay44 (F := Ideal) (k0_pay4 (F := Ideal) x0 x1) (k0_pay6 (F := Ideal) x5 x6) w2304)⟩,
   ⟨Rect.unit ![0, 1, 1920, 0] ![1, 1, 384, 256] inb_S1x2x3072x256_S1x1x384x256_0_1_1920_0, k0_pay26 (F := Ideal) (k0_pay4 (F := Ideal) x0 x1) w1920⟩,
   ⟨Rect.unit ![0, 0, 1920, 0] ![1, 1, 384, 256] inb_S1x2x3072x256_S1x1x384x256_0_0_1920_0, k0_pay25 (F := Ideal) (k0_pay4 (F := Ideal) x0 x1) w1920⟩,
   ⟨Rect.unit ![0, 1, 1536, 0] ![1, 1, 384, 256] inb_S1x2x3072x256_S1x1x384x256_0_1_1536_0, k0_pay23 (F := Ideal) (k0_pay4 (F := Ideal) x0 x1) w1536⟩,
   ⟨Rect.unit ![0, 0, 1536, 0] ![1, 1, 384, 256] inb_S1x2x3072x256_S1x1x384x256_0_0_1536_0, k0_pay22 (F := Ideal) (k0_pay4 (F := Ideal) x0 x1) w1536⟩,
   ⟨Rect.unit ![0, 1, 1152, 0] ![1, 1, 384, 256] inb_S1x2x3072x256_S1x1x384x256_0_1_1152_0, k0_pay20 (F := Ideal) (k0_pay4 (F := Ideal) x0 x1) w1152⟩,
   ⟨Rect.unit ![0, 0, 1152, 0] ![1, 1, 384, 256] inb_S1x2x3072x256_S1x1x384x256_0_0_1152_0, k0_pay19 (F := Ideal) (k0_pay4 (F := Ideal) x0 x1) w1152⟩,
   ⟨Rect.unit ![0, 1, 768, 0] ![1, 1, 384, 256] inb_S1x2x3072x256_S1x1x384x256_0_1_768_0, k0_pay17 (F := Ideal) (k0_pay16 (F := Ideal) (k0_pay4 (F := Ideal) x0 x1) w768)⟩,
   ⟨Rect.unit ![0, 0, 768, 0] ![1, 1, 384, 256] inb_S1x2x3072x256_S1x1x384x256_0_0_768_0, k0_pay15 (F := Ideal) (k0_pay4 (F := Ideal) x0 x1) w768⟩,
   ⟨Rect.unit ![0, 1, 384, 0] ![1, 1, 384, 256] inb_S1x2x3072x256_S1x1x384x256_0_1_384_0, k0_pay13 (F := Ideal) (k0_pay4 (F := Ideal) x0 x1) w384⟩,
   ⟨Rect.unit ![0, 0, 384, 0] ![1, 1, 384, 256] inb_S1x2x3072x256_S1x1x384x256_0_0_384_0, k0_pay12 (F := Ideal) (k0_pay4 (F := Ideal) x0 x1) w384⟩,
   ⟨Rect.unit ![0, 1, 0, 0] ![1, 1, 384, 256] inb_S1x2x3072x256_S1x1x384x256_0_1_0_0, k0_pay10 (F := Ideal) (k0_pay8 (F := Ideal) x0 x1 w0)⟩,
   ⟨Rect.unit ![0, 0, 0, 0] ![1, 1, 384, 256] inb_S1x2x3072x256_S1x1x384x256_0_0_0_0, k0_pay9 (F := Ideal) x0 x1 w0⟩]

/-- And the second's. -/
def L8 (x0 : Vec Ideal S1x512x1024 .f32) (x1 : Vec Ideal S1x1024 .f32) (x3 : Vec Ideal S1024x768 .bf16) (x4 : Vec Ideal S256x1024 .bf16)
    (x5 : Vec Ideal S1x1x512 .i32) (x6 : Vec Ideal S16x1 .f32) : List (View.Piece (Elt Ideal) S1x512x1024 .bf16) :=
  [⟨Rect.unit ![0, 0, 768] ![1, 512, 256] inb_S1x512x1024_S1x512x256_0_0_768, k0_pay3 (F := Ideal) (k0_pay59 (F := Ideal) (k0_pay4 (F := Ideal) x0 x1) (k0_pay6 (F := Ideal) x5 x6) (k0_pay7 (F := Ideal) x5 x6) x4) (k0_pay60 (F := Ideal) (k0_pay4 (F := Ideal) x0 x1) (k0_pay6 (F := Ideal) x5 x6) (k0_pay7 (F := Ideal) x5 x6) x4) (k0_pay63 (F := Ideal) (k0_pay4 (F := Ideal) x0 x1) (k0_pay6 (F := Ideal) x5 x6) (k0_pay7 (F := Ideal) x5 x6) x4) (k0_pay64 (F := Ideal) (k0_pay4 (F := Ideal) x0 x1) (k0_pay6 (F := Ideal) x5 x6) (k0_pay7 (F := Ideal) x5 x6) x4) (k0_pay67 (F := Ideal) (k0_pay4 (F := Ideal) x0 x1) (k0_pay6 (F := Ideal) x5 x6) (k0_pay7 (F := Ideal) x5 x6) x4) (k0_pay68 (F := Ideal) (k0_pay4 (F := Ideal) x0 x1) (k0_pay6 (F := Ideal) x5 x6) (k0_pay7 (F := Ideal) x5 x6) x4) (k0_pay71 (F := Ideal) (k0_pay4 (F := Ideal) x0 x1) (k0_pay6 (F := Ideal) x5 x6) (k0_pay7 (F := Ideal) x5 x6) x4) (k0_pay72 (F := Ideal) (k0_pay4 (F := Ideal) x0 x1) (k0_pay6 (F := Ideal) x5 x6) (k0_pay7 (F := Ideal) x5 x6) x4) (k0_pay75 (F := Ideal) (k0_pay4 (F := Ideal) x0 x1) (k0_pay6 (F := Ideal) x5 x6) (k0_pay7 (F := Ideal) x5 x6) x4) (k0_pay76 (F := Ideal) (k0_pay4 (F := Ideal) x0 x1) (k0_pay6 (F := Ideal) x5 x6) (k0_pay7 (F := Ideal) x5 x6) x4) (k0_pay79 (F := Ideal) (k0_pay4 (F := Ideal) x0 x1) (k0_pay6 (F := Ideal) x5 x6) (k0_pay7 (F := Ideal) x5 x6) x4) (k0_pay80 (F := Ideal) (k0_pay4 (F := Ideal) x0 x1) (k0_pay6 (F := Ideal) x5 x6) (k0_pay7 (F := Ideal) x5 x6) x4) (k0_pay83 (F := Ideal) (k0_pay4 (F := Ideal) x0 x1) (k0_pay6 (F := Ideal) x5 x6) (k0_pay7 (F := Ideal) x5 x6) x4) (addf (k0_pay84 (F := Ideal) (k0_pay4 (F := Ideal) x0 x1) (k0_pay6 (F := Ideal) x5 x6) x4) (k0_pay85 (F := Ideal) (k0_pay4 (F := Ideal) x0 x1) (k0_pay7 (F := Ideal) x5 x6) x4)) (k0_pay1 (F := Ideal) (k0_pay6 (F := Ideal) x5 x6) (k0_pay7 (F := Ideal) x5 x6) (extractStridedSlice S16x512 ![224, 0] (k0_pay56 (F := Ideal) (k0_pay4 (F := Ideal) x0 x1) x4) slices_S256x512_o224_0_S16x512) (extractStridedSlice S16x512 ![240, 0] (k0_pay56 (F := Ideal) (k0_pay4 (F := Ideal) x0 x1) x4) slices_S256x512_o240_0_S16x512)) (k0_pay2 (F := Ideal) (k0_pay6 (F := Ideal) x5 x6) (k0_pay7 (F := Ideal) x5 x6) (extractStridedSlice S16x512 ![224, 0] (k0_pay56 (F := Ideal) (k0_pay4 (F := Ideal) x0 x1) x4) slices_S256x512_o224_0_S16x512) (extractStridedSlice S16x512 ![240, 0] (k0_pay56 (F := Ideal) (k0_pay4 (F := Ideal) x0 x1) x4) slices_S256x512_o240_0_S16x512))⟩,
   ⟨Rect.unit ![0, 0, 0] ![1, 512, 768] inb_S1x512x1024_S1x512x768_0_0_0, k0_pay55 (F := Ideal) (k0_pay4 (F := Ideal) x0 x1) x3⟩]

def rd0 {arg2 : Memref sig .tc .vmem S1x512x1024 .f32} (harg2 : arg2.IsWhole) (x0 : Vec Ideal S1x512x1024 .f32) : Vec Ideal S1x512x1024 .f32 :=
  (View.readAt (Elt Ideal) arg2.view (Rect.unit (s := S1x512x1024) ![0, 0, 0] ![1, 512, 1024] inb_S1x512x1024_S1x512x1024_0_0_0).toLoadRect (harg2.unread x0))
theorem rd0_eq {arg2 : Memref sig .tc .vmem S1x512x1024 .f32} (harg2 : arg2.IsWhole) (x0 : Vec Ideal S1x512x1024 .f32) : rd0 harg2 x0 = x0 := by
  funext y
  refine (Memref.IsWhole.readAt_unread harg2 x0 ((Rect.unit (s := S1x512x1024) ![0, 0, 0] ![1, 512, 1024] inb_S1x512x1024_S1x512x1024_0_0_0).toLoadRect) y).trans (congrArg x0 (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
def rd1 {arg3 : Memref sig .tc .vmem S1x1024 .f32} (harg3 : arg3.IsWhole) (x1 : Vec Ideal S1x1024 .f32) : Vec Ideal S1x1024 .f32 :=
  (View.readAt (Elt Ideal) arg3.view (Rect.unit (s := S1x1024) ![0, 0] ![1, 1024] inb_S1x1024_S1x1024_0_0).toLoadRect (harg3.unread x1))
theorem rd1_eq {arg3 : Memref sig .tc .vmem S1x1024 .f32} (harg3 : arg3.IsWhole) (x1 : Vec Ideal S1x1024 .f32) : rd1 harg3 x1 = x1 := by
  funext y
  refine (Memref.IsWhole.readAt_unread harg3 x1 ((Rect.unit (s := S1x1024) ![0, 0] ![1, 1024] inb_S1x1024_S1x1024_0_0).toLoadRect) y).trans (congrArg x1 (funext fun a => Fin.ext ?_))
  match a with
  | ⟨0, _⟩ => show 0 + 1 * (y 0).val = (y 0).val; omega
  | ⟨1, _⟩ => show 0 + 1 * (y 1).val = (y 1).val; omega
def rd3 {arg5 : Memref sig .tc .vmem S1024x768 .bf16} (harg5 : arg5.IsWhole) (x3 : Vec Ideal S1024x768 .bf16) : Vec Ideal S1024x768 .bf16 :=
  (View.readAt (Elt Ideal) arg5.view (Rect.unit (s := S1024x768) ![0, 0] ![1024, 768] inb_S1024x768_S1024x768_0_0).toLoadRect (harg5.unread x3))
theorem rd3_eq {arg5 : Memref sig .tc .vmem S1024x768 .bf16} (harg5 : arg5.IsWhole) (x3 : Vec Ideal S1024x768 .bf16) : rd3 harg5 x3 = x3 := by
  funext y
  refine (Memref.IsWhole.readAt_unread harg5 x3 ((Rect.unit (s := S1024x768) ![0, 0] ![1024, 768] inb_S1024x768_S1024x768_0_0).toLoadRect) y).trans (congrArg x3 (funext fun a => Fin.ext ?_))
  match a with
  | ⟨0, _⟩ => show 0 + 1 * (y 0).val = (y 0).val; omega
  | ⟨1, _⟩ => show 0 + 1 * (y 1).val = (y 1).val; omega
def rd4 {arg6 : Memref sig .tc .vmem S256x1024 .bf16} (harg6 : arg6.IsWhole) (x4 : Vec Ideal S256x1024 .bf16) : Vec Ideal S256x1024 .bf16 :=
  (View.readAt (Elt Ideal) arg6.view (Rect.unit (s := S256x1024) ![0, 0] ![256, 1024] inb_S256x1024_S256x1024_0_0).toLoadRect (harg6.unread x4))
theorem rd4_eq {arg6 : Memref sig .tc .vmem S256x1024 .bf16} (harg6 : arg6.IsWhole) (x4 : Vec Ideal S256x1024 .bf16) : rd4 harg6 x4 = x4 := by
  funext y
  refine (Memref.IsWhole.readAt_unread harg6 x4 ((Rect.unit (s := S256x1024) ![0, 0] ![256, 1024] inb_S256x1024_S256x1024_0_0).toLoadRect) y).trans (congrArg x4 (funext fun a => Fin.ext ?_))
  match a with
  | ⟨0, _⟩ => show 0 + 1 * (y 0).val = (y 0).val; omega
  | ⟨1, _⟩ => show 0 + 1 * (y 1).val = (y 1).val; omega
def rd5 {arg7 : Memref sig .tc .vmem S1x1x512 .i32} (harg7 : arg7.IsWhole) (x5 : Vec Ideal S1x1x512 .i32) : Vec Ideal S1x1x512 .i32 :=
  (View.readAt (Elt Ideal) arg7.view (Rect.unit (s := S1x1x512) ![0, 0, 0] ![1, 1, 512] inb_S1x1x512_S1x1x512_0_0_0).toLoadRect (harg7.unread x5))
theorem rd5_eq {arg7 : Memref sig .tc .vmem S1x1x512 .i32} (harg7 : arg7.IsWhole) (x5 : Vec Ideal S1x1x512 .i32) : rd5 harg7 x5 = x5 := by
  funext y
  refine (Memref.IsWhole.readAt_unread harg7 x5 ((Rect.unit (s := S1x1x512) ![0, 0, 0] ![1, 1, 512] inb_S1x1x512_S1x1x512_0_0_0).toLoadRect) y).trans (congrArg x5 (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
def rd6 {arg8 : Memref sig .tc .vmem S16x1 .f32} (harg8 : arg8.IsWhole) (x6 : Vec Ideal S16x1 .f32) : Vec Ideal S16x1 .f32 :=
  (View.readAt (Elt Ideal) arg8.view (Rect.unit (s := S16x1) ![0, 0] ![16, 1] inb_S16x1_S16x1_0_0).toLoadRect (harg8.unread x6))
theorem rd6_eq {arg8 : Memref sig .tc .vmem S16x1 .f32} (harg8 : arg8.IsWhole) (x6 : Vec Ideal S16x1 .f32) : rd6 harg8 x6 = x6 := by
  funext y
  refine (Memref.IsWhole.readAt_unread harg8 x6 ((Rect.unit (s := S16x1) ![0, 0] ![16, 1] inb_S16x1_S16x1_0_0).toLoadRect) y).trans (congrArg x6 (funext fun a => Fin.ext ?_))
  match a with
  | ⟨0, _⟩ => show 0 + 1 * (y 0).val = (y 0).val; omega
  | ⟨1, _⟩ => show 0 + 1 * (y 1).val = (y 1).val; omega
def rdW {arg4 : Memref sig .tc .vmem S3072x1024 .bf16} (harg4 : arg4.IsWhole) (x2 : Vec Ideal S3072x1024 .bf16) (r0 : Nat) (hin : ∀ a, (![r0, 0] : Fin 2 → Nat) a + (![384, 1024] : Fin 2 → Nat) a ≤ S3072x1024.size a) : Vec Ideal S384x1024 .bf16 :=
  View.readAt (Elt Ideal) arg4.view (Rect.unit (s := S3072x1024) ![r0, 0] ![384, 1024] hin).toLoadRect (harg4.unread x2)
theorem rdW_eq {arg4 : Memref sig .tc .vmem S3072x1024 .bf16} (harg4 : arg4.IsWhole) (x2 : Vec Ideal S3072x1024 .bf16) (r0 : Nat) (hin : ∀ a, (![r0, 0] : Fin 2 → Nat) a + (![384, 1024] : Fin 2 → Nat) a ≤ S3072x1024.size a) :
    rdW harg4 x2 r0 hin = View.ld x2 (Rect.unit (s := S3072x1024) ![r0, 0] ![384, 1024] hin) :=
  funext fun y => Memref.IsWhole.readAt_unread harg4 x2 (Rect.unit (s := S3072x1024) ![r0, 0] ![384, 1024] hin).toLoadRect y
section run
variable (c : Dev nD) (i : grid0.Coords) (arg2 : Memref sig .tc .vmem S1x512x1024 .f32) (harg2 : arg2.IsWhole) (arg3 : Memref sig .tc .vmem S1x1024 .f32) (harg3 : arg3.IsWhole)
    (arg4 : Memref sig .tc .vmem S3072x1024 .bf16) (harg4 : arg4.IsWhole) (arg5 : Memref sig .tc .vmem S1024x768 .bf16) (harg5 : arg5.IsWhole) (arg6 : Memref sig .tc .vmem S256x1024 .bf16) (harg6 : arg6.IsWhole)
    (arg7 : Memref sig .tc .vmem S1x1x512 .i32) (harg7 : arg7.IsWhole) (arg8 : Memref sig .tc .vmem S16x1 .f32) (harg8 : arg8.IsWhole) (arg9 : Memref sig .tc .vmem S1x2x3072x256 .bf16) (harg9 : arg9.IsWhole)
    (arg10 : Memref sig .tc .vmem S1x512x1024 .bf16) (harg10 : arg10.IsWhole)
    (x0 : Vec Ideal S1x512x1024 .f32) (x1 : Vec Ideal S1x1024 .f32) (x2 : Vec Ideal S3072x1024 .bf16) (x3 : Vec Ideal S1024x768 .bf16) (x4 : Vec Ideal S256x1024 .bf16)
    (x5 : Vec Ideal S1x1x512 .i32) (x6 : Vec Ideal S16x1 .f32)

theorem L7_run : (kernelRun0_A c i arg2 harg2 arg3 harg3 arg4 harg4 arg5 harg5 arg6 harg6 arg7 harg7 arg8 harg8 arg9 harg9 arg10 harg10 x0 x1 x2 x3 x4 x5 x6).1 = L7 (rd0 harg2 x0) (rd1 harg3 x1) (rdW harg4 x2 0 inb_S3072x1024_S384x1024_0_0) (rdW harg4 x2 384 inb_S3072x1024_S384x1024_384_0) (rdW harg4 x2 768 inb_S3072x1024_S384x1024_768_0) (rdW harg4 x2 1152 inb_S3072x1024_S384x1024_1152_0) (rdW harg4 x2 1536 inb_S3072x1024_S384x1024_1536_0) (rdW harg4 x2 1920 inb_S3072x1024_S384x1024_1920_0) (rdW harg4 x2 2304 inb_S3072x1024_S384x1024_2304_0) (rdW harg4 x2 2688 inb_S3072x1024_S384x1024_2688_0) (rd5 harg7 x5) (rd6 harg8 x6) := rfl

theorem L8_run : (kernelRun0_A c i arg2 harg2 arg3 harg3 arg4 harg4 arg5 harg5 arg6 harg6 arg7 harg7 arg8 harg8 arg9 harg9 arg10 harg10 x0 x1 x2 x3 x4 x5 x6).2.1 = L8 (rd0 harg2 x0) (rd1 harg3 x1) (rd3 harg5 x3) (rd4 harg6 x4) (rd5 harg7 x5) (rd6 harg8 x6) := rfl

theorem L7_eq : (kernelRun0_A c i arg2 harg2 arg3 harg3 arg4 harg4 arg5 harg5 arg6 harg6 arg7 harg7 arg8 harg8 arg9 harg9 arg10 harg10 x0 x1 x2 x3 x4 x5 x6).1 = L7 x0 x1 (View.ld x2 (Rect.unit (s := S3072x1024) ![0, 0] ![384, 1024] inb_S3072x1024_S384x1024_0_0)) (View.ld x2 (Rect.unit (s := S3072x1024) ![384, 0] ![384, 1024] inb_S3072x1024_S384x1024_384_0)) (View.ld x2 (Rect.unit (s := S3072x1024) ![768, 0] ![384, 1024] inb_S3072x1024_S384x1024_768_0)) (View.ld x2 (Rect.unit (s := S3072x1024) ![1152, 0] ![384, 1024] inb_S3072x1024_S384x1024_1152_0)) (View.ld x2 (Rect.unit (s := S3072x1024) ![1536, 0] ![384, 1024] inb_S3072x1024_S384x1024_1536_0)) (View.ld x2 (Rect.unit (s := S3072x1024) ![1920, 0] ![384, 1024] inb_S3072x1024_S384x1024_1920_0)) (View.ld x2 (Rect.unit (s := S3072x1024) ![2304, 0] ![384, 1024] inb_S3072x1024_S384x1024_2304_0)) (View.ld x2 (Rect.unit (s := S3072x1024) ![2688, 0] ![384, 1024] inb_S3072x1024_S384x1024_2688_0)) x5 x6 :=
  (L7_run c i arg2 harg2 arg3 harg3 arg4 harg4 arg5 harg5 arg6 harg6 arg7 harg7 arg8 harg8 arg9 harg9 arg10 harg10 x0 x1 x2 x3 x4 x5 x6).trans (by simp only [rd0_eq, rd1_eq, rd5_eq, rd6_eq, rdW_eq])

theorem L8_eq : (kernelRun0_A c i arg2 harg2 arg3 harg3 arg4 harg4 arg5 harg5 arg6 harg6 arg7 harg7 arg8 harg8 arg9 harg9 arg10 harg10 x0 x1 x2 x3 x4 x5 x6).2.1 = L8 x0 x1 x3 x4 x5 x6 :=
  (L8_run c i arg2 harg2 arg3 harg3 arg4 harg4 arg5 harg5 arg6 harg6 arg7 harg7 arg8 harg8 arg9 harg9 arg10 harg10 x0 x1 x2 x3 x4 x5 x6).trans (by simp only [rd0_eq, rd1_eq, rd3_eq, rd4_eq, rd5_eq, rd6_eq])

end run

theorem L7_pieces (x0 : Vec Ideal S1x512x1024 .f32) (x1 : Vec Ideal S1x1024 .f32) (x2 : Vec Ideal S3072x1024 .bf16)
    (x5 : Vec Ideal S1x1x512 .i32) (x6 : Vec Ideal S16x1 .f32) :
    ∀ p ∈ L7 x0 x1 (View.ld x2 (Rect.unit (s := S3072x1024) ![0, 0] ![384, 1024] inb_S3072x1024_S384x1024_0_0)) (View.ld x2 (Rect.unit (s := S3072x1024) ![384, 0] ![384, 1024] inb_S3072x1024_S384x1024_384_0)) (View.ld x2 (Rect.unit (s := S3072x1024) ![768, 0] ![384, 1024] inb_S3072x1024_S384x1024_768_0)) (View.ld x2 (Rect.unit (s := S3072x1024) ![1152, 0] ![384, 1024] inb_S3072x1024_S384x1024_1152_0)) (View.ld x2 (Rect.unit (s := S3072x1024) ![1536, 0] ![384, 1024] inb_S3072x1024_S384x1024_1536_0)) (View.ld x2 (Rect.unit (s := S3072x1024) ![1920, 0] ![384, 1024] inb_S3072x1024_S384x1024_1920_0)) (View.ld x2 (Rect.unit (s := S3072x1024) ![2304, 0] ![384, 1024] inb_S3072x1024_S384x1024_2304_0)) (View.ld x2 (Rect.unit (s := S3072x1024) ![2688, 0] ![384, 1024] inb_S3072x1024_S384x1024_2688_0)) x5 x6, ∀ z, p.2 z = blk7 x0 x1 x2 x5 x6 (p.1.emb z) := by
  simp only [L7, List.forall_mem_cons]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun _ h => absurd h List.not_mem_nil⟩
  · obtain ⟨r, j, rfl⟩ := idx4 z
    refine (pay54_apply _ _ r j).trans (Eq.trans ?_ (congrArg (blk7 x0 x1 x2 x5 x6) (emb7 1 2688 384 _ r j (by omega) (by omega))).symm)
    refine Eq.trans ?_ (kq_2688 _ _ _ r).symm
    exact sumW x2 _ 2688 inb_S3072x1024_S384x1024_2688_0 r _ rfl _ _ (by show 256 + j.val = 1 * 256 + j.val; omega)
  · obtain ⟨r, j, rfl⟩ := idx4 z
    refine (pay53_apply _ _ r j).trans (Eq.trans ?_ (congrArg (blk7 x0 x1 x2 x5 x6) (emb7 0 2688 384 _ r j (by omega) (by omega))).symm)
    refine Eq.trans ?_ (kq_2688 _ _ _ r).symm
    exact sumW x2 _ 2688 inb_S3072x1024_S384x1024_2688_0 r _ rfl _ _ (by show j.val = 0 * 256 + j.val; omega)
  · obtain ⟨r, j, rfl⟩ := idx4 z
    refine (pay51_apply _ _ r j).trans (Eq.trans ?_ (congrArg (blk7 x0 x1 x2 x5 x6) (emb7 1 2560 128 _ r j (by omega) (by omega))).symm)
    refine Eq.trans ?_ (kq_2560 _ _ _ r).symm
    exact sumW x2 _ 2304 inb_S3072x1024_S384x1024_2304_0 ⟨256 + r.val, by omega⟩ _ (by show 2304 + (256 + r.val) = 2560 + r.val; omega) _ _ (by show 256 + j.val = 1 * 256 + j.val; omega)
  · obtain ⟨r, j, rfl⟩ := idx4 z
    refine (pay50_apply _ _ r j).trans (Eq.trans ?_ (congrArg (blk7 x0 x1 x2 x5 x6) (emb7 0 2560 128 _ r j (by omega) (by omega))).symm)
    refine Eq.trans ?_ (kq_2560 _ _ _ r).symm
    exact sumW x2 _ 2304 inb_S3072x1024_S384x1024_2304_0 ⟨256 + r.val, by omega⟩ _ (by show 2304 + (256 + r.val) = 2560 + r.val; omega) _ _ (by show j.val = 0 * 256 + j.val; omega)
  · obtain ⟨r, j, rfl⟩ := idx4 z
    refine (pay47_apply _ _ _ _ r j).trans (Eq.trans ?_ (congrArg (blk7 x0 x1 x2 x5 x6) (emb7 1 2304 256 _ r j (by omega) (by omega))).symm)
    refine Eq.trans ?_ (kq_2304 _ _ _ r).symm
    have e : (⟨256 + j.val, by omega⟩ : Fin 512) = tok 1 j := Fin.ext (by show 256 + j.val = 1 * 256 + j.val; omega)
    rw [e]
    refine congrArg (· * _) (congrArg (fun q => rot q _ _ r) (funext fun a => ?_))
    exact sumW x2 _ 2304 inb_S3072x1024_S384x1024_2304_0 ⟨a.val, by omega⟩ ⟨2304 + a.val, by omega⟩ rfl _ _ rfl
  · obtain ⟨r, j, rfl⟩ := idx4 z
    refine (pay46_apply _ _ _ _ r j).trans (Eq.trans ?_ (congrArg (blk7 x0 x1 x2 x5 x6) (emb7 0 2304 256 _ r j (by omega) (by omega))).symm)
    refine Eq.trans ?_ (kq_2304 _ _ _ r).symm
    have e : (⟨j.val, by omega⟩ : Fin 512) = tok 0 j := Fin.ext (by show j.val = 0 * 256 + j.val; omega)
    rw [e]
    refine congrArg (· * _) (congrArg (fun q => rot q _ _ r) (funext fun a => ?_))
    exact sumW x2 _ 2304 inb_S3072x1024_S384x1024_2304_0 ⟨a.val, by omega⟩ ⟨2304 + a.val, by omega⟩ rfl _ _ rfl
  · obtain ⟨r, j, rfl⟩ := idx4 z
    refine (pay26_apply _ _ r j).trans (Eq.trans ?_ (congrArg (blk7 x0 x1 x2 x5 x6) (emb7 1 1920 384 _ r j (by omega) (by omega))).symm)
    refine Eq.trans ?_ (kq_1920 _ _ _ r).symm
    exact sumW x2 _ 1920 inb_S3072x1024_S384x1024_1920_0 r _ rfl _ _ (by show 256 + j.val = 1 * 256 + j.val; omega)
  · obtain ⟨r, j, rfl⟩ := idx4 z
    refine (pay25_apply _ _ r j).trans (Eq.trans ?_ (congrArg (blk7 x0 x1 x2 x5 x6) (emb7 0 1920 384 _ r j (by omega) (by omega))).symm)
    refine Eq.trans ?_ (kq_1920 _ _ _ r).symm
    exact sumW x2 _ 1920 inb_S3072x1024_S384x1024_1920_0 r _ rfl _ _ (by show j.val = 0 * 256 + j.val; omega)
  · obtain ⟨r, j, rfl⟩ := idx4 z
    refine (pay23_apply _ _ r j).trans (Eq.trans ?_ (congrArg (blk7 x0 x1 x2 x5 x6) (emb7 1 1536 384 _ r j (by omega) (by omega))).symm)
    refine Eq.trans ?_ (kq_1536 _ _ _ r).symm
    exact sumW x2 _ 1536 inb_S3072x1024_S384x1024_1536_0 r _ rfl _ _ (by show 256 + j.val = 1 * 256 + j.val; omega)
  · obtain ⟨r, j, rfl⟩ := idx4 z
    refine (pay22_apply _ _ r j).trans (Eq.trans ?_ (congrArg (blk7 x0 x1 x2 x5 x6) (emb7 0 1536 384 _ r j (by omega) (by omega))).symm)
    refine Eq.trans ?_ (kq_1536 _ _ _ r).symm
    exact sumW x2 _ 1536 inb_S3072x1024_S384x1024_1536_0 r _ rfl _ _ (by show j.val = 0 * 256 + j.val; omega)
  · obtain ⟨r, j, rfl⟩ := idx4 z
    refine (pay20_apply _ _ r j).trans (Eq.trans ?_ (congrArg (blk7 x0 x1 x2 x5 x6) (emb7 1 1152 384 _ r j (by omega) (by omega))).symm)
    refine Eq.trans ?_ (kq_1152 _ _ _ r).symm
    exact congrArg (· * _) (sumW x2 _ 1152 inb_S3072x1024_S384x1024_1152_0 r _ rfl _ _ (by show 256 + j.val = 1 * 256 + j.val; omega))
  · obtain ⟨r, j, rfl⟩ := idx4 z
    refine (pay19_apply _ _ r j).trans (Eq.trans ?_ (congrArg (blk7 x0 x1 x2 x5 x6) (emb7 0 1152 384 _ r j (by omega) (by omega))).symm)
    refine Eq.trans ?_ (kq_1152 _ _ _ r).symm
    exact congrArg (· * _) (sumW x2 _ 1152 inb_S3072x1024_S384x1024_1152_0 r _ rfl _ _ (by show j.val = 0 * 256 + j.val; omega))
  · obtain ⟨r, j, rfl⟩ := idx4 z
    refine (pay17_apply _ _ r j).trans (Eq.trans ?_ (congrArg (blk7 x0 x1 x2 x5 x6) (emb7 1 768 384 _ r j (by omega) (by omega))).symm)
    refine Eq.trans ?_ (kq_768 _ _ _ r).symm
    exact sumW x2 _ 768 inb_S3072x1024_S384x1024_768_0 r _ rfl _ _ (by show 256 + j.val = 1 * 256 + j.val; omega)
  · obtain ⟨r, j, rfl⟩ := idx4 z
    refine (pay15_apply _ _ r j).trans (Eq.trans ?_ (congrArg (blk7 x0 x1 x2 x5 x6) (emb7 0 768 384 _ r j (by omega) (by omega))).symm)
    refine Eq.trans ?_ (kq_768 _ _ _ r).symm
    exact sumW x2 _ 768 inb_S3072x1024_S384x1024_768_0 r _ rfl _ _ (by show j.val = 0 * 256 + j.val; omega)
  · obtain ⟨r, j, rfl⟩ := idx4 z
    refine (pay13_apply _ _ r j).trans (Eq.trans ?_ (congrArg (blk7 x0 x1 x2 x5 x6) (emb7 1 384 384 _ r j (by omega) (by omega))).symm)
    refine Eq.trans ?_ (kq_384 _ _ _ r).symm
    exact sumW x2 _ 384 inb_S3072x1024_S384x1024_384_0 r _ rfl _ _ (by show 256 + j.val = 1 * 256 + j.val; omega)
  · obtain ⟨r, j, rfl⟩ := idx4 z
    refine (pay12_apply _ _ r j).trans (Eq.trans ?_ (congrArg (blk7 x0 x1 x2 x5 x6) (emb7 0 384 384 _ r j (by omega) (by omega))).symm)
    refine Eq.trans ?_ (kq_384 _ _ _ r).symm
    exact sumW x2 _ 384 inb_S3072x1024_S384x1024_384_0 r _ rfl _ _ (by show j.val = 0 * 256 + j.val; omega)
  · obtain ⟨r, j, rfl⟩ := idx4 z
    refine (pay10_apply _ _ _ r j).trans (Eq.trans ?_ (congrArg (blk7 x0 x1 x2 x5 x6) (emb7 1 0 384 _ r j (by omega) (by omega))).symm)
    refine Eq.trans ?_ (kq_0 _ _ _ r).symm
    exact congrArg (· * _) (sumW x2 _ 0 inb_S3072x1024_S384x1024_0_0 r _ rfl _ _ (by show 256 + j.val = 1 * 256 + j.val; omega))
  · obtain ⟨r, j, rfl⟩ := idx4 z
    refine (pay9_apply _ _ _ r j).trans (Eq.trans ?_ (congrArg (blk7 x0 x1 x2 x5 x6) (emb7 0 0 384 _ r j (by omega) (by omega))).symm)
    refine Eq.trans ?_ (kq_0 _ _ _ r).symm
    exact congrArg (· * _) (sumW x2 _ 0 inb_S3072x1024_S384x1024_0_0 r _ rfl _ _ (by show j.val = 0 * 256 + j.val; omega))

theorem L8_pieces (x0 : Vec Ideal S1x512x1024 .f32) (x1 : Vec Ideal S1x1024 .f32)  (x3 : Vec Ideal S1024x768 .bf16) (x4 : Vec Ideal S256x1024 .bf16)
    (x5 : Vec Ideal S1x1x512 .i32) (x6 : Vec Ideal S16x1 .f32) :
    ∀ p ∈ L8 x0 x1 x3 x4 x5 x6, ∀ z, p.2 z = blk8 x0 x1 x3 x4 x5 x6 (p.1.emb z) := by
  simp only [L8, List.forall_mem_cons]
  refine ⟨fun z => ?_, fun z => ?_, fun _ h => absurd h List.not_mem_nil⟩
  · obtain ⟨n, i, rfl⟩ := idx3 z
    refine (pay3_apply _ _ _ _ n i).trans (Eq.trans ?_ (congrArg (blk8 x0 x1 x3 x4 x5 x6) (emb8 768 256 _ n i (by omega))).symm)
    exact (kk_768 _ _ _ _ i).symm
  · obtain ⟨n, e, rfl⟩ := idx3 z
    refine (pay55_apply _ _ n e).trans (Eq.trans ?_ (congrArg (blk8 x0 x1 x3 x4 x5 x6) (emb8 0 768 _ n e (by omega))).symm)
    exact (kk_0 (prodK x0 x1 x3 n) _ _ _ e).symm

section out
variable (c : Dev nD) (i : grid0.Coords) (arg2 : Memref sig .tc .vmem S1x512x1024 .f32) (harg2 : arg2.IsWhole) (arg3 : Memref sig .tc .vmem S1x1024 .f32) (harg3 : arg3.IsWhole)
    (arg4 : Memref sig .tc .vmem S3072x1024 .bf16) (harg4 : arg4.IsWhole) (arg5 : Memref sig .tc .vmem S1024x768 .bf16) (harg5 : arg5.IsWhole) (arg6 : Memref sig .tc .vmem S256x1024 .bf16) (harg6 : arg6.IsWhole)
    (arg7 : Memref sig .tc .vmem S1x1x512 .i32) (harg7 : arg7.IsWhole) (arg8 : Memref sig .tc .vmem S16x1 .f32) (harg8 : arg8.IsWhole) (arg9 : Memref sig .tc .vmem S1x2x3072x256 .bf16) (harg9 : arg9.IsWhole)
    (arg10 : Memref sig .tc .vmem S1x512x1024 .bf16) (harg10 : arg10.IsWhole)
    (x0 : Vec Ideal S1x512x1024 .f32) (x1 : Vec Ideal S1x1024 .f32) (x2 : Vec Ideal S3072x1024 .bf16) (x3 : Vec Ideal S1024x768 .bf16) (x4 : Vec Ideal S256x1024 .bf16)
    (x5 : Vec Ideal S1x1x512 .i32) (x6 : Vec Ideal S16x1 .f32)

theorem out7_eq : out0_A_7 c i arg2 harg2 arg3 harg3 arg4 harg4 arg5 harg5 arg6 harg6 arg7 harg7 arg8 harg8 arg9 harg9 arg10 harg10 x0 x1 x2 x3 x4 x5 x6 = blk7 x0 x1 x2 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  funext y
  refine View.canon_apply_of_pieces (blk7 x0 x1 x2 x5 x6) _ ?_ y (cover0_A_7 c i arg2 harg2 arg3 harg3 arg4 harg4 arg5 harg5 arg6 harg6 arg7 harg7 arg8 harg8 arg9 harg9 arg10 harg10 x0 x1 x2 x3 x4 x5 x6 y)
  rw [L7_eq]
  exact L7_pieces x0 x1 x2 x5 x6

theorem out8_eq : out0_A_8 c i arg2 harg2 arg3 harg3 arg4 harg4 arg5 harg5 arg6 harg6 arg7 harg7 arg8 harg8 arg9 harg9 arg10 harg10 x0 x1 x2 x3 x4 x5 x6 = blk8 x0 x1 x3 x4 x5 x6 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6)]
  funext y
  refine View.canon_apply_of_pieces (blk8 x0 x1 x3 x4 x5 x6) _ ?_ y (cover0_A_8 c i arg2 harg2 arg3 harg3 arg4 harg4 arg5 harg5 arg6 harg6 arg7 harg7 arg8 harg8 arg9 harg9 arg10 harg10 x0 x1 x2 x3 x4 x5 x6 y)
  rw [L8_eq]
  exact L8_pieces x0 x1 x3 x4 x5 x6

end out

end Cert.InProjIdeal.Hand
end
-- ==== Proof.InProjArr.lean ====
/- The arrays the input projection is handed, and the two arrays it leaves. -/
module

public import proofs.«01_k».proof.Proof.InProjBlock

@[expose] public section

set_option maxRecDepth 16384

noncomputable section

namespace Cert.InProjIdeal.Hand

open Idealize.ShloMosaic Idealize.ShloMosaic.TcCoe Idealize.SL.Sem Cert.InProjIdeal Cert.InProjIdeal.Gen

/-! ## The results, from the arguments -/

/-- The weight's column of a row of the first result, and of an entry of the second's first two spans. -/
def srcq (a : Fin 3072) : Fin 4096 :=
  ⟨if a.val < 384 then a.val else if a.val < 1536 then a.val + 384 else if a.val < 2560 then a.val + 768 else a.val + 1024, by
    have := a.isLt
    split_ifs <;> omega⟩
def srck (e : Fin 768) : Fin 4096 := ⟨if e.val < 384 then 384 + e.val else 1536 + e.val, by have := e.isLt; split_ifs <;> omega⟩

def freq (s : Fin 16) : EReal := Ideal.ofBits .f32 (lit0 s)

section vals
variable (x : FVec Ideal S8x4096x1024 .f32) (pos : Vec Ideal S8x4096 .i32) (w : FVec Ideal S1024x4096 .f32) (g : FVec Ideal S1024 .f32)

def hrow (b : Fin 8) (n : Fin 4096) (d : Fin 1024) : EReal := hval (fun d => x (ix3 b n d)) (fun d => g (ix1 d)) d
/-- A token's product with a column of the weight. -/
def colv (b : Fin 8) (n : Fin 4096) (a : Fin 4096) : EReal := ∑ d, hrow x g b n d * w (ix2 d a)
def csr (b : Fin 8) (n : Fin 4096) (s : Fin 16) : EReal := Ideal.cos (posr (pos (ix2 b n)) * freq s)
def snr (b : Fin 8) (n : Fin 4096) (s : Fin 16) : EReal := Ideal.sin (posr (pos (ix2 b n)) * freq s)

def qVal (b : Fin 8) (n : Fin 4096) (a : Fin 3072) : EReal := kq (fun a => colv x w g b n (srcq a)) (csr pos b n) (snr pos b n) a
def kVal (b : Fin 8) (n : Fin 4096) (e : Fin 1024) : EReal :=
  kk (fun e => colv x w g b n (srck e)) (fun i => colv x w g b n ⟨3328 + i.val, by omega⟩) (csr pos b n) (snr pos b n) e

def qTile (b : Fin 8) (T : Fin 16) (a : Fin 3072) (j : Fin 256) : EReal := qVal x pos w g b ⟨T.val * 256 + j.val, by omega⟩ a
def qArr : Vec Ideal S8x16x3072x256 .bf16 := fun i => qTile x pos w g (i 0) (i 1) (i 2) (i 3)
def kArr : Vec Ideal S8x4096x1024 .bf16 := fun i => kVal x pos w g (i 0) (i 1) (i 2)

end vals

/-! ## The arrays handed over -/

abbrev cols (w : FVec Ideal S1024x4096 .f32) : FVec Ideal S1024x3072 .f32 :=
  concatenate S1024x3072 1 [⟨S1024x384, extractStridedSlice S1024x384 ![0, 0] w slices_S1024x4096_S1024x384_0_0⟩,
    ⟨S1024x384, extractStridedSlice S1024x384 ![0, 768] w slices_S1024x4096_S1024x384_0_768⟩,
    ⟨S1024x384, extractStridedSlice S1024x384 ![0, 1152] w slices_S1024x4096_S1024x384_0_1152⟩,
    ⟨S1024x384, extractStridedSlice S1024x384 ![0, 1536] w slices_S1024x4096_S1024x384_0_1536⟩,
    ⟨S1024x384, extractStridedSlice S1024x384 ![0, 2304] w slices_S1024x4096_S1024x384_0_2304⟩,
    ⟨S1024x384, extractStridedSlice S1024x384 ![0, 2688] w slices_S1024x4096_S1024x384_0_2688⟩,
    ⟨S1024x256, extractStridedSlice S1024x256 ![0, 3072] w slices_S1024x4096_S1024x256_0_3072⟩,
    ⟨S1024x256, extractStridedSlice S1024x256 ![0, 3584] w slices_S1024x4096_S1024x256_0_3584⟩,
    ⟨S1024x256, extractStridedSlice S1024x256 ![0, 3840] w slices_S1024x4096_S1024x256_0_3840⟩] concatenates_S1024x384_S1024x384_S1024x384_S1024x384_S1024x384_S1024x384_S1024x256_S1024x256_S1024x256_S1024x3072_d1

theorem col0 (w : FVec Ideal S1024x4096 .f32) (d : Fin 1024) (r : Fin 384) : extractStridedSlice S1024x384 ![0, 0] w slices_S1024x4096_S1024x384_0_0 (ix2 d r) = w (ix2 d ⟨0 + r.val, by omega⟩) := by
  pointwise
theorem col1 (w : FVec Ideal S1024x4096 .f32) (d : Fin 1024) (r : Fin 384) : extractStridedSlice S1024x384 ![0, 768] w slices_S1024x4096_S1024x384_0_768 (ix2 d r) = w (ix2 d ⟨768 + r.val, by omega⟩) := by
  pointwise
theorem col2 (w : FVec Ideal S1024x4096 .f32) (d : Fin 1024) (r : Fin 384) : extractStridedSlice S1024x384 ![0, 1152] w slices_S1024x4096_S1024x384_0_1152 (ix2 d r) = w (ix2 d ⟨1152 + r.val, by omega⟩) := by
  pointwise
theorem col3 (w : FVec Ideal S1024x4096 .f32) (d : Fin 1024) (r : Fin 384) : extractStridedSlice S1024x384 ![0, 1536] w slices_S1024x4096_S1024x384_0_1536 (ix2 d r) = w (ix2 d ⟨1536 + r.val, by omega⟩) := by
  pointwise
theorem col4 (w : FVec Ideal S1024x4096 .f32) (d : Fin 1024) (r : Fin 384) : extractStridedSlice S1024x384 ![0, 2304] w slices_S1024x4096_S1024x384_0_2304 (ix2 d r) = w (ix2 d ⟨2304 + r.val, by omega⟩) := by
  pointwise
theorem col5 (w : FVec Ideal S1024x4096 .f32) (d : Fin 1024) (r : Fin 384) : extractStridedSlice S1024x384 ![0, 2688] w slices_S1024x4096_S1024x384_0_2688 (ix2 d r) = w (ix2 d ⟨2688 + r.val, by omega⟩) := by
  pointwise
theorem col6 (w : FVec Ideal S1024x4096 .f32) (d : Fin 1024) (r : Fin 256) : extractStridedSlice S1024x256 ![0, 3072] w slices_S1024x4096_S1024x256_0_3072 (ix2 d r) = w (ix2 d ⟨3072 + r.val, by omega⟩) := by
  pointwise
theorem col7 (w : FVec Ideal S1024x4096 .f32) (d : Fin 1024) (r : Fin 256) : extractStridedSlice S1024x256 ![0, 3584] w slices_S1024x4096_S1024x256_0_3584 (ix2 d r) = w (ix2 d ⟨3584 + r.val, by omega⟩) := by
  pointwise
theorem col8 (w : FVec Ideal S1024x4096 .f32) (d : Fin 1024) (r : Fin 256) : extractStridedSlice S1024x256 ![0, 3840] w slices_S1024x4096_S1024x256_0_3840 (ix2 d r) = w (ix2 d ⟨3840 + r.val, by omega⟩) := by
  pointwise

set_option maxHeartbeats 2000000 in
theorem cols_apply (w : FVec Ideal S1024x4096 .f32) (d : Fin 1024) (a : Fin 3072) : cols w (ix2 d a) = w (ix2 d (srcq a)) := by
  have ha := a.isLt
  rcases (by omega : (0 ≤ a.val ∧ a.val < 384) ∨ (384 ≤ a.val ∧ a.val < 768) ∨ (768 ≤ a.val ∧ a.val < 1152) ∨ (1152 ≤ a.val ∧ a.val < 1536) ∨ (1536 ≤ a.val ∧ a.val < 1920) ∨ (1920 ≤ a.val ∧ a.val < 2304) ∨ (2304 ≤ a.val ∧ a.val < 2560) ∨ (2560 ≤ a.val ∧ a.val < 2816) ∨ (2816 ≤ a.val ∧ a.val < 3072)) with h | h | h | h | h | h | h | h | h
  · refine ((concatenate_apply_piece 1 _ _ (ix2 d a) 0 (by show 0 < 9; omega) S1024x384 (extractStridedSlice S1024x384 ![0, 0] w slices_S1024x4096_S1024x384_0_0) rfl rfl 0 rfl (ix2 d ⟨a.val - 0, by omega⟩) (fun b hb => ?_) ?_).trans (col0 w d _)).trans
      (congrArg (fun a => w (ix2 d a)) (Fin.ext (by simp only [srcq]; split_ifs <;> omega)))
    · match b, hb with
      | ⟨0, _⟩, _ => rfl
      | ⟨1, _⟩, hb => exact absurd rfl hb
    · show 0 + (a.val - 0) = a.val
      omega
  · refine ((concatenate_apply_piece 1 _ _ (ix2 d a) 1 (by show 1 < 9; omega) S1024x384 (extractStridedSlice S1024x384 ![0, 768] w slices_S1024x4096_S1024x384_0_768) rfl rfl 384 rfl (ix2 d ⟨a.val - 384, by omega⟩) (fun b hb => ?_) ?_).trans (col1 w d _)).trans
      (congrArg (fun a => w (ix2 d a)) (Fin.ext (by simp only [srcq]; split_ifs <;> omega)))
    · match b, hb with
      | ⟨0, _⟩, _ => rfl
      | ⟨1, _⟩, hb => exact absurd rfl hb
    · show 384 + (a.val - 384) = a.val
      omega
  · refine ((concatenate_apply_piece 1 _ _ (ix2 d a) 2 (by show 2 < 9; omega) S1024x384 (extractStridedSlice S1024x384 ![0, 1152] w slices_S1024x4096_S1024x384_0_1152) rfl rfl 768 rfl (ix2 d ⟨a.val - 768, by omega⟩) (fun b hb => ?_) ?_).trans (col2 w d _)).trans
      (congrArg (fun a => w (ix2 d a)) (Fin.ext (by simp only [srcq]; split_ifs <;> omega)))
    · match b, hb with
      | ⟨0, _⟩, _ => rfl
      | ⟨1, _⟩, hb => exact absurd rfl hb
    · show 768 + (a.val - 768) = a.val
      omega
  · refine ((concatenate_apply_piece 1 _ _ (ix2 d a) 3 (by show 3 < 9; omega) S1024x384 (extractStridedSlice S1024x384 ![0, 1536] w slices_S1024x4096_S1024x384_0_1536) rfl rfl 1152 rfl (ix2 d ⟨a.val - 1152, by omega⟩) (fun b hb => ?_) ?_).trans (col3 w d _)).trans
      (congrArg (fun a => w (ix2 d a)) (Fin.ext (by simp only [srcq]; split_ifs <;> omega)))
    · match b, hb with
      | ⟨0, _⟩, _ => rfl
      | ⟨1, _⟩, hb => exact absurd rfl hb
    · show 1152 + (a.val - 1152) = a.val
      omega
  · refine ((concatenate_apply_piece 1 _ _ (ix2 d a) 4 (by show 4 < 9; omega) S1024x384 (extractStridedSlice S1024x384 ![0, 2304] w slices_S1024x4096_S1024x384_0_2304) rfl rfl 1536 rfl (ix2 d ⟨a.val - 1536, by omega⟩) (fun b hb => ?_) ?_).trans (col4 w d _)).trans
      (congrArg (fun a => w (ix2 d a)) (Fin.ext (by simp only [srcq]; split_ifs <;> omega)))
    · match b, hb with
      | ⟨0, _⟩, _ => rfl
      | ⟨1, _⟩, hb => exact absurd rfl hb
    · show 1536 + (a.val - 1536) = a.val
      omega
  · refine ((concatenate_apply_piece 1 _ _ (ix2 d a) 5 (by show 5 < 9; omega) S1024x384 (extractStridedSlice S1024x384 ![0, 2688] w slices_S1024x4096_S1024x384_0_2688) rfl rfl 1920 rfl (ix2 d ⟨a.val - 1920, by omega⟩) (fun b hb => ?_) ?_).trans (col5 w d _)).trans
      (congrArg (fun a => w (ix2 d a)) (Fin.ext (by simp only [srcq]; split_ifs <;> omega)))
    · match b, hb with
      | ⟨0, _⟩, _ => rfl
      | ⟨1, _⟩, hb => exact absurd rfl hb
    · show 1920 + (a.val - 1920) = a.val
      omega
  · refine ((concatenate_apply_piece 1 _ _ (ix2 d a) 6 (by show 6 < 9; omega) S1024x256 (extractStridedSlice S1024x256 ![0, 3072] w slices_S1024x4096_S1024x256_0_3072) rfl rfl 2304 rfl (ix2 d ⟨a.val - 2304, by omega⟩) (fun b hb => ?_) ?_).trans (col6 w d _)).trans
      (congrArg (fun a => w (ix2 d a)) (Fin.ext (by simp only [srcq]; split_ifs <;> omega)))
    · match b, hb with
      | ⟨0, _⟩, _ => rfl
      | ⟨1, _⟩, hb => exact absurd rfl hb
    · show 2304 + (a.val - 2304) = a.val
      omega
  · refine ((concatenate_apply_piece 1 _ _ (ix2 d a) 7 (by show 7 < 9; omega) S1024x256 (extractStridedSlice S1024x256 ![0, 3584] w slices_S1024x4096_S1024x256_0_3584) rfl rfl 2560 rfl (ix2 d ⟨a.val - 2560, by omega⟩) (fun b hb => ?_) ?_).trans (col7 w d _)).trans
      (congrArg (fun a => w (ix2 d a)) (Fin.ext (by simp only [srcq]; split_ifs <;> omega)))
    · match b, hb with
      | ⟨0, _⟩, _ => rfl
      | ⟨1, _⟩, hb => exact absurd rfl hb
    · show 2560 + (a.val - 2560) = a.val
      omega
  · refine ((concatenate_apply_piece 1 _ _ (ix2 d a) 8 (by show 8 < 9; omega) S1024x256 (extractStridedSlice S1024x256 ![0, 3840] w slices_S1024x4096_S1024x256_0_3840) rfl rfl 2816 rfl (ix2 d ⟨a.val - 2816, by omega⟩) (fun b hb => ?_) ?_).trans (col8 w d _)).trans
      (congrArg (fun a => w (ix2 d a)) (Fin.ext (by simp only [srcq]; split_ifs <;> omega)))
    · match b, hb with
      | ⟨0, _⟩, _ => rfl
      | ⟨1, _⟩, hb => exact absurd rfl hb
    · show 2816 + (a.val - 2816) = a.val
      omega

section reads
variable (m : (ℓ : Loc nD τ sig) → Buf (Elt Ideal) ℓ) (c : Dev nD)

abbrev wtOf (w : FVec Ideal S1024x4096 .f32) : FVec Ideal S3072x1024 .bf16 :=
  truncf .bf16 (transpose S3072x1024 [1, 0] (cols w) transposes_S1024x3072_S3072x1024_1_0) bitsLt_bf16_f32
abbrev wkOf (w : FVec Ideal S1024x4096 .f32) : FVec Ideal S1024x768 .bf16 :=
  truncf .bf16 (concatenate S1024x768 1 [⟨S1024x384, extractStridedSlice S1024x384 ![0, 384] w slices_S1024x4096_S1024x384_0_384⟩, ⟨S1024x384, extractStridedSlice S1024x384 ![0, 1920] w slices_S1024x4096_S1024x384_0_1920⟩] concatenates_S1024x384_S1024x384_S1024x768_d1 : FVec Ideal S1024x768 .f32) bitsLt_bf16_f32
abbrev wcOf (w : FVec Ideal S1024x4096 .f32) : FVec Ideal S256x1024 .bf16 :=
  truncf .bf16 (transpose S256x1024 [1, 0] (extractStridedSlice S1024x256 ![0, 3328] w slices_S1024x4096_S1024x256_0_3328) transposes_S1024x256_S256x1024_1_0 : FVec Ideal S256x1024 .f32) bitsLt_bf16_f32

theorem flip_apply (z : FVec Ideal S1024x3072 .f32) (a : Fin 3072) (d : Fin 1024) :
    (truncf .bf16 (transpose S3072x1024 [1, 0] z transposes_S1024x3072_S3072x1024_1_0) bitsLt_bf16_f32 : FVec Ideal S3072x1024 .bf16) (ix2 a d) = z (ix2 d a) := by
  pointwise
theorem pos_apply (p : Vec Ideal S8x4096 .i32) (b : Fin 8) (n : Fin 4096) :
    (shapeCast S8x1x4096 p shapeCasts_S8x4096_S8x1x4096 : Vec Ideal S8x1x4096 .i32) (ix3 b 0 n) = p (ix2 b n) := by
  pointwise
theorem freq_apply (s : Fin 16) : (broadcastInDim S16x1 ![0] bcast_S16_S16x1_0 (fun i => FloatOps.ofBits .f32 (lit0 (S16.rowMajor i)) : FVec Ideal S16 .f32) : FVec Ideal S16x1 .f32) (ix2 s 0) = freq s := by
  have e : ∀ s : Fin 16, lit0 (S16.rowMajor (ix1 s)) = lit0 s := by decide
  pointwise [freq]
  rw [e]
theorem wtOf_apply (w : FVec Ideal S1024x4096 .f32) (a : Fin 3072) (d : Fin 1024) : wtOf w (ix2 a d) = w (ix2 d (srcq a)) := by
  exact (flip_apply (cols w) a d).trans (cols_apply w d a)
theorem wkOf_apply (w : FVec Ideal S1024x4096 .f32) (d : Fin 1024) (e : Fin 768) : wkOf w (ix2 d e) = w (ix2 d (srck e)) := by
  have he := e.isLt
  pointwise
  by_cases h : e.val < 384
  · rw [dif_pos h]
    exact congrArg (fun a => w (ix2 d a)) (Fin.ext (by simp only [srck]; rw [if_pos h]))
  · rw [dif_neg h]
    exact congrArg (fun a => w (ix2 d a)) (Fin.ext (by simp only [srck]; rw [if_neg h]; omega))
theorem wcOf_apply (w : FVec Ideal S1024x4096 .f32) (i : Fin 256) (d : Fin 1024) : wcOf w (ix2 i d) = w (ix2 d ⟨3328 + i.val, by omega⟩) := by
  pointwise

theorem V_wt : V m c main_v12 = wtOf (m ((c : Thread nD τ).loc main_arg2) : FVec Ideal S1024x4096 .f32) := by
  unfold_abbrev_sides
  after_reads_simp
  rfl
theorem V_wk : V m c main_v16 = wkOf (m ((c : Thread nD τ).loc main_arg2) : FVec Ideal S1024x4096 .f32) := by
  unfold_abbrev_sides
  after_reads_simp
  rfl
theorem V_wc : V m c main_v19 = wcOf (m ((c : Thread nD τ).loc main_arg2) : FVec Ideal S1024x4096 .f32) := by
  unfold_abbrev_sides
  after_reads_simp
theorem V_gain : V m c main_v20 = (broadcastInDim S1x1024 ![1] bcast_S1024_S1x1024_1 (m ((c : Thread nD τ).loc main_arg3)) : Vec Ideal S1x1024 .f32) := by
  unfold_abbrev_sides
  after_reads_simp
theorem V_pos : V m c main_v21 = (shapeCast S8x1x4096 (m ((c : Thread nD τ).loc main_arg1) : Vec Ideal S8x4096 .i32) shapeCasts_S8x4096_S8x1x4096 : Vec Ideal S8x1x4096 .i32) := by
  unfold_abbrev_sides
  after_reads_simp
  rfl
theorem V_freq : V m c main_v0 = (broadcastInDim S16x1 ![0] bcast_S16_S16x1_0 (fun i => FloatOps.ofBits .f32 (lit0 (S16.rowMajor i)) : FVec Ideal S16 .f32) : FVec Ideal S16x1 .f32) := by
  unfold_abbrev_sides
  after_reads_simp
  rfl

/-! ## The blocks at a point -/

theorem tr0 (i : grid0.Coords) : cc0_transform_0 i = ![(i 0).val, (i 1).val, 0] := by
  have h0 : (i 0).val < 8 := (i 0).isLt
  have h1 : (i 1).val < 8 := (i 1).isLt
  simp [cc0_transform_0, BitVec.toNat_ofNat]
  omega
theorem tr5 (i : grid0.Coords) : cc0_transform_5 i = ![(i 0).val, 0, (i 1).val] := by
  have h0 : (i 0).val < 8 := (i 0).isLt
  have h1 : (i 1).val < 8 := (i 1).isLt
  simp [cc0_transform_5, BitVec.toNat_ofNat]
  omega
theorem tr7 (i : grid0.Coords) : cc0_transform_7 i = ![(i 0).val, (i 1).val, 0, 0] := by
  have h0 : (i 0).val < 8 := (i 0).isLt
  have h1 : (i 1).val < 8 := (i 1).isLt
  simp [cc0_transform_7, BitVec.toNat_ofNat]
  omega
theorem tr8 (i : grid0.Coords) : cc0_transform_8 i = ![(i 0).val, (i 1).val, 0] := by
  have h0 : (i 0).val < 8 := (i 0).isLt
  have h1 : (i 1).val < 8 := (i 1).isLt
  simp [cc0_transform_8, BitVec.toNat_ofNat]
  omega

variable (t : Fin cfg0.N)

/-- The grid coordinates of a point, in their ranges. -/
def gb (t : Fin cfg0.N) : Fin 8 := grid0.coords t 0
def gi (t : Fin cfg0.N) : Fin 8 := grid0.coords t 1

theorem ewin0 (r : Fin 512) (e : Fin 1024) :
    (win0_0.rect t).emb (ix3 0 r e) = ix3 (gb t) ⟨(gi t).val * 512 + r.val, by have := (gi t).isLt; omega⟩ e := by
  funext a
  have e' := win0_0.rect_emb_val t (ix3 0 r e) a
  have h : win0_0.index t = _ := tr0 (grid0.coords t)
  rw [h] at e'
  refine Fin.ext (e'.trans ?_)
  match a with
  | ⟨0, _⟩ => show (gb t).val * 1 + 0 = (gb t).val; omega
  | ⟨1, _⟩ => rfl
  | ⟨2, _⟩ => show 0 * 1024 + e.val = e.val; omega
theorem ewin1 (y : S1x1024.Idx) : (win0_1.rect t).emb y = y := by
  funext a
  have e := win0_1.rect_emb_val t y a
  refine Fin.ext (e.trans ?_)
  match a with
  | ⟨0, _⟩ => show 0 * 1 + (y 0).val = (y 0).val; omega
  | ⟨1, _⟩ => show 0 * 1024 + (y 1).val = (y 1).val; omega
theorem ewin2 (y : S3072x1024.Idx) : (win0_2.rect t).emb y = y := by
  funext a
  have e := win0_2.rect_emb_val t y a
  refine Fin.ext (e.trans ?_)
  match a with
  | ⟨0, _⟩ => show 0 * 3072 + (y 0).val = (y 0).val; omega
  | ⟨1, _⟩ => show 0 * 1024 + (y 1).val = (y 1).val; omega
theorem ewin3 (y : S1024x768.Idx) : (win0_3.rect t).emb y = y := by
  funext a
  have e := win0_3.rect_emb_val t y a
  refine Fin.ext (e.trans ?_)
  match a with
  | ⟨0, _⟩ => show 0 * 1024 + (y 0).val = (y 0).val; omega
  | ⟨1, _⟩ => show 0 * 768 + (y 1).val = (y 1).val; omega
theorem ewin4 (y : S256x1024.Idx) : (win0_4.rect t).emb y = y := by
  funext a
  have e := win0_4.rect_emb_val t y a
  refine Fin.ext (e.trans ?_)
  match a with
  | ⟨0, _⟩ => show 0 * 256 + (y 0).val = (y 0).val; omega
  | ⟨1, _⟩ => show 0 * 1024 + (y 1).val = (y 1).val; omega
theorem ewin5 (r : Fin 512) :
    (win0_5.rect t).emb (ix3 0 0 r) = ix3 (gb t) 0 ⟨(gi t).val * 512 + r.val, by have := (gi t).isLt; omega⟩ := by
  funext a
  have e' := win0_5.rect_emb_val t (ix3 0 0 r) a
  have h : win0_5.index t = _ := tr5 (grid0.coords t)
  rw [h] at e'
  refine Fin.ext (e'.trans ?_)
  match a with
  | ⟨0, _⟩ => show (gb t).val * 1 + 0 = (gb t).val; omega
  | ⟨1, _⟩ => rfl
  | ⟨2, _⟩ => rfl
theorem ewin6 (y : S16x1.Idx) : (win0_6.rect t).emb y = y := by
  funext a
  have e := win0_6.rect_emb_val t y a
  refine Fin.ext (e.trans ?_)
  match a with
  | ⟨0, _⟩ => show 0 * 16 + (y 0).val = (y 0).val; omega
  | ⟨1, _⟩ => show 0 * 1 + (y 1).val = (y 1).val; omega
set_option maxHeartbeats 2000000 in
theorem ewin7 (u : Fin 2) (r : Fin 3072) (j : Fin 256) :
    (win0_7.rect t).emb (ix4 0 u r j) = ix4 (gb t) ⟨(gi t).val * 2 + u.val, by have := (gi t).isLt; omega⟩ r j := by
  funext a
  have e := win0_7.rect_emb_val t (ix4 0 u r j) a
  have h : win0_7.index t = _ := tr7 (grid0.coords t)
  rw [h] at e
  refine Fin.ext (e.trans ?_)
  match a with
  | ⟨0, _⟩ => show (gb t).val * 1 + 0 = (gb t).val; omega
  | ⟨1, _⟩ => rfl
  | ⟨2, _⟩ => show 0 * 3072 + r.val = r.val; omega
  | ⟨3, _⟩ => show 0 * 256 + j.val = j.val; omega
theorem ewin8 (r : Fin 512) (e : Fin 1024) :
    (win0_8.rect t).emb (ix3 0 r e) = ix3 (gb t) ⟨(gi t).val * 512 + r.val, by have := (gi t).isLt; omega⟩ e := by
  funext a
  have e' := win0_8.rect_emb_val t (ix3 0 r e) a
  have h : win0_8.index t = _ := tr8 (grid0.coords t)
  rw [h] at e'
  refine Fin.ext (e'.trans ?_)
  match a with
  | ⟨0, _⟩ => show (gb t).val * 1 + 0 = (gb t).val; omega
  | ⟨1, _⟩ => rfl
  | ⟨2, _⟩ => show 0 * 1024 + e.val = e.val; omega

/-- The token of the sequence a block's row is. -/
def tokAt (n : Fin 512) : Fin 4096 := ⟨(gi t).val * 512 + n.val, by have := (gi t).isLt; omega⟩

theorem iblk0 (r : Fin 512) (e : Fin 1024) :
    iblk m c 0 t (ix3 0 r e) = (m ((c : Thread nD τ).loc main_arg0) : FVec Ideal S8x4096x1024 .f32) (ix3 (gb t) (tokAt t r) e) := by
  show V m c main_arg0 ((win0_0.rect t).emb (ix3 0 r e)) = _
  rw [ewin0, V_main_arg0]
  rfl
theorem iblk1 (e : Fin 1024) : iblk m c 1 t (ix2 0 e) = (m ((c : Thread nD τ).loc main_arg3) : FVec Ideal S1024 .f32) (ix1 e) := by
  show V m c main_v20 ((win0_1.rect t).emb (ix2 0 e)) = _
  rw [ewin1, V_gain]
  pointwise
theorem iblk2 (a : Fin 3072) (d : Fin 1024) : iblk m c 2 t (ix2 a d) = (m ((c : Thread nD τ).loc main_arg2) : FVec Ideal S1024x4096 .f32) (ix2 d (srcq a)) := by
  show V m c main_v12 ((win0_2.rect t).emb (ix2 a d)) = _
  rw [ewin2, V_wt]
  exact wtOf_apply _ a d
theorem iblk3 (d : Fin 1024) (e : Fin 768) : iblk m c 3 t (ix2 d e) = (m ((c : Thread nD τ).loc main_arg2) : FVec Ideal S1024x4096 .f32) (ix2 d (srck e)) := by
  show V m c main_v16 ((win0_3.rect t).emb (ix2 d e)) = _
  rw [ewin3, V_wk]
  exact wkOf_apply _ d e
theorem iblk4 (i : Fin 256) (d : Fin 1024) : iblk m c 4 t (ix2 i d) = (m ((c : Thread nD τ).loc main_arg2) : FVec Ideal S1024x4096 .f32) (ix2 d ⟨3328 + i.val, by omega⟩) := by
  show V m c main_v19 ((win0_4.rect t).emb (ix2 i d)) = _
  rw [ewin4, V_wc]
  exact wcOf_apply _ i d
theorem iblk5 (r : Fin 512) : iblk m c 5 t (ix3 0 0 r) = (m ((c : Thread nD τ).loc main_arg1) : Vec Ideal S8x4096 .i32) (ix2 (gb t) (tokAt t r)) := by
  show V m c main_v21 ((win0_5.rect t).emb (ix3 0 0 r)) = _
  rw [ewin5, V_pos]
  exact pos_apply _ (gb t) (tokAt t r)
theorem iblk6 (s : Fin 16) : iblk m c 6 t (ix2 s 0) = freq s := by
  show V m c main_v0 ((win0_6.rect t).emb (ix2 s 0)) = _
  rw [ewin6, V_freq]
  exact freq_apply s

end reads

section final
variable (m : (ℓ : Loc nD τ sig) → Buf (Elt Ideal) ℓ) (c : Dev nD)

abbrev argX : FVec Ideal S8x4096x1024 .f32 := m ((c : Thread nD τ).loc main_arg0)
abbrev argP : Vec Ideal S8x4096 .i32 := m ((c : Thread nD τ).loc main_arg1)
abbrev argW : FVec Ideal S1024x4096 .f32 := m ((c : Thread nD τ).loc main_arg2)
abbrev argG : FVec Ideal S1024 .f32 := m ((c : Thread nD τ).loc main_arg3)

variable (t : Fin cfg0.N)

theorem h_eq (n : Fin 512) (d : Fin 1024) :
    k0_pay4 (F := Ideal) (iblk m c 0 t) (iblk m c 1 t) (ix2 n d) = hrow (argX m c) (argG m c) (gb t) (tokAt t n) d := by
  refine (pay4_apply _ _ n d).trans ?_
  simp only [iblk0, iblk1]
  rfl
theorem prodW_eq (n : Fin 512) (a : Fin 3072) :
    prodW (iblk m c 0 t) (iblk m c 1 t) (iblk m c 2 t) n a = colv (argX m c) (argW m c) (argG m c) (gb t) (tokAt t n) (srcq a) := by
  refine Finset.sum_congr rfl fun d _ => ?_
  rw [h_eq, iblk2, mul_comm]
theorem prodK_eq (n : Fin 512) (e : Fin 768) :
    prodK (iblk m c 0 t) (iblk m c 1 t) (iblk m c 3 t) n e = colv (argX m c) (argW m c) (argG m c) (gb t) (tokAt t n) (srck e) := by
  refine Finset.sum_congr rfl fun d _ => ?_
  rw [h_eq, iblk3]
theorem prodC_eq (n : Fin 512) (i : Fin 256) :
    prodC (iblk m c 0 t) (iblk m c 1 t) (iblk m c 4 t) n i = colv (argX m c) (argW m c) (argG m c) (gb t) (tokAt t n) ⟨3328 + i.val, by omega⟩ := by
  refine Finset.sum_congr rfl fun d _ => ?_
  rw [h_eq, iblk4, mul_comm]
theorem csv_eq (n : Fin 512) (s : Fin 16) : csv (iblk m c 5 t) (iblk m c 6 t) n s = csr (argP m c) (gb t) (tokAt t n) s := by
  refine (pay6_apply _ _ s n).trans ?_
  rw [iblk5, iblk6]
  rfl
theorem snv_eq (n : Fin 512) (s : Fin 16) : snv (iblk m c 5 t) (iblk m c 6 t) n s = snr (argP m c) (gb t) (tokAt t n) s := by
  refine (pay7_apply _ _ s n).trans ?_
  rw [iblk5, iblk6]
  rfl

abbrev resq : Vec Ideal S8x16x3072x256 .bf16 := qArr (argX m c) (argP m c) (argW m c) (argG m c)
abbrev resk : Vec Ideal S8x4096x1024 .bf16 := kArr (argX m c) (argP m c) (argW m c) (argG m c)

theorem flushed7_eq : (dats m 0 c).flushed 7 t = (win0_7.blk t).view.read (Elt Ideal) (resq m c) := by
  have hi := (gi t).isLt
  rw [Value.flushed7_A, out7_eq]
  funext y
  show blk7 _ _ _ _ _ y = resq m c ((win0_7.rect t).emb y)
  obtain ⟨u, r, j, rfl⟩ : ∃ u r j, y = ix4 0 u r j := ⟨y 1, y 2, y 3, (eq_ix4 (n0 := 1) (n1 := 2) (n2 := 3072) (n3 := 256) y).trans (by
    rw [Subsingleton.elim (α := Fin 1) (y 0) 0])⟩
  rw [ewin7]
  have e : tokAt t (tok u j) = ⟨((gi t).val * 2 + u.val) * 256 + j.val, by omega⟩ :=
    Fin.ext (by show (gi t).val * 512 + (u.val * 256 + j.val) = ((gi t).val * 2 + u.val) * 256 + j.val; omega)
  show kq (prodW _ _ _ (tok u j)) (csv _ _ (tok u j)) (snv _ _ (tok u j)) r = qVal _ _ _ _ (gb t) ⟨((gi t).val * 2 + u.val) * 256 + j.val, by omega⟩ r
  rw [← e, qVal, funext (prodW_eq m c t (tok u j)), funext (csv_eq m c t (tok u j)), funext (snv_eq m c t (tok u j))]

theorem flushed8_eq : (dats m 0 c).flushed 8 t = (win0_8.blk t).view.read (Elt Ideal) (resk m c) := by
  have hi := (gi t).isLt
  rw [Value.flushed8_A, out8_eq]
  funext y
  show blk8 _ _ _ _ _ _ y = resk m c ((win0_8.rect t).emb y)
  obtain ⟨n, e, rfl⟩ : ∃ n e, y = ix3 0 n e := ⟨y 1, y 2, (eq_ix3 (n0 := 1) (n1 := 512) (n2 := 1024) y).trans (by
    rw [Subsingleton.elim (α := Fin 1) (y 0) 0])⟩
  rw [ewin8]
  show kk (prodK _ _ _ n) (prodC _ _ _ n) (csv _ _ n) (snv _ _ n) e = kVal _ _ _ _ (gb t) (tokAt t n) e
  rw [kVal, funext (prodK_eq m c t n), funext (prodC_eq m c t n), funext (csv_eq m c t n), funext (snv_eq m c t n)]

theorem point_of (a r : Fin 8) : ∃ t : Fin cfg0.N, gb t = a ∧ gi t = r := by
  have : ∀ (a r : Fin 8), ∃ t : Fin cfg0.N, gb t = a ∧ gi t = r := by decide +kernel
  exact this a r

theorem cover7 (i : S8x16x3072x256.Idx) : ∃ t : Fin cfg0.N, (cfg0.win 7).flush t = true ∧ i ∈ ((cfg0.win 7).blk t).view.set := by
  have h1 : (i 1).val < 16 := (i 1).isLt
  obtain ⟨t, ha, hr⟩ := point_of (i 0) ⟨(i 1).val / 2, by omega⟩
  have ht1 : (gi t).val = (i 1).val / 2 := congrArg Fin.val hr
  refine ⟨t, flush0_7 t, ?_⟩
  have e : (win0_7.rect t).emb (ix4 0 ⟨(i 1).val % 2, by omega⟩ (i 2) (i 3)) = i := by
    refine (ewin7 t _ (i 2) (i 3)).trans ?_
    funext a
    refine Fin.ext ?_
    match a with
    | ⟨0, _⟩ => exact congrArg Fin.val ha
    | ⟨1, _⟩ => show (gi t).val * 2 + (i 1).val % 2 = (i 1).val; omega
    | ⟨2, _⟩ => rfl
    | ⟨3, _⟩ => rfl
  rw [← e]
  exact (win0_7.blk t).view.emb_mem_set _

theorem cover8 (i : S8x4096x1024.Idx) : ∃ t : Fin cfg0.N, (cfg0.win 8).flush t = true ∧ i ∈ ((cfg0.win 8).blk t).view.set := by
  have h1 : (i 1).val < 4096 := (i 1).isLt
  obtain ⟨t, ha, hr⟩ := point_of (i 0) ⟨(i 1).val / 512, by omega⟩
  have ht1 : (gi t).val = (i 1).val / 512 := congrArg Fin.val hr
  refine ⟨t, flush0_8 t, ?_⟩
  have e : (win0_8.rect t).emb (ix3 0 ⟨(i 1).val % 512, by omega⟩ (i 2)) = i := by
    refine (ewin8 t _ (i 2)).trans ?_
    funext a
    refine Fin.ext ?_
    match a with
    | ⟨0, _⟩ => exact congrArg Fin.val ha
    | ⟨1, _⟩ => show (gi t).val * 512 + (i 1).val % 512 = (i 1).val; omega
    | ⟨2, _⟩ => rfl
  rw [← e]
  exact (win0_8.blk t).view.emb_mem_set _

/-- The arrays the call leaves. -/
theorem arr7_eq : (dats m 0 c).arrAt 7 cfg0.N = resq m c :=
  (dats m 0 c).arrAt_eq_of_cover 7 _ (fun t _ => flushed7_eq m c t) cover7
theorem arr8_eq : (dats m 0 c).arrAt 8 cfg0.N = resk m c :=
  (dats m 0 c).arrAt_eq_of_cover 8 _ (fun t _ => flushed8_eq m c t) cover8

end final

end Cert.InProjIdeal.Hand
end
-- ==== Proof.InProjValue.lean ====
/- The input projection's reference read at an index, and the two programs' results compared. -/
module

public import proofs.«01_k».proof.Defs
public import proofs.«01_k».proof.Proof.InProjArr
public import proofs.«01_k».proof.Proof.Gen.InProjRefIdeal
public import proofs.«01_k».proof.Proof.Gen.InProjRefIdeal.Run
public import Idealize.ShloMosaic.Lib.Claim

@[expose] public section

set_option maxRecDepth 16384

noncomputable section

namespace Cert.InProjRefIdeal.Hand

open Idealize.ShloMosaic Idealize.ShloMosaic.TcCoe Idealize.SL.Sem Cert.InProjRefIdeal Cert.InProjRefIdeal.Gen
open Cert.InProjIdeal.Hand (hval rot kq kk srcq srck freq hrow colv csr snr qVal kVal qTile qArr kArr posr scaleB scaleC)

attribute [local instance] Cert.InProjRefIdeal.Gen.facts

/-- The reference run, its arguments unchanged and every counter at zero. -/
theorem frame : Cert.quiescent_InProjRefIdeal := fun m ρ _ =>
  (θ_run Cert.InProjRefIdeal.defs _ _).mono
    (fun r h => ⟨fun c => (h c).2.2, sem_eq_zero_of_no_sems (by decide) r.2⟩)
    (Cert.InProjRefIdeal.Value.run (F := Ideal) m ρ)

/-! ## The reference's stages -/

/-- The normalised tokens. -/
def hR (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- Their products with the weight. -/
def pR (h : FVec Ideal S8x4096x1024 .f32) (w : FVec Ideal S1024x4096 .f32) : FVec Ideal S8x4096x4096 .f32 :=
  Host.dotGeneral dot_S8x4096x1024_S1024x4096_S8x4096x4096_2_0_01_1_n_n none h w

/-- The tokens' angles. -/
def angR (pos : Vec Ideal S8x4096 .i32) (fr : FVec Ideal S16 .f32) : FVec Ideal S8x4096x1x1x16 .f32 :=
  shapeCast S8x4096x1x1x16 (mulf (broadcastInDim S8x4096x16 ![0, 1, 2] bcast_S8x4096x1_S8x4096x16_0_1_2 (broadcastInDim S8x4096x1 ![0, 1] bcast_S8x4096_S8x4096x1_0_1 (sitofp (F := Ideal) .f32 pos))) (broadcastInDim S8x4096x16 ![0, 1, 2] bcast_S1x1x16_S8x4096x16_0_1_2 (broadcastInDim S1x1x16 ![2] bcast_S16_S1x1x16_2 fr)) : FVec Ideal S8x4096x16 .f32) shapeCasts_S8x4096x16_S8x4096x1x1x16

abbrev loR (q : FVec Ideal S8x4096x256 .f32) : FVec Ideal S8x4096x4x2x16 .f32 :=
  extractStridedSlice S8x4096x4x2x16 ![0, 0, 0, 0, 0] (shapeCast S8x4096x4x2x32 q shapeCasts_S8x4096x256_S8x4096x4x2x32) slices_S8x4096x4x2x32_S8x4096x4x2x16_0_0_0_0_0
abbrev hiR (q : FVec Ideal S8x4096x256 .f32) : FVec Ideal S8x4096x4x2x16 .f32 :=
  extractStridedSlice S8x4096x4x2x16 ![0, 0, 0, 0, 16] (shapeCast S8x4096x4x2x32 q shapeCasts_S8x4096x256_S8x4096x4x2x32) slices_S8x4096x4x2x32_S8x4096x4x2x16_0_0_0_0_16
abbrev upR (cs : FVec Ideal S8x4096x1x1x16 .f32) : FVec Ideal S8x4096x4x2x16 .f32 :=
  broadcastInDim S8x4096x4x2x16 ![0, 1, 2, 3, 4] bcast_S8x4096x1x1x16_S8x4096x4x2x16_0_1_2_3_4 cs

/-- A span rotated. -/
def rotR (q : FVec Ideal S8x4096x256 .f32) (cs sn : FVec Ideal S8x4096x1x1x16 .f32) : FVec Ideal S8x4096x256 .f32 :=
  shapeCast S8x4096x256 (concatenate S8x4096x4x2x32 4 [⟨S8x4096x4x2x16, subf (mulf (loR q) (upR cs)) (mulf (hiR q) (upR sn))⟩, ⟨S8x4096x4x2x16, addf (mulf (hiR q) (upR cs)) (mulf (loR q) (upR sn))⟩] concatenates_S8x4096x4x2x16_S8x4096x4x2x16_S8x4096x4x2x32_d4 : FVec Ideal S8x4096x4x2x32 .f32) shapeCasts_S8x4096x4x2x32_S8x4096x256

theorem hR_apply (x : FVec Ideal S8x4096x1024 .f32) (g : FVec Ideal S1024 .f32) (b : Fin 8) (n : Fin 4096) (d : Fin 1024) :
    hR x g (ix3 b n d) = hrow x g b n d := by
  pointwise [hR, hrow, hval]

theorem pR_apply (h : FVec Ideal S8x4096x1024 .f32) (w : FVec Ideal S1024x4096 .f32) (b : Fin 8) (n : Fin 4096) (a : Fin 4096) :
    pR h w (ix3 b n a) = ∑ d, h (ix3 b n d) * w (ix2 d a) := by
  pointwise [pR]

theorem cos_apply (pos : Vec Ideal S8x4096 .i32) (fr : FVec Ideal S16 .f32) (b : Fin 8) (n : Fin 4096) (s : Fin 16) :
    (Host.cos (angR pos fr) : FVec Ideal S8x4096x1x1x16 .f32) (ix5 b n 0 0 s) = Ideal.cos (posr (pos (ix2 b n)) * fr (ix1 s)) := by
  pointwise [angR, posr]

theorem sin_apply (pos : Vec Ideal S8x4096 .i32) (fr : FVec Ideal S16 .f32) (b : Fin 8) (n : Fin 4096) (s : Fin 16) :
    (Host.sin (angR pos fr) : FVec Ideal S8x4096x1x1x16 .f32) (ix5 b n 0 0 s) = Ideal.sin (posr (pos (ix2 b n)) * fr (ix1 s)) := by
  pointwise [angR, posr]

theorem rotR_apply (q : FVec Ideal S8x4096x256 .f32) (cs sn : FVec Ideal S8x4096x1x1x16 .f32) (b : Fin 8) (n : Fin 4096) (i : Fin 256) :
    rotR q cs sn (ix3 b n i) = rot (fun i => q (ix3 b n i)) (fun s => cs (ix5 b n 0 0 s)) (fun s => sn (ix5 b n 0 0 s)) i := by
  pointwise [rotR, rot]
  have hi := i.isLt
  by_cases h : i.val % 32 < 16
  · rw [dif_pos h, dif_pos h]
    have e : (⟨i.val / 64 * 64 + i.val / 32 % 2 * 32 + (16 + i.val % 32), by omega⟩ : Fin 256) = ⟨i.val + 16, by omega⟩ := Fin.ext (by dsimp only; omega)
    rw [e]
  · rw [dif_neg h, dif_neg h]
    have e : (⟨i.val / 64 * 64 + i.val / 32 % 2 * 32 + (16 + (i.val % 32 - 16)), by omega⟩ : Fin 256) = i := Fin.ext (by dsimp only; omega)
    have e' : (⟨i.val / 64 * 64 + i.val / 32 % 2 * 32 + (i.val % 32 - 16), by omega⟩ : Fin 256) = ⟨i.val - 16, by omega⟩ := Fin.ext (by dsimp only; omega)
    rw [e, e']

/-! ## The products cut into their spans -/

abbrev qa (p : FVec Ideal S8x4096x4096 .f32) : FVec Ideal S8x4096x384 .f32 :=
  extractStridedSlice S8x4096x384 ![0, 0, 0] (extractStridedSlice S8x4096x1536 ![0, 0, 0] p slices_S8x4096x4096_S8x4096x1536_0_0_0) slices_S8x4096x1536_S8x4096x384_0_0_0
theorem qa_apply (p : FVec Ideal S8x4096x4096 .f32) (b : Fin 8) (n : Fin 4096) (r : Fin 384) : qa p (ix3 b n r) = p (ix3 b n ⟨0 + r.val, by omega⟩) := by
  have hr := r.isLt
  pointwise
  try exact congrArg (fun a => p (ix3 b n a)) (Fin.ext (by dsimp only; omega))

abbrev ka (p : FVec Ideal S8x4096x4096 .f32) : FVec Ideal S8x4096x384 .f32 :=
  extractStridedSlice S8x4096x384 ![0, 0, 384] (extractStridedSlice S8x4096x1536 ![0, 0, 0] p slices_S8x4096x4096_S8x4096x1536_0_0_0) slices_S8x4096x1536_S8x4096x384_0_0_384
theorem ka_apply (p : FVec Ideal S8x4096x4096 .f32) (b : Fin 8) (n : Fin 4096) (r : Fin 384) : ka p (ix3 b n r) = p (ix3 b n ⟨384 + r.val, by omega⟩) := by
  have hr := r.isLt
  pointwise
  try exact congrArg (fun a => p (ix3 b n a)) (Fin.ext (by dsimp only; omega))

abbrev va (p : FVec Ideal S8x4096x4096 .f32) : FVec Ideal S8x4096x384 .f32 :=
  extractStridedSlice S8x4096x384 ![0, 0, 768] (extractStridedSlice S8x4096x1536 ![0, 0, 0] p slices_S8x4096x4096_S8x4096x1536_0_0_0) slices_S8x4096x1536_S8x4096x384_0_0_768
theorem va_apply (p : FVec Ideal S8x4096x4096 .f32) (b : Fin 8) (n : Fin 4096) (r : Fin 384) : va p (ix3 b n r) = p (ix3 b n ⟨768 + r.val, by omega⟩) := by
  have hr := r.isLt
  pointwise
  try exact congrArg (fun a => p (ix3 b n a)) (Fin.ext (by dsimp only; omega))

abbrev ga (p : FVec Ideal S8x4096x4096 .f32) : FVec Ideal S8x4096x384 .f32 :=
  extractStridedSlice S8x4096x384 ![0, 0, 1152] (extractStridedSlice S8x4096x1536 ![0, 0, 0] p slices_S8x4096x4096_S8x4096x1536_0_0_0) slices_S8x4096x1536_S8x4096x384_0_0_1152
theorem ga_apply (p : FVec Ideal S8x4096x4096 .f32) (b : Fin 8) (n : Fin 4096) (r : Fin 384) : ga p (ix3 b n r) = p (ix3 b n ⟨1152 + r.val, by omega⟩) := by
  have hr := r.isLt
  pointwise
  try exact congrArg (fun a => p (ix3 b n a)) (Fin.ext (by dsimp only; omega))

abbrev qb (p : FVec Ideal S8x4096x4096 .f32) : FVec Ideal S8x4096x384 .f32 :=
  extractStridedSlice S8x4096x384 ![0, 0, 0] (extractStridedSlice S8x4096x1536 ![0, 0, 1536] p slices_S8x4096x4096_S8x4096x1536_0_0_1536) slices_S8x4096x1536_S8x4096x384_0_0_0
theorem qb_apply (p : FVec Ideal S8x4096x4096 .f32) (b : Fin 8) (n : Fin 4096) (r : Fin 384) : qb p (ix3 b n r) = p (ix3 b n ⟨1536 + r.val, by omega⟩) := by
  have hr := r.isLt
  pointwise
  try exact congrArg (fun a => p (ix3 b n a)) (Fin.ext (by dsimp only; omega))

abbrev kb (p : FVec Ideal S8x4096x4096 .f32) : FVec Ideal S8x4096x384 .f32 :=
  extractStridedSlice S8x4096x384 ![0, 0, 384] (extractStridedSlice S8x4096x1536 ![0, 0, 1536] p slices_S8x4096x4096_S8x4096x1536_0_0_1536) slices_S8x4096x1536_S8x4096x384_0_0_384
theorem kb_apply (p : FVec Ideal S8x4096x4096 .f32) (b : Fin 8) (n : Fin 4096) (r : Fin 384) : kb p (ix3 b n r) = p (ix3 b n ⟨1920 + r.val, by omega⟩) := by
  have hr := r.isLt
  pointwise
  try exact congrArg (fun a => p (ix3 b n a)) (Fin.ext (by dsimp only; omega))

abbrev vb (p : FVec Ideal S8x4096x4096 .f32) : FVec Ideal S8x4096x384 .f32 :=
  extractStridedSlice S8x4096x384 ![0, 0, 768] (extractStridedSlice S8x4096x1536 ![0, 0, 1536] p slices_S8x4096x4096_S8x4096x1536_0_0_1536) slices_S8x4096x1536_S8x4096x384_0_0_768
theorem vb_apply (p : FVec Ideal S8x4096x4096 .f32) (b : Fin 8) (n : Fin 4096) (r : Fin 384) : vb p (ix3 b n r) = p (ix3 b n ⟨2304 + r.val, by omega⟩) := by
  have hr := r.isLt
  pointwise
  try exact congrArg (fun a => p (ix3 b n a)) (Fin.ext (by dsimp only; omega))

abbrev gb (p : FVec Ideal S8x4096x4096 .f32) : FVec Ideal S8x4096x384 .f32 :=
  extractStridedSlice S8x4096x384 ![0, 0, 1152] (extractStridedSlice S8x4096x1536 ![0, 0, 1536] p slices_S8x4096x4096_S8x4096x1536_0_0_1536) slices_S8x4096x1536_S8x4096x384_0_0_1152
theorem gb_apply (p : FVec Ideal S8x4096x4096 .f32) (b : Fin 8) (n : Fin 4096) (r : Fin 384) : gb p (ix3 b n r) = p (ix3 b n ⟨2688 + r.val, by omega⟩) := by
  have hr := r.isLt
  pointwise
  try exact congrArg (fun a => p (ix3 b n a)) (Fin.ext (by dsimp only; omega))

abbrev qc (p : FVec Ideal S8x4096x4096 .f32) : FVec Ideal S8x4096x256 .f32 :=
  extractStridedSlice S8x4096x256 ![0, 0, 0] (extractStridedSlice S8x4096x1024 ![0, 0, 3072] p slices_S8x4096x4096_S8x4096x1024_0_0_3072) slices_S8x4096x1024_S8x4096x256_0_0_0
theorem qc_apply (p : FVec Ideal S8x4096x4096 .f32) (b : Fin 8) (n : Fin 4096) (r : Fin 256) : qc p (ix3 b n r) = p (ix3 b n ⟨3072 + r.val, by omega⟩) := by
  have hr := r.isLt
  pointwise
  try exact congrArg (fun a => p (ix3 b n a)) (Fin.ext (by dsimp only; omega))

abbrev kc (p : FVec Ideal S8x4096x4096 .f32) : FVec Ideal S8x4096x256 .f32 :=
  extractStridedSlice S8x4096x256 ![0, 0, 256] (extractStridedSlice S8x4096x1024 ![0, 0, 3072] p slices_S8x4096x4096_S8x4096x1024_0_0_3072) slices_S8x4096x1024_S8x4096x256_0_0_256
theorem kc_apply (p : FVec Ideal S8x4096x4096 .f32) (b : Fin 8) (n : Fin 4096) (r : Fin 256) : kc p (ix3 b n r) = p (ix3 b n ⟨3328 + r.val, by omega⟩) := by
  have hr := r.isLt
  pointwise
  try exact congrArg (fun a => p (ix3 b n a)) (Fin.ext (by dsimp only; omega))

abbrev vc (p : FVec Ideal S8x4096x4096 .f32) : FVec Ideal S8x4096x256 .f32 :=
  extractStridedSlice S8x4096x256 ![0, 0, 512] (extractStridedSlice S8x4096x1024 ![0, 0, 3072] p slices_S8x4096x4096_S8x4096x1024_0_0_3072) slices_S8x4096x1024_S8x4096x256_0_0_512
theorem vc_apply (p : FVec Ideal S8x4096x4096 .f32) (b : Fin 8) (n : Fin 4096) (r : Fin 256) : vc p (ix3 b n r) = p (ix3 b n ⟨3584 + r.val, by omega⟩) := by
  have hr := r.isLt
  pointwise
  try exact congrArg (fun a => p (ix3 b n a)) (Fin.ext (by dsimp only; omega))

abbrev gc (p : FVec Ideal S8x4096x4096 .f32) : FVec Ideal S8x4096x256 .f32 :=
  extractStridedSlice S8x4096x256 ![0, 0, 768] (extractStridedSlice S8x4096x1024 ![0, 0, 3072] p slices_S8x4096x4096_S8x4096x1024_0_0_3072) slices_S8x4096x1024_S8x4096x256_0_0_768
theorem gc_apply (p : FVec Ideal S8x4096x4096 .f32) (b : Fin 8) (n : Fin 4096) (r : Fin 256) : gc p (ix3 b n r) = p (ix3 b n ⟨3840 + r.val, by omega⟩) := by
  have hr := r.isLt
  pointwise
  try exact congrArg (fun a => p (ix3 b n a)) (Fin.ext (by dsimp only; omega))

abbrev sc384 (y : FVec Ideal S8x4096x384 .f32) (k : BitVec 32) : FVec Ideal S8x4096x384 .f32 :=
  mulf y (broadcastInDim S8x4096x384 ![] bcast_S_S8x4096x384 (constant S_ .f32 k))
theorem sc384_apply (y : FVec Ideal S8x4096x384 .f32) (k : BitVec 32) (b : Fin 8) (n : Fin 4096) (r : Fin 384) :
    sc384 y k (ix3 b n r) = y (ix3 b n r) * Ideal.ofBits .f32 k := by
  pointwise

/-! ## The factors of the queries of groups B and C -/

theorem ofBits_64 : Ideal.ofBits .f32 0x42800000#32 = ((64 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

theorem over_log {x : EReal} {r : ℝ} (h : x = (r : EReal)) : Ideal.div x (Ideal.log (Ideal.ofBits .f32 0x40000000#32)) = ((r * (Real.log 2)⁻¹ : ℝ) : EReal) := by
  have hl : Real.log 2 ≠ 0 := (Real.log_pos one_lt_two).ne'
  rw [h, ofBits_2, Ideal.log_coe, if_neg (by norm_num), Ideal.div_coe hl, ← EReal.coe_mul, one_div]
theorem factorB : Ideal.div (Ideal.rsqrt (Ideal.ofBits .f32 0x42800000#32)) (Ideal.log (Ideal.ofBits .f32 0x40000000#32)) = scaleB :=
  (over_log (r := (Real.sqrt 64)⁻¹) (by rw [ofBits_64, Ideal.rsqrt_coe, if_neg (by norm_num), if_neg (by norm_num)])).trans
    (IdealRules.named_const.ideal_named_scalar _ _ _ _ rfl).symm
theorem factorC : Ideal.div (Ideal.rsqrt (Ideal.ofBits .f32 0x42000000#32)) (Ideal.log (Ideal.ofBits .f32 0x40000000#32)) = scaleC :=
  (over_log (r := (Real.sqrt 32)⁻¹) (by rw [ofBits_32, Ideal.rsqrt_coe, if_neg (by norm_num), if_neg (by norm_num)])).trans
    (IdealRules.named_const.ideal_named_scalar _ _ _ _ rfl).symm

abbrev scB (y : FVec Ideal S8x4096x384 .f32) : FVec Ideal S8x4096x384 .f32 :=
  mulf y (broadcastInDim S8x4096x384 ![] bcast_S_S8x4096x384 (Host.divf (Host.rsqrt (constant S_ .f32 0x42800000#32)) (Host.log (constant S_ .f32 0x40000000#32))))
theorem scB_apply (y : FVec Ideal S8x4096x384 .f32) (b : Fin 8) (n : Fin 4096) (r : Fin 384) :
    scB y (ix3 b n r) = y (ix3 b n r) * scaleB := by
  rw [← factorB]
  pointwise

abbrev scC (y : FVec Ideal S8x4096x256 .f32) : FVec Ideal S8x4096x256 .f32 :=
  mulf y (broadcastInDim S8x4096x256 ![] bcast_S_S8x4096x256 (Host.divf (Host.rsqrt (constant S_ .f32 0x42000000#32)) (Host.log (constant S_ .f32 0x40000000#32))))
theorem scC_apply (y : FVec Ideal S8x4096x256 .f32) (b : Fin 8) (n : Fin 4096) (r : Fin 256) :
    scC y (ix3 b n r) = y (ix3 b n r) * scaleC := by
  rw [← factorC]
  pointwise

theorem rot_qc (p : FVec Ideal S8x4096x4096 .f32) (cs sn : FVec Ideal S8x4096x1x1x16 .f32) (b : Fin 8) (n : Fin 4096) (r : Fin 256) :
    rotR (qc p) cs sn (ix3 b n r) = rot (fun i => p (ix3 b n ⟨3072 + i.val, by omega⟩)) (fun s => cs (ix5 b n 0 0 s)) (fun s => sn (ix5 b n 0 0 s)) r :=
  (rotR_apply (qc p) cs sn b n r).trans
    (congrArg (fun f => rot f (fun s => cs (ix5 b n 0 0 s)) (fun s => sn (ix5 b n 0 0 s)) r) (funext fun i => qc_apply p b n i))

theorem rot_kc (p : FVec Ideal S8x4096x4096 .f32) (cs sn : FVec Ideal S8x4096x1x1x16 .f32) (b : Fin 8) (n : Fin 4096) (r : Fin 256) :
    rotR (kc p) cs sn (ix3 b n r) = rot (fun i => p (ix3 b n ⟨3328 + i.val, by omega⟩)) (fun s => cs (ix5 b n 0 0 s)) (fun s => sn (ix5 b n 0 0 s)) r :=
  (rotR_apply (kc p) cs sn b n r).trans
    (congrArg (fun f => rot f (fun s => cs (ix5 b n 0 0 s)) (fun s => sn (ix5 b n 0 0 s)) r) (funext fun i => kc_apply p b n i))

theorem kq'_2560 (p : Fin 3072 → EReal) (cs sn : Fin 16 → EReal) (r : Fin 256) : kq p cs sn ⟨2560 + r.val, by omega⟩ = p ⟨2560 + r.val, by omega⟩ := by
  have h := r.isLt
  unfold kq
  split_ifs <;> first | rfl | (exfalso; dsimp only at *; omega)

theorem kq'_2816 (p : Fin 3072 → EReal) (cs sn : Fin 16 → EReal) (r : Fin 256) : kq p cs sn ⟨2816 + r.val, by omega⟩ = p ⟨2816 + r.val, by omega⟩ := by
  have h := r.isLt
  unfold kq
  split_ifs <;> first | rfl | (exfalso; dsimp only at *; omega)

/-! ## The two results before their last layout -/

def catQ (p : FVec Ideal S8x4096x4096 .f32) (cs sn : FVec Ideal S8x4096x1x1x16 .f32) : FVec Ideal S8x4096x3072 .f32 :=
  concatenate S8x4096x3072 2 [⟨S8x4096x384, sc384 (qa p) 0x3E000000#32⟩, ⟨S8x4096x384, va p⟩, ⟨S8x4096x384, ga p⟩, ⟨S8x4096x384, scB (qb p)⟩, ⟨S8x4096x384, vb p⟩, ⟨S8x4096x384, gb p⟩, ⟨S8x4096x256, scC (rotR (qc p) cs sn)⟩, ⟨S8x4096x256, vc p⟩, ⟨S8x4096x256, gc p⟩] concatenates_S8x4096x384_S8x4096x384_S8x4096x384_S8x4096x384_S8x4096x384_S8x4096x384_S8x4096x256_S8x4096x256_S8x4096x256_S8x4096x3072_d2
def catK (p : FVec Ideal S8x4096x4096 .f32) (cs sn : FVec Ideal S8x4096x1x1x16 .f32) : FVec Ideal S8x4096x1024 .f32 :=
  concatenate S8x4096x1024 2 [⟨S8x4096x384, ka p⟩, ⟨S8x4096x384, kb p⟩, ⟨S8x4096x256, rotR (kc p) cs sn⟩] concatenates_S8x4096x384_S8x4096x384_S8x4096x256_S8x4096x1024_d2

set_option maxHeartbeats 2000000 in
theorem catQ_0 (p : FVec Ideal S8x4096x4096 .f32) (cs sn : FVec Ideal S8x4096x1x1x16 .f32) (b : Fin 8) (n : Fin 4096) (r : Fin 384) :
    catQ p cs sn (ix3 b n ⟨0 + r.val, by omega⟩) = p (ix3 b n ⟨0 + r.val, by omega⟩) * Ideal.ofBits .f32 0x3E000000#32 := by
  unfold catQ
  refine Eq.trans (concatenate_apply_piece (t := S8x4096x3072) 2 _ _ (ix3 b n (⟨0 + r.val, by omega⟩ : Fin 3072)) 0 (by show 0 < 9; omega) S8x4096x384 (sc384 (qa p) 0x3E000000#32) (by rfl) rfl 0 (by rfl) (ix3 b n r) (fun d hd => ?_) (by rfl)) ((sc384_apply _ _ b n r).trans (congrArg (fun y => y * Ideal.ofBits .f32 0x3E000000#32) (qa_apply p b n r)))
  match d, hd with
  | ⟨0, _⟩, _ => rfl
  | ⟨1, _⟩, _ => rfl
  | ⟨2, _⟩, hd => exact absurd rfl hd

set_option maxHeartbeats 2000000 in
theorem catQ_384 (p : FVec Ideal S8x4096x4096 .f32) (cs sn : FVec Ideal S8x4096x1x1x16 .f32) (b : Fin 8) (n : Fin 4096) (r : Fin 384) :
    catQ p cs sn (ix3 b n ⟨384 + r.val, by omega⟩) = p (ix3 b n ⟨768 + r.val, by omega⟩) := by
  unfold catQ
  refine Eq.trans (concatenate_apply_piece (t := S8x4096x3072) 2 _ _ (ix3 b n (⟨384 + r.val, by omega⟩ : Fin 3072)) 1 (by show 1 < 9; omega) S8x4096x384 (va p) (by rfl) rfl 384 (by rfl) (ix3 b n r) (fun d hd => ?_) (by rfl)) (va_apply p b n r)
  match d, hd with
  | ⟨0, _⟩, _ => rfl
  | ⟨1, _⟩, _ => rfl
  | ⟨2, _⟩, hd => exact absurd rfl hd

set_option maxHeartbeats 2000000 in
theorem catQ_768 (p : FVec Ideal S8x4096x4096 .f32) (cs sn : FVec Ideal S8x4096x1x1x16 .f32) (b : Fin 8) (n : Fin 4096) (r : Fin 384) :
    catQ p cs sn (ix3 b n ⟨768 + r.val, by omega⟩) = p (ix3 b n ⟨1152 + r.val, by omega⟩) := by
  unfold catQ
  refine Eq.trans (concatenate_apply_piece (t := S8x4096x3072) 2 _ _ (ix3 b n (⟨768 + r.val, by omega⟩ : Fin 3072)) 2 (by show 2 < 9; omega) S8x4096x384 (ga p) (by rfl) rfl 768 (by rfl) (ix3 b n r) (fun d hd => ?_) (by rfl)) (ga_apply p b n r)
  match d, hd with
  | ⟨0, _⟩, _ => rfl
  | ⟨1, _⟩, _ => rfl
  | ⟨2, _⟩, hd => exact absurd rfl hd

set_option maxHeartbeats 2000000 in
theorem catQ_1152 (p : FVec Ideal S8x4096x4096 .f32) (cs sn : FVec Ideal S8x4096x1x1x16 .f32) (b : Fin 8) (n : Fin 4096) (r : Fin 384) :
    catQ p cs sn (ix3 b n ⟨1152 + r.val, by omega⟩) = p (ix3 b n ⟨1536 + r.val, by omega⟩) * scaleB := by
  unfold catQ
  refine Eq.trans (concatenate_apply_piece (t := S8x4096x3072) 2 _ _ (ix3 b n (⟨1152 + r.val, by omega⟩ : Fin 3072)) 3 (by show 3 < 9; omega) S8x4096x384 (scB (qb p)) (by rfl) rfl 1152 (by rfl) (ix3 b n r) (fun d hd => ?_) (by rfl)) ((scB_apply _ b n r).trans (congrArg (fun y => y * scaleB) (qb_apply p b n r)))
  match d, hd with
  | ⟨0, _⟩, _ => rfl
  | ⟨1, _⟩, _ => rfl
  | ⟨2, _⟩, hd => exact absurd rfl hd

set_option maxHeartbeats 2000000 in
theorem catQ_1536 (p : FVec Ideal S8x4096x4096 .f32) (cs sn : FVec Ideal S8x4096x1x1x16 .f32) (b : Fin 8) (n : Fin 4096) (r : Fin 384) :
    catQ p cs sn (ix3 b n ⟨1536 + r.val, by omega⟩) = p (ix3 b n ⟨2304 + r.val, by omega⟩) := by
  unfold catQ
  refine Eq.trans (concatenate_apply_piece (t := S8x4096x3072) 2 _ _ (ix3 b n (⟨1536 + r.val, by omega⟩ : Fin 3072)) 4 (by show 4 < 9; omega) S8x4096x384 (vb p) (by rfl) rfl 1536 (by rfl) (ix3 b n r) (fun d hd => ?_) (by rfl)) (vb_apply p b n r)
  match d, hd with
  | ⟨0, _⟩, _ => rfl
  | ⟨1, _⟩, _ => rfl
  | ⟨2, _⟩, hd => exact absurd rfl hd

set_option maxHeartbeats 2000000 in
theorem catQ_1920 (p : FVec Ideal S8x4096x4096 .f32) (cs sn : FVec Ideal S8x4096x1x1x16 .f32) (b : Fin 8) (n : Fin 4096) (r : Fin 384) :
    catQ p cs sn (ix3 b n ⟨1920 + r.val, by omega⟩) = p (ix3 b n ⟨2688 + r.val, by omega⟩) := by
  unfold catQ
  refine Eq.trans (concatenate_apply_piece (t := S8x4096x3072) 2 _ _ (ix3 b n (⟨1920 + r.val, by omega⟩ : Fin 3072)) 5 (by show 5 < 9; omega) S8x4096x384 (gb p) (by rfl) rfl 1920 (by rfl) (ix3 b n r) (fun d hd => ?_) (by rfl)) (gb_apply p b n r)
  match d, hd with
  | ⟨0, _⟩, _ => rfl
  | ⟨1, _⟩, _ => rfl
  | ⟨2, _⟩, hd => exact absurd rfl hd

set_option maxHeartbeats 2000000 in
theorem catQ_2304 (p : FVec Ideal S8x4096x4096 .f32) (cs sn : FVec Ideal S8x4096x1x1x16 .f32) (b : Fin 8) (n : Fin 4096) (r : Fin 256) :
    catQ p cs sn (ix3 b n ⟨2304 + r.val, by omega⟩) = rot (fun i => p (ix3 b n ⟨3072 + i.val, by omega⟩)) (fun s => cs (ix5 b n 0 0 s)) (fun s => sn (ix5 b n 0 0 s)) r * scaleC := by
  unfold catQ
  refine Eq.trans (concatenate_apply_piece (t := S8x4096x3072) 2 _ _ (ix3 b n (⟨2304 + r.val, by omega⟩ : Fin 3072)) 6 (by show 6 < 9; omega) S8x4096x256 (scC (rotR (qc p) cs sn)) (by rfl) rfl 2304 (by rfl) (ix3 b n r) (fun d hd => ?_) (by rfl)) ((scC_apply _ b n r).trans (congrArg (fun y => y * scaleC) (rot_qc p cs sn b n r)))
  match d, hd with
  | ⟨0, _⟩, _ => rfl
  | ⟨1, _⟩, _ => rfl
  | ⟨2, _⟩, hd => exact absurd rfl hd

set_option maxHeartbeats 2000000 in
theorem catQ_2560 (p : FVec Ideal S8x4096x4096 .f32) (cs sn : FVec Ideal S8x4096x1x1x16 .f32) (b : Fin 8) (n : Fin 4096) (r : Fin 256) :
    catQ p cs sn (ix3 b n ⟨2560 + r.val, by omega⟩) = p (ix3 b n ⟨3584 + r.val, by omega⟩) := by
  unfold catQ
  refine Eq.trans (concatenate_apply_piece (t := S8x4096x3072) 2 _ _ (ix3 b n (⟨2560 + r.val, by omega⟩ : Fin 3072)) 7 (by show 7 < 9; omega) S8x4096x256 (vc p) (by rfl) rfl 2560 (by rfl) (ix3 b n r) (fun d hd => ?_) (by rfl)) (vc_apply p b n r)
  match d, hd with
  | ⟨0, _⟩, _ => rfl
  | ⟨1, _⟩, _ => rfl
  | ⟨2, _⟩, hd => exact absurd rfl hd

set_option maxHeartbeats 2000000 in
theorem catQ_2816 (p : FVec Ideal S8x4096x4096 .f32) (cs sn : FVec Ideal S8x4096x1x1x16 .f32) (b : Fin 8) (n : Fin 4096) (r : Fin 256) :
    catQ p cs sn (ix3 b n ⟨2816 + r.val, by omega⟩) = p (ix3 b n ⟨3840 + r.val, by omega⟩) := by
  unfold catQ
  refine Eq.trans (concatenate_apply_piece (t := S8x4096x3072) 2 _ _ (ix3 b n (⟨2816 + r.val, by omega⟩ : Fin 3072)) 8 (by show 8 < 9; omega) S8x4096x256 (gc p) (by rfl) rfl 2816 (by rfl) (ix3 b n r) (fun d hd => ?_) (by rfl)) (gc_apply p b n r)
  match d, hd with
  | ⟨0, _⟩, _ => rfl
  | ⟨1, _⟩, _ => rfl
  | ⟨2, _⟩, hd => exact absurd rfl hd

set_option maxHeartbeats 2000000 in
theorem catK_0 (p : FVec Ideal S8x4096x4096 .f32) (cs sn : FVec Ideal S8x4096x1x1x16 .f32) (b : Fin 8) (n : Fin 4096) (r : Fin 384) :
    catK p cs sn (ix3 b n ⟨0 + r.val, by omega⟩) = p (ix3 b n ⟨384 + r.val, by omega⟩) := by
  unfold catK
  refine Eq.trans (concatenate_apply_piece (t := S8x4096x1024) 2 _ _ (ix3 b n (⟨0 + r.val, by omega⟩ : Fin 1024)) 0 (by show 0 < 3; omega) S8x4096x384 (ka p) (by rfl) rfl 0 (by rfl) (ix3 b n r) (fun d hd => ?_) (by rfl)) (ka_apply p b n r)
  match d, hd with
  | ⟨0, _⟩, _ => rfl
  | ⟨1, _⟩, _ => rfl
  | ⟨2, _⟩, hd => exact absurd rfl hd

set_option maxHeartbeats 2000000 in
theorem catK_384 (p : FVec Ideal S8x4096x4096 .f32) (cs sn : FVec Ideal S8x4096x1x1x16 .f32) (b : Fin 8) (n : Fin 4096) (r : Fin 384) :
    catK p cs sn (ix3 b n ⟨384 + r.val, by omega⟩) = p (ix3 b n ⟨1920 + r.val, by omega⟩) := by
  unfold catK
  refine Eq.trans (concatenate_apply_piece (t := S8x4096x1024) 2 _ _ (ix3 b n (⟨384 + r.val, by omega⟩ : Fin 1024)) 1 (by show 1 < 3; omega) S8x4096x384 (kb p) (by rfl) rfl 384 (by rfl) (ix3 b n r) (fun d hd => ?_) (by rfl)) (kb_apply p b n r)
  match d, hd with
  | ⟨0, _⟩, _ => rfl
  | ⟨1, _⟩, _ => rfl
  | ⟨2, _⟩, hd => exact absurd rfl hd

set_option maxHeartbeats 2000000 in
theorem catK_768 (p : FVec Ideal S8x4096x4096 .f32) (cs sn : FVec Ideal S8x4096x1x1x16 .f32) (b : Fin 8) (n : Fin 4096) (r : Fin 256) :
    catK p cs sn (ix3 b n ⟨768 + r.val, by omega⟩) = rot (fun i => p (ix3 b n ⟨3328 + i.val, by omega⟩)) (fun s => cs (ix5 b n 0 0 s)) (fun s => sn (ix5 b n 0 0 s)) r := by
  unfold catK
  refine Eq.trans (concatenate_apply_piece (t := S8x4096x1024) 2 _ _ (ix3 b n (⟨768 + r.val, by omega⟩ : Fin 1024)) 2 (by show 2 < 3; omega) S8x4096x256 (rotR (kc p) cs sn) (by rfl) rfl 768 (by rfl) (ix3 b n r) (fun d hd => ?_) (by rfl)) (rot_kc p cs sn b n r)
  match d, hd with
  | ⟨0, _⟩, _ => rfl
  | ⟨1, _⟩, _ => rfl
  | ⟨2, _⟩, hd => exact absurd rfl hd

theorem catQ_apply (p : FVec Ideal S8x4096x4096 .f32) (cs sn : FVec Ideal S8x4096x1x1x16 .f32) (b : Fin 8) (n : Fin 4096) (a : Fin 3072) :
    catQ p cs sn (ix3 b n a) = kq (fun a => p (ix3 b n (srcq a))) (fun s => cs (ix5 b n 0 0 s)) (fun s => sn (ix5 b n 0 0 s)) a := by
  have ha := a.isLt
  rcases (by omega : (0 ≤ a.val ∧ a.val < 384) ∨ (384 ≤ a.val ∧ a.val < 768) ∨ (768 ≤ a.val ∧ a.val < 1152) ∨ (1152 ≤ a.val ∧ a.val < 1536) ∨ (1536 ≤ a.val ∧ a.val < 1920) ∨ (1920 ≤ a.val ∧ a.val < 2304) ∨ (2304 ≤ a.val ∧ a.val < 2560) ∨ (2560 ≤ a.val ∧ a.val < 2816) ∨ (2816 ≤ a.val ∧ a.val < 3072)) with h | h | h | h | h | h | h | h | h
  · obtain ⟨r, rfl⟩ : ∃ r : Fin 384, a = ⟨0 + r.val, by clear h ha; omega⟩ := ⟨⟨a.val - 0, by omega⟩, Fin.ext (by dsimp only; omega)⟩
    refine (catQ_0 p cs sn b n r).trans (Eq.trans ?_ (Cert.InProjIdeal.Hand.kq_0 _ _ _ r).symm)
    exact congrArg (fun a => p (ix3 b n a) * Ideal.ofBits .f32 0x3E000000#32) (Fin.ext (by simp only [srcq]; split_ifs <;> omega))
  · obtain ⟨r, rfl⟩ : ∃ r : Fin 384, a = ⟨384 + r.val, by clear h ha; omega⟩ := ⟨⟨a.val - 384, by omega⟩, Fin.ext (by dsimp only; omega)⟩
    refine (catQ_384 p cs sn b n r).trans (Eq.trans ?_ (Cert.InProjIdeal.Hand.kq_384 _ _ _ r).symm)
    exact congrArg (fun a => p (ix3 b n a)) (Fin.ext (by simp only [srcq]; split_ifs <;> omega))
  · obtain ⟨r, rfl⟩ : ∃ r : Fin 384, a = ⟨768 + r.val, by clear h ha; omega⟩ := ⟨⟨a.val - 768, by omega⟩, Fin.ext (by dsimp only; omega)⟩
    refine (catQ_768 p cs sn b n r).trans (Eq.trans ?_ (Cert.InProjIdeal.Hand.kq_768 _ _ _ r).symm)
    exact congrArg (fun a => p (ix3 b n a)) (Fin.ext (by simp only [srcq]; split_ifs <;> omega))
  · obtain ⟨r, rfl⟩ : ∃ r : Fin 384, a = ⟨1152 + r.val, by clear h ha; omega⟩ := ⟨⟨a.val - 1152, by omega⟩, Fin.ext (by dsimp only; omega)⟩
    refine (catQ_1152 p cs sn b n r).trans (Eq.trans ?_ (Cert.InProjIdeal.Hand.kq_1152 _ _ _ r).symm)
    exact congrArg (fun a => p (ix3 b n a) * scaleB) (Fin.ext (by simp only [srcq]; split_ifs <;> omega))
  · obtain ⟨r, rfl⟩ : ∃ r : Fin 384, a = ⟨1536 + r.val, by clear h ha; omega⟩ := ⟨⟨a.val - 1536, by omega⟩, Fin.ext (by dsimp only; omega)⟩
    refine (catQ_1536 p cs sn b n r).trans (Eq.trans ?_ (Cert.InProjIdeal.Hand.kq_1536 _ _ _ r).symm)
    exact congrArg (fun a => p (ix3 b n a)) (Fin.ext (by simp only [srcq]; split_ifs <;> omega))
  · obtain ⟨r, rfl⟩ : ∃ r : Fin 384, a = ⟨1920 + r.val, by clear h ha; omega⟩ := ⟨⟨a.val - 1920, by omega⟩, Fin.ext (by dsimp only; omega)⟩
    refine (catQ_1920 p cs sn b n r).trans (Eq.trans ?_ (Cert.InProjIdeal.Hand.kq_1920 _ _ _ r).symm)
    exact congrArg (fun a => p (ix3 b n a)) (Fin.ext (by simp only [srcq]; split_ifs <;> omega))
  · obtain ⟨r, rfl⟩ : ∃ r : Fin 256, a = ⟨2304 + r.val, by clear h ha; omega⟩ := ⟨⟨a.val - 2304, by omega⟩, Fin.ext (by dsimp only; omega)⟩
    refine (catQ_2304 p cs sn b n r).trans (Eq.trans ?_ (Cert.InProjIdeal.Hand.kq_2304 _ _ _ r).symm)
    refine congrArg (fun f => rot f (fun s => cs (ix5 b n 0 0 s)) (fun s => sn (ix5 b n 0 0 s)) r * scaleC) (funext fun i => ?_)
    have hi := i.isLt
    exact congrArg (fun a => p (ix3 b n a)) (Fin.ext (by simp only [srcq]; split_ifs <;> omega))
  · obtain ⟨r, rfl⟩ : ∃ r : Fin 256, a = ⟨2560 + r.val, by clear h ha; omega⟩ := ⟨⟨a.val - 2560, by omega⟩, Fin.ext (by dsimp only; omega)⟩
    refine (catQ_2560 p cs sn b n r).trans (Eq.trans ?_ (kq'_2560 _ _ _ r).symm)
    exact congrArg (fun a => p (ix3 b n a)) (Fin.ext (by simp only [srcq]; split_ifs <;> omega))
  · obtain ⟨r, rfl⟩ : ∃ r : Fin 256, a = ⟨2816 + r.val, by clear h ha; omega⟩ := ⟨⟨a.val - 2816, by omega⟩, Fin.ext (by dsimp only; omega)⟩
    refine (catQ_2816 p cs sn b n r).trans (Eq.trans ?_ (kq'_2816 _ _ _ r).symm)
    exact congrArg (fun a => p (ix3 b n a)) (Fin.ext (by simp only [srcq]; split_ifs <;> omega))

theorem catK_apply (p : FVec Ideal S8x4096x4096 .f32) (cs sn : FVec Ideal S8x4096x1x1x16 .f32) (b : Fin 8) (n : Fin 4096) (e : Fin 1024) :
    catK p cs sn (ix3 b n e) = kk (fun e => p (ix3 b n (srck e))) (fun i => p (ix3 b n ⟨3328 + i.val, by omega⟩)) (fun s => cs (ix5 b n 0 0 s)) (fun s => sn (ix5 b n 0 0 s)) e := by
  have he := e.isLt
  unfold kk
  rcases (by omega : (0 ≤ e.val ∧ e.val < 384) ∨ (384 ≤ e.val ∧ e.val < 768) ∨ (768 ≤ e.val ∧ e.val < 1024)) with h | h | h
  · obtain ⟨r, rfl⟩ : ∃ r : Fin 384, e = ⟨0 + r.val, by clear h he; omega⟩ := ⟨⟨e.val - 0, by omega⟩, Fin.ext (by dsimp only; omega)⟩
    rw [dif_pos (by dsimp only; omega)]
    refine (catK_0 p cs sn b n r).trans ?_
    exact congrArg (fun a => p (ix3 b n a)) (Fin.ext (by simp only [srck]; split_ifs <;> omega))
  · obtain ⟨r, rfl⟩ : ∃ r : Fin 384, e = ⟨384 + r.val, by clear h he; omega⟩ := ⟨⟨e.val - 384, by omega⟩, Fin.ext (by dsimp only; omega)⟩
    rw [dif_pos (by dsimp only; omega)]
    refine (catK_384 p cs sn b n r).trans ?_
    exact congrArg (fun a => p (ix3 b n a)) (Fin.ext (by simp only [srck]; split_ifs <;> omega))
  · obtain ⟨r, rfl⟩ : ∃ r : Fin 256, e = ⟨768 + r.val, by clear h he; omega⟩ := ⟨⟨e.val - 768, by omega⟩, Fin.ext (by dsimp only; omega)⟩
    rw [dif_neg (by dsimp only; omega)]
    refine (catK_768 p cs sn b n r).trans ?_
    exact congrArg (rot (fun i => p (ix3 b n ⟨3328 + i.val, by omega⟩)) (fun s => cs (ix5 b n 0 0 s)) (fun s => sn (ix5 b n 0 0 s))) (Fin.ext (by dsimp only; omega))

/-! ## The two results -/

def tileR (y : FVec Ideal S8x4096x3072 .f32) : FVec Ideal S8x16x3072x256 .bf16 :=
  truncf .bf16 (transpose S8x16x3072x256 [0, 1, 3, 2] (shapeCast S8x16x256x3072 y shapeCasts_S8x4096x3072_S8x16x256x3072) transposes_S8x16x256x3072_S8x16x3072x256_0_1_3_2) bitsLt_bf16_f32

theorem tileR_apply (y : FVec Ideal S8x4096x3072 .f32) (b : Fin 8) (T : Fin 16) (a : Fin 3072) (j : Fin 256) :
    tileR y (ix4 b T a j) = y (ix3 b ⟨T.val * 256 + j.val, by omega⟩ a) := by
  pointwise [tileR]

abbrev fr0 : FVec Ideal S16 .f32 := fun i => FloatOps.ofBits .f32 (lit0 (S16.rowMajor i))
abbrev fr1 : FVec Ideal S16 .f32 := fun i => FloatOps.ofBits .f32 (lit1 (S16.rowMajor i))

theorem fr0_apply (s : Fin 16) : fr0 (ix1 s) = freq s := by
  have e : ∀ s : Fin 16, lit0 (S16.rowMajor (ix1 s)) = Cert.InProjIdeal.lit0 s := by decide
  exact congrArg (Ideal.ofBits .f32) (e s)
theorem fr1_apply (s : Fin 16) : fr1 (ix1 s) = freq s := by
  have e : ∀ s : Fin 16, lit1 (S16.rowMajor (ix1 s)) = Cert.InProjIdeal.lit0 s := by decide
  exact congrArg (Ideal.ofBits .f32) (e s)

section vals
variable (x : FVec Ideal S8x4096x1024 .f32) (pos : Vec Ideal S8x4096 .i32) (w : FVec Ideal S1024x4096 .f32) (g : FVec Ideal S1024 .f32)

def resQ : FVec Ideal S8x16x3072x256 .bf16 := tileR (catQ (pR (hR x g) w) (Host.cos (angR pos fr0)) (Host.sin (angR pos fr0)))
def resK : FVec Ideal S8x4096x1024 .bf16 := truncf .bf16 (catK (pR (hR x g) w) (Host.cos (angR pos fr1)) (Host.sin (angR pos fr1))) bitsLt_bf16_f32

theorem prod_apply (b : Fin 8) (n : Fin 4096) (a : Fin 4096) : pR (hR x g) w (ix3 b n a) = colv x w g b n a :=
  (pR_apply _ w b n a).trans (Finset.sum_congr rfl fun d _ => congrArg (fun y => y * w (ix2 d a)) (hR_apply x g b n d))
theorem cs0 (b : Fin 8) (n : Fin 4096) : (fun s => (Host.cos (angR pos fr0) : FVec Ideal S8x4096x1x1x16 .f32) (ix5 b n 0 0 s)) = csr pos b n :=
  funext fun s => (cos_apply pos fr0 b n s).trans (congrArg (fun y => Ideal.cos (posr (pos (ix2 b n)) * y)) (fr0_apply s))
theorem sn0 (b : Fin 8) (n : Fin 4096) : (fun s => (Host.sin (angR pos fr0) : FVec Ideal S8x4096x1x1x16 .f32) (ix5 b n 0 0 s)) = snr pos b n :=
  funext fun s => (sin_apply pos fr0 b n s).trans (congrArg (fun y => Ideal.sin (posr (pos (ix2 b n)) * y)) (fr0_apply s))
theorem cs1 (b : Fin 8) (n : Fin 4096) : (fun s => (Host.cos (angR pos fr1) : FVec Ideal S8x4096x1x1x16 .f32) (ix5 b n 0 0 s)) = csr pos b n :=
  funext fun s => (cos_apply pos fr1 b n s).trans (congrArg (fun y => Ideal.cos (posr (pos (ix2 b n)) * y)) (fr1_apply s))
theorem sn1 (b : Fin 8) (n : Fin 4096) : (fun s => (Host.sin (angR pos fr1) : FVec Ideal S8x4096x1x1x16 .f32) (ix5 b n 0 0 s)) = snr pos b n :=
  funext fun s => (sin_apply pos fr1 b n s).trans (congrArg (fun y => Ideal.sin (posr (pos (ix2 b n)) * y)) (fr1_apply s))

theorem resQ_apply (b : Fin 8) (T : Fin 16) (a : Fin 3072) (j : Fin 256) : resQ x pos w g (ix4 b T a j) = qTile x pos w g b T a j := by
  refine (tileR_apply _ b T a j).trans ((catQ_apply _ _ _ b _ a).trans ?_)
  rw [cs0, sn0]
  simp only [prod_apply, qTile, qVal]
theorem resK_apply (b : Fin 8) (n : Fin 4096) (e : Fin 1024) : resK x pos w g (ix3 b n e) = kVal x pos w g b n e := by
  refine Eq.trans (b := catK (pR (hR x g) w) (Host.cos (angR pos fr1)) (Host.sin (angR pos fr1)) (ix3 b n e)) rfl ((catK_apply _ _ _ b n e).trans ?_)
  rw [cs1, sn1]
  simp only [prod_apply, kVal]

theorem resQ_eq : resQ x pos w g = qArr x pos w g := by
  have h := resQ_apply x pos w g
  funext i
  rw [eq_ix4 i]
  exact h (i 0) (i 1) (i 2) (i 3)
theorem resK_eq : resK x pos w g = kArr x pos w g := by
  have h := resK_apply x pos w g
  funext i
  rw [eq_ix3 i]
  exact h (i 0) (i 1) (i 2)

end vals

section run
variable (m : (ℓ : Loc nD τ sig) → Buf (Elt Ideal) ℓ) (c : Dev nD)
abbrev aX : FVec Ideal S8x4096x1024 .f32 := m ((c.tc : Thread nD τ).loc main_arg0)
abbrev aP : Vec Ideal S8x4096 .i32 := m ((c.tc : Thread nD τ).loc main_arg1)
abbrev aW : FVec Ideal S1024x4096 .f32 := m ((c.tc : Thread nD τ).loc main_arg2)
abbrev aG : FVec Ideal S1024 .f32 := m ((c.tc : Thread nD τ).loc main_arg3)
theorem res87 : Cert.InProjRefIdeal.Value.res_main_v92 (F := Ideal) m c = qArr (aX m c) (aP m c) (aW m c) (aG m c) := by
  refine Eq.trans ?_ (resQ_eq (aX m c) (aP m c) (aW m c) (aG m c))
  unfold Cert.InProjRefIdeal.Value.res_main_v92
  rfl
theorem res88 : Cert.InProjRefIdeal.Value.res_main_v93 (F := Ideal) m c = kArr (aX m c) (aP m c) (aW m c) (aG m c) := by
  refine Eq.trans ?_ (resK_eq (aX m c) (aP m c) (aW m c) (aG m c))
  unfold Cert.InProjRefIdeal.Value.res_main_v93
  rfl
end run

end Cert.InProjRefIdeal.Hand

namespace Cert.InProjIdeal.Hand

open Idealize.ShloMosaic Idealize.ShloMosaic.TcCoe Idealize.SL.Sem Cert.InProjIdeal Cert.InProjIdeal.Gen

attribute [local instance] Cert.InProjIdeal.Gen.facts Cert.InProjRefIdeal.Gen.facts

/-- The call's two results are the reference's. -/
theorem algebraic : Cert.algebraic_InProjIdeal_InProjRefIdeal := by
  intro m ρ m' ρ' _ hagree
  refine ⟨fun c => (dats m 0 c).arrAt 7 cfg0.N, fun c => (dats m 0 c).arrAt 8 cfg0.N, ?_, ?_⟩
  · exact (θ_run defs _ _).mono (fun _ h c => h c) (Value.run_blocks (F := Ideal) m ρ)
  · refine (θ_run Cert.InProjRefIdeal.defs _ _).mono (fun _ h c => ⟨(h c).1.trans ?_, (h c).2.1.trans ?_, (h c).2.2⟩)
      (Cert.InProjRefIdeal.Value.run (F := Ideal) m' ρ')
    · obtain ⟨e0, e1, e2, e3⟩ := hagree c
      refine Eq.trans ?_ (arr7_eq m c).symm
      refine (Cert.InProjRefIdeal.Hand.res87 m' c).trans ?_
      unfold Cert.InProjRefIdeal.Hand.aX Cert.InProjRefIdeal.Hand.aP Cert.InProjRefIdeal.Hand.aW Cert.InProjRefIdeal.Hand.aG
      erw [e0, e1, e2, e3]
    · obtain ⟨e0, e1, e2, e3⟩ := hagree c
      refine Eq.trans ?_ (arr8_eq m c).symm
      refine (Cert.InProjRefIdeal.Hand.res88 m' c).trans ?_
      unfold Cert.InProjRefIdeal.Hand.aX Cert.InProjRefIdeal.Hand.aP Cert.InProjRefIdeal.Hand.aW Cert.InProjRefIdeal.Hand.aG
      erw [e0, e1, e2, e3]

end Cert.InProjIdeal.Hand
end
-- ==== Proof.OutProj.lean ====
/- The output projection: its two tiles read at an index, the arrays it is handed, and the array it leaves. -/
module

public import proofs.«01_k».proof.Proof.Gen.OutProjIdeal.Value
public import Idealize.ShloMosaic.Lib.StableHlo.RunRead
public import Idealize.ShloMosaic.Lib.Claim
public import Idealize.ShloMosaic.Lib.Pipeline.Value
public import Idealize.ShloMosaic.Lib.Pointwise

@[expose] public section

set_option maxRecDepth 16384

noncomputable section

namespace Cert.OutProjIdeal.Hand

open Idealize.ShloMosaic Idealize.ShloMosaic.TcCoe Idealize.SL.Sem Cert.OutProjIdeal Cert.OutProjIdeal.Gen

/-- The three heads' outputs of a token, end to end. -/
def rowv (f0 f1 : Fin 384 → EReal) (f2 : Fin 256 → EReal) (d : Fin 1024) : EReal :=
  if h : d.val < 384 then f0 ⟨d.val, h⟩ else if h1 : d.val - 384 < 384 then f1 ⟨d.val - 384, h1⟩ else f2 ⟨d.val - 384 - 384, by omega⟩

/-- A projected entry of a token. -/
def proj (w : Fin 1024 → Fin 1024 → EReal) (y : Fin 1024 → EReal) (e : Fin 1024) : EReal := ∑ d, w e d * y d

/-- An entry of the result: the token's input plus its normalised projection. -/
def outVal (x : EReal) (w : Fin 1024 → Fin 1024 → EReal) (y : Fin 1024 → EReal) (g : EReal) (e : Fin 1024) : EReal :=
  x + proj w y e * Ideal.rsqrt (Ideal.div (∑ d, proj w y d * proj w y d) (Ideal.ofBits .f32 0x44800000#32)
    + Ideal.ofBits .f32 0x358637BD#32) * g

theorem outVal_congr {x x' : EReal} {w w' : Fin 1024 → Fin 1024 → EReal} {a a' b b' : Fin 384 → EReal} {d d' : Fin 256 → EReal} {g g' : EReal}
    (hx : x = x') (hw : ∀ e d, w e d = w' e d) (ha : ∀ i, a i = a' i) (hb : ∀ i, b i = b' i) (hd : ∀ i, d i = d' i) (hg : g = g') (e : Fin 1024) :
    outVal x w (rowv a b d) g e = outVal x' w' (rowv a' b' d') g' e := by
  obtain rfl : w = w' := funext fun e => funext (hw e)
  obtain rfl := funext ha
  obtain rfl := funext hb
  obtain rfl := funext hd
  rw [hx, hg]

theorem pay2_apply (a b : FVec Ideal S1x1x384x256 .bf16) (d : FVec Ideal S1x1x256x256 .bf16) (w : FVec Ideal S1024x1024 .bf16)
    (x : FVec Ideal S1x256x1024 .f32) (g : FVec Ideal S1x1024 .f32) (r : Fin 256) (e : Fin 1024) :
    k0_pay2 (F := Ideal) a b d w x g (ix3 0 r e) = outVal (x (ix3 0 r e)) (fun e d => w (ix2 e d))
      (rowv (fun i => a (ix4 0 0 i r)) (fun i => b (ix4 0 0 i r)) (fun i => d (ix4 0 0 i r))) (g (ix2 0 e)) e := by
  pointwise [k0_pay2, outVal, proj, rowv]

theorem pay1_apply (a b : FVec Ideal S1x1x384x256 .bf16) (d : FVec Ideal S1x1x256x256 .bf16) (w : FVec Ideal S1024x1024 .bf16)
    (x : FVec Ideal S1x256x1024 .f32) (g : FVec Ideal S1x1024 .f32) (r : Fin 256) (e : Fin 1024) :
    k0_pay1 (F := Ideal) a b d w x g (ix3 0 r e) = outVal (x (ix3 0 r e)) (fun e d => w (ix2 e d))
      (rowv (fun i => a (ix4 0 0 i r)) (fun i => b (ix4 0 0 i r)) (fun i => d (ix4 0 0 i r))) (g (ix2 0 e)) e := by
  pointwise [k0_pay1, outVal, proj, rowv]

/-! ## The blocks read through their rectangles -/

theorem ld0 (x : Vec Ideal S1x2x384x256 .bf16) (i : Fin 384) (r : Fin 256) : View.ld x r0_0 (ix4 0 0 i r) = x (ix4 0 0 i r) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * r.val = r.val; omega
theorem ld5 (x : Vec Ideal S1x2x384x256 .bf16) (i : Fin 384) (r : Fin 256) : View.ld x r0_5 (ix4 0 0 i r) = x (ix4 0 1 i r) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * r.val = r.val; omega
theorem ld1 (x : Vec Ideal S1x2x256x256 .bf16) (i : Fin 256) (r : Fin 256) : View.ld x r0_1 (ix4 0 0 i r) = x (ix4 0 0 i r) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * r.val = r.val; omega
theorem ld6 (x : Vec Ideal S1x2x256x256 .bf16) (i : Fin 256) (r : Fin 256) : View.ld x r0_6 (ix4 0 0 i r) = x (ix4 0 1 i r) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * r.val = r.val; omega
theorem ld2 (x : Vec Ideal S1024x1024 .bf16) (e d : Fin 1024) : View.ld x r0_2 (ix2 e d) = x (ix2 e d) := by
  refine congrArg x (funext fun a => Fin.ext ?_)
  match a with
  | ⟨0, _⟩ => show 0 + 1 * e.val = e.val; omega
  | ⟨1, _⟩ => show 0 + 1 * d.val = d.val; omega
theorem ld4 (x : Vec Ideal S1x1024 .f32) (e : Fin 1024) : View.ld x r0_4 (ix2 0 e) = x (ix2 0 e) := by
  refine congrArg x (funext fun a => Fin.ext ?_)
  match a with
  | ⟨0, _⟩ => rfl
  | ⟨1, _⟩ => show 0 + 1 * e.val = e.val; omega
theorem ld3 (x : Vec Ideal S1x512x1024 .f32) (r : Fin 256) (e : Fin 1024) :
    View.ld x r0_3 (ix3 0 r e) = x (ix3 0 ⟨r.val, by omega⟩ e) := by
  refine congrArg x (funext fun a => Fin.ext ?_)
  match a with
  | ⟨0, _⟩ => rfl
  | ⟨1, _⟩ => show 0 + 1 * r.val = r.val; omega
  | ⟨2, _⟩ => show 0 + 1 * e.val = e.val; omega
theorem ld7 (x : Vec Ideal S1x512x1024 .f32) (r : Fin 256) (e : Fin 1024) :
    View.ld x r0_7 (ix3 0 r e) = x (ix3 0 ⟨256 + r.val, by omega⟩ e) := by
  refine congrArg x (funext fun a => Fin.ext ?_)
  match a with
  | ⟨0, _⟩ => rfl
  | ⟨1, _⟩ => show 256 + 1 * r.val = 256 + r.val; omega
  | ⟨2, _⟩ => show 0 + 1 * e.val = e.val; omega

/-- What a point's block holds at row `r` and column `e`. -/
def blkAt (a b : Vec Ideal S1x2x384x256 .bf16) (d : Vec Ideal S1x2x256x256 .bf16) (w : Vec Ideal S1024x1024 .bf16)
    (g : Vec Ideal S1x1024 .f32) (x : Vec Ideal S1x512x1024 .f32) (r : Fin 512) (e : Fin 1024) : EReal :=
  outVal (x (ix3 0 r e)) (fun e d => w (ix2 e d))
    (rowv (fun i => a (ix4 0 ⟨r.val / 256, by omega⟩ i ⟨r.val % 256, by omega⟩)) (fun i => b (ix4 0 ⟨r.val / 256, by omega⟩ i ⟨r.val % 256, by omega⟩))
      (fun i => d (ix4 0 ⟨r.val / 256, by omega⟩ i ⟨r.val % 256, by omega⟩))) (g (ix2 0 e)) e

/-- The block of those entries. -/
def blk (a b : Vec Ideal S1x2x384x256 .bf16) (d : Vec Ideal S1x2x256x256 .bf16) (w : Vec Ideal S1024x1024 .bf16)
    (g : Vec Ideal S1x1024 .f32) (x : Vec Ideal S1x512x1024 .f32) : Vec Ideal S1x512x1024 .f32 := fun y => blkAt a b d w g x (y 1) (y 2)

theorem idx_tile (x : S1x256x1024.Idx) : ∃ r e, x = ix3 0 r e :=
  ⟨x 1, x 2, (eq_ix3 (n0 := 1) (n1 := 256) (n2 := 1024) x).trans (by rw [Subsingleton.elim (α := Fin 1) (x 0) 0])⟩

theorem out_apply (a b : Vec Ideal S1x2x384x256 .bf16) (d : Vec Ideal S1x2x256x256 .bf16) (w : Vec Ideal S1024x1024 .bf16)
    (g : Vec Ideal S1x1024 .f32) (x : Vec Ideal S1x512x1024 .f32) (y : S1x512x1024.Idx) :
    out0_6 a b d w g x y = blkAt a b d w g x (y 1) (y 2) := by
  refine View.canon_apply_of_pieces (blk a b d w g x) _ ?_ y (cover0_6 _ _ _)
  simp only [List.forall_mem_cons]
  refine ⟨fun z => ?_, fun z => ?_, fun _ h => absurd h List.not_mem_nil⟩
  · obtain ⟨r, e, rfl⟩ := idx_tile z
    refine (pay1_apply _ _ _ _ _ _ r e).trans (Eq.trans ?_ (ld7 (blk a b d w g x) r e).symm)
    have h1 : (⟨(256 + r.val) / 256, by omega⟩ : Fin 2) = 1 := Fin.ext (by show (256 + r.val) / 256 = 1; omega)
    have h2 : (⟨(256 + r.val) % 256, by omega⟩ : Fin 256) = r := Fin.ext (by show (256 + r.val) % 256 = r.val; omega)
    show _ = blkAt a b d w g x ⟨256 + r.val, by omega⟩ e
    simp only [blkAt, h1, h2]
    exact outVal_congr (ld7 x r e) (ld2 w) (fun i => ld5 a i r) (fun i => ld5 b i r) (fun i => ld6 d i r) (ld4 g e) e
  · obtain ⟨r, e, rfl⟩ := idx_tile z
    refine (pay2_apply _ _ _ _ _ _ r e).trans (Eq.trans ?_ (ld3 (blk a b d w g x) r e).symm)
    have h1 : (⟨r.val / 256, by omega⟩ : Fin 2) = 0 := Fin.ext (by show r.val / 256 = 0; omega)
    have h2 : (⟨r.val % 256, by omega⟩ : Fin 256) = r := Fin.ext (by show r.val % 256 = r.val; omega)
    show _ = blkAt a b d w g x ⟨r.val, by omega⟩ e
    simp only [blkAt, h1, h2]
    exact outVal_congr (ld3 x r e) (ld2 w) (fun i => ld0 a i r) (fun i => ld0 b i r) (fun i => ld1 d i r) (ld4 g e) e

/-! ## The arrays the call is handed -/

section reads
variable (m : (ℓ : Loc nD τ sig) → Buf (Elt Ideal) ℓ) (c : Dev nD)

abbrev tiles384 (a : FVec Ideal S8x4096x384 .f32) : Vec Ideal S8x16x384x256 .bf16 :=
  truncf .bf16 (transpose S8x16x384x256 [0, 1, 3, 2] (shapeCast S8x16x256x384 a shapeCasts_S8x4096x384_S8x16x256x384)
        transposes_S8x16x256x384_S8x16x384x256_0_1_3_2) bitsLt_bf16_f32
abbrev tiles256 (a : FVec Ideal S8x4096x256 .f32) : Vec Ideal S8x16x256x256 .bf16 :=
  truncf .bf16 (transpose S8x16x256x256 [0, 1, 3, 2] (shapeCast S8x16x256x256 a shapeCasts_S8x4096x256_S8x16x256x256)
        transposes_S8x16x256x256_S8x16x256x256_0_1_3_2) bitsLt_bf16_f32

theorem V_ya : V m c main_v2 = tiles384 (m ((c : Thread nD τ).loc main_arg0)) := by
  unfold_abbrev_sides
  after_reads_simp
  rfl
theorem V_yb : V m c main_v5 = tiles384 (m ((c : Thread nD τ).loc main_arg1)) := by
  unfold_abbrev_sides
  after_reads_simp
  rfl
theorem V_yc : V m c main_v8 = tiles256 (m ((c : Thread nD τ).loc main_arg2)) := by
  unfold_abbrev_sides
  after_reads_simp
  rfl
theorem V_w : V m c main_v10 = (truncf .bf16 (transpose S1024x1024 [1, 0] (m ((c : Thread nD τ).loc main_arg3) : FVec Ideal S1024x1024 .f32)
    transposes_S1024x1024_S1024x1024_1_0) bitsLt_bf16_f32 : FVec Ideal S1024x1024 .bf16) := by
  unfold_abbrev_sides
  after_reads_simp
theorem V_gain : V m c main_v11 = (broadcastInDim S1x1024 ![1] bcast_S1024_S1x1024_1 (m ((c : Thread nD τ).loc main_arg4)) : Vec Ideal S1x1024 .f32) := by
  unfold_abbrev_sides
  after_results

theorem tiles384_apply (a : FVec Ideal S8x4096x384 .f32) (b : Fin 8) (T : Fin 16) (r : Fin 384) (j : Fin 256) :
    tiles384 a (ix4 b T r j) = a (ix3 b ⟨T.val * 256 + j.val, by omega⟩ r) := by
  pointwise [tiles384]
theorem tiles256_apply (a : FVec Ideal S8x4096x256 .f32) (b : Fin 8) (T : Fin 16) (r : Fin 256) (j : Fin 256) :
    tiles256 a (ix4 b T r j) = a (ix3 b ⟨T.val * 256 + j.val, by omega⟩ r) := by
  pointwise [tiles256]

/-! ## The blocks at a point -/

theorem tr0 (i : grid0.Coords) : cc0_transform_0 i = ![(i 0).val, (i 1).val, 0, 0] := by
  have h0 : (i 0).val < 8 := (i 0).isLt
  have h1 : (i 1).val < 8 := (i 1).isLt
  simp [cc0_transform_0, BitVec.toNat_ofNat]
  omega
theorem tr1 (i : grid0.Coords) : cc0_transform_1 i = ![(i 0).val, (i 1).val, 0, 0] := by
  have h0 : (i 0).val < 8 := (i 0).isLt
  have h1 : (i 1).val < 8 := (i 1).isLt
  simp [cc0_transform_1, BitVec.toNat_ofNat]
  omega
theorem tr2 (i : grid0.Coords) : cc0_transform_2 i = ![(i 0).val, (i 1).val, 0, 0] := by
  have h0 : (i 0).val < 8 := (i 0).isLt
  have h1 : (i 1).val < 8 := (i 1).isLt
  simp [cc0_transform_2, BitVec.toNat_ofNat]
  omega
theorem tr5 (i : grid0.Coords) : cc0_transform_5 i = ![(i 0).val, (i 1).val, 0] := by
  have h0 : (i 0).val < 8 := (i 0).isLt
  have h1 : (i 1).val < 8 := (i 1).isLt
  simp [cc0_transform_5, BitVec.toNat_ofNat]
  omega
theorem tr6 (i : grid0.Coords) : cc0_transform_6 i = ![(i 0).val, (i 1).val, 0] := by
  have h0 : (i 0).val < 8 := (i 0).isLt
  have h1 : (i 1).val < 8 := (i 1).isLt
  simp [cc0_transform_6, BitVec.toNat_ofNat]
  omega

variable (t : Fin cfg0.N)

/-- The grid coordinates of a point, in their ranges. -/
def gb (t : Fin cfg0.N) : Fin 8 := grid0.coords t 0
def gi (t : Fin cfg0.N) : Fin 8 := grid0.coords t 1

theorem emb0 (u : Fin 2) (r : Fin 384) (j : Fin 256) :
    (win0_0.rect t).emb (ix4 0 u r j) = ix4 (gb t) ⟨(gi t).val * 2 + u.val, by have := (gi t).isLt; omega⟩ r j := by
  funext a
  have e := win0_0.rect_emb_val t (ix4 0 u r j) a
  have h : win0_0.index t = _ := tr0 (grid0.coords t)
  rw [h] at e
  refine Fin.ext (e.trans ?_)
  match a with
  | ⟨0, _⟩ => show (gb t).val * 1 + 0 = (gb t).val; omega
  | ⟨1, _⟩ => rfl
  | ⟨2, _⟩ => show 0 * 384 + r.val = r.val; omega
  | ⟨3, _⟩ => show 0 * 256 + j.val = j.val; omega
theorem emb1 (u : Fin 2) (r : Fin 384) (j : Fin 256) :
    (win0_1.rect t).emb (ix4 0 u r j) = ix4 (gb t) ⟨(gi t).val * 2 + u.val, by have := (gi t).isLt; omega⟩ r j := by
  funext a
  have e := win0_1.rect_emb_val t (ix4 0 u r j) a
  have h : win0_1.index t = _ := tr1 (grid0.coords t)
  rw [h] at e
  refine Fin.ext (e.trans ?_)
  match a with
  | ⟨0, _⟩ => show (gb t).val * 1 + 0 = (gb t).val; omega
  | ⟨1, _⟩ => rfl
  | ⟨2, _⟩ => show 0 * 384 + r.val = r.val; omega
  | ⟨3, _⟩ => show 0 * 256 + j.val = j.val; omega
theorem emb2 (u : Fin 2) (r : Fin 256) (j : Fin 256) :
    (win0_2.rect t).emb (ix4 0 u r j) = ix4 (gb t) ⟨(gi t).val * 2 + u.val, by have := (gi t).isLt; omega⟩ r j := by
  funext a
  have e := win0_2.rect_emb_val t (ix4 0 u r j) a
  have h : win0_2.index t = _ := tr2 (grid0.coords t)
  rw [h] at e
  refine Fin.ext (e.trans ?_)
  match a with
  | ⟨0, _⟩ => show (gb t).val * 1 + 0 = (gb t).val; omega
  | ⟨1, _⟩ => rfl
  | ⟨2, _⟩ => show 0 * 256 + r.val = r.val; omega
  | ⟨3, _⟩ => show 0 * 256 + j.val = j.val; omega
theorem emb3 (y : S1024x1024.Idx) : (win0_3.rect t).emb y = y := by
  funext a
  have e := win0_3.rect_emb_val t y a
  refine Fin.ext (e.trans ?_)
  match a with
  | ⟨0, _⟩ => show 0 * 1024 + (y 0).val = (y 0).val; omega
  | ⟨1, _⟩ => show 0 * 1024 + (y 1).val = (y 1).val; omega
theorem emb4 (y : S1x1024.Idx) : (win0_4.rect t).emb y = y := by
  funext a
  have e := win0_4.rect_emb_val t y a
  refine Fin.ext (e.trans ?_)
  match a with
  | ⟨0, _⟩ => show 0 * 1 + (y 0).val = (y 0).val; omega
  | ⟨1, _⟩ => show 0 * 1024 + (y 1).val = (y 1).val; omega
theorem emb5 (r : Fin 512) (e : Fin 1024) :
    (win0_5.rect t).emb (ix3 0 r e) = ix3 (gb t) ⟨(gi t).val * 512 + r.val, by have := (gi t).isLt; omega⟩ e := by
  funext a
  have e' := win0_5.rect_emb_val t (ix3 0 r e) a
  have h : win0_5.index t = _ := tr5 (grid0.coords t)
  rw [h] at e'
  refine Fin.ext (e'.trans ?_)
  match a with
  | ⟨0, _⟩ => show (gb t).val * 1 + 0 = (gb t).val; omega
  | ⟨1, _⟩ => rfl
  | ⟨2, _⟩ => show 0 * 1024 + e.val = e.val; omega
theorem emb6 (r : Fin 512) (e : Fin 1024) :
    (win0_6.rect t).emb (ix3 0 r e) = ix3 (gb t) ⟨(gi t).val * 512 + r.val, by have := (gi t).isLt; omega⟩ e := by
  funext a
  have e' := win0_6.rect_emb_val t (ix3 0 r e) a
  have h : win0_6.index t = _ := tr6 (grid0.coords t)
  rw [h] at e'
  refine Fin.ext (e'.trans ?_)
  match a with
  | ⟨0, _⟩ => show (gb t).val * 1 + 0 = (gb t).val; omega
  | ⟨1, _⟩ => rfl
  | ⟨2, _⟩ => show 0 * 1024 + e.val = e.val; omega

theorem iblk0 (u : Fin 2) (r : Fin 384) (j : Fin 256) :
    iblk m c 0 t (ix4 0 u r j) = (m ((c : Thread nD τ).loc main_arg0) : FVec Ideal S8x4096x384 .f32)
      (ix3 (gb t) ⟨((gi t).val * 2 + u.val) * 256 + j.val, by have := (gi t).isLt; omega⟩ r) := by
  show V m c main_v2 ((win0_0.rect t).emb (ix4 0 u r j)) = _
  rw [emb0, V_ya]
  exact tiles384_apply _ (gb t) ⟨(gi t).val * 2 + u.val, _⟩ r j
theorem iblk1 (u : Fin 2) (r : Fin 384) (j : Fin 256) :
    iblk m c 1 t (ix4 0 u r j) = (m ((c : Thread nD τ).loc main_arg1) : FVec Ideal S8x4096x384 .f32)
      (ix3 (gb t) ⟨((gi t).val * 2 + u.val) * 256 + j.val, by have := (gi t).isLt; omega⟩ r) := by
  show V m c main_v5 ((win0_1.rect t).emb (ix4 0 u r j)) = _
  rw [emb1, V_yb]
  exact tiles384_apply _ (gb t) ⟨(gi t).val * 2 + u.val, _⟩ r j
theorem iblk2 (u : Fin 2) (r : Fin 256) (j : Fin 256) :
    iblk m c 2 t (ix4 0 u r j) = (m ((c : Thread nD τ).loc main_arg2) : FVec Ideal S8x4096x256 .f32)
      (ix3 (gb t) ⟨((gi t).val * 2 + u.val) * 256 + j.val, by have := (gi t).isLt; omega⟩ r) := by
  show V m c main_v8 ((win0_2.rect t).emb (ix4 0 u r j)) = _
  rw [emb2, V_yc]
  exact tiles256_apply _ (gb t) ⟨(gi t).val * 2 + u.val, _⟩ r j
theorem iblk3 (e d : Fin 1024) : iblk m c 3 t (ix2 e d) = (m ((c : Thread nD τ).loc main_arg3) : FVec Ideal S1024x1024 .f32) (ix2 d e) := by
  show V m c main_v10 ((win0_3.rect t).emb (ix2 e d)) = _
  rw [emb3, V_w]
  pointwise
theorem iblk4 (e : Fin 1024) : iblk m c 4 t (ix2 0 e) = (m ((c : Thread nD τ).loc main_arg4) : FVec Ideal S1024 .f32) (ix1 e) := by
  show V m c main_v11 ((win0_4.rect t).emb (ix2 0 e)) = _
  rw [emb4, V_gain]
  pointwise
theorem iblk5 (r : Fin 512) (e : Fin 1024) :
    iblk m c 5 t (ix3 0 r e) = (m ((c : Thread nD τ).loc main_arg5) : FVec Ideal S8x4096x1024 .f32)
      (ix3 (gb t) ⟨(gi t).val * 512 + r.val, by have := (gi t).isLt; omega⟩ e) := by
  show V m c main_arg5 ((win0_5.rect t).emb (ix3 0 r e)) = _
  rw [emb5, V_main_arg5]

end reads

/-! ## The result array -/

def resVal (ya yb : FVec Ideal S8x4096x384 .f32) (yc : FVec Ideal S8x4096x256 .f32) (w : FVec Ideal S1024x1024 .f32)
    (g : FVec Ideal S1024 .f32) (x : FVec Ideal S8x4096x1024 .f32) (b : Fin 8) (n : Fin 4096) (e : Fin 1024) : EReal :=
  outVal (x (ix3 b n e)) (fun e d => w (ix2 d e))
    (rowv (fun i => ya (ix3 b n i)) (fun i => yb (ix3 b n i)) (fun i => yc (ix3 b n i))) (g (ix1 e)) e

def resArr (ya yb : FVec Ideal S8x4096x384 .f32) (yc : FVec Ideal S8x4096x256 .f32) (w : FVec Ideal S1024x1024 .f32)
    (g : FVec Ideal S1024 .f32) (x : FVec Ideal S8x4096x1024 .f32) : Vec Ideal S8x4096x1024 .f32 :=
  fun i => resVal ya yb yc w g x (i 0) (i 1) (i 2)

section final
variable (m : (ℓ : Loc nD τ sig) → Buf (Elt Ideal) ℓ) (c : Dev nD)

/-- The result array of the arguments in memory. -/
abbrev res : Vec Ideal S8x4096x1024 .f32 :=
  resArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (t : Fin cfg0.N) : (dats m 0 c).flushed 6 t = (win0_6.blk t).view.read (Elt Ideal) (res m c) := by
  have hi := (gi t).isLt
  rw [Value.flushed6]
  funext y
  show out0_6 _ _ _ _ _ _ y = res m c ((win0_6.rect t).emb y)
  refine (out_apply _ _ _ _ _ _ y).trans ?_
  obtain ⟨r, e, rfl⟩ : ∃ r e, y = ix3 0 r e := ⟨y 1, y 2, (eq_ix3 (n0 := 1) (n1 := 512) (n2 := 1024) y).trans (by
    rw [Subsingleton.elim (α := Fin 1) (y 0) 0])⟩
  rw [emb6]
  have h : ((gi t).val * 2 + r.val / 256) * 256 + r.val % 256 = (gi t).val * 512 + r.val := by omega
  show blkAt _ _ _ _ _ _ r e = resVal _ _ _ _ _ _ (gb t) ⟨(gi t).val * 512 + r.val, _⟩ e
  simp only [blkAt, resVal, iblk0, iblk1, iblk2, iblk3, iblk4, iblk5, h]

theorem cover6 (i : S8x4096x1024.Idx) :
    ∃ t : Fin cfg0.N, (cfg0.win 6).flush t = true ∧ i ∈ ((cfg0.win 6).blk t).view.set := by
  have h1 : (i 1).val < 4096 := (i 1).isLt
  obtain ⟨t, ht0, ht1⟩ : ∃ t : Fin cfg0.N, (gb t).val = (i 0).val ∧ (gi t).val = (i 1).val / 512 := by
    have : ∀ (a r : Fin 8), ∃ t : Fin cfg0.N, gb t = a ∧ gi t = r := by decide +kernel
    obtain ⟨t, ha, hr⟩ := this (i 0) ⟨(i 1).val / 512, by omega⟩
    exact ⟨t, by rw [ha], by rw [hr]⟩
  refine ⟨t, flush0_6 t, ?_⟩
  have e : (win0_6.rect t).emb (ix3 0 ⟨(i 1).val % 512, by omega⟩ (i 2)) = i := by
    refine (emb6 t _ (i 2)).trans ?_
    funext a
    refine Fin.ext ?_
    match a with
    | ⟨0, _⟩ => exact ht0
    | ⟨1, _⟩ => show (gi t).val * 512 + (i 1).val % 512 = (i 1).val; omega
    | ⟨2, _⟩ => rfl
  rw [← e]
  exact (win0_6.blk t).view.emb_mem_set _

/-- The array the call leaves. -/
theorem arr_eq : (dats m 0 c).arrAt 6 cfg0.N = res m c :=
  (dats m 0 c).arrAt_eq_of_cover 6 _ (fun t _ => flushed_eq m c t) cover6

end final

end Cert.OutProjIdeal.Hand
end
-- ==== Proof.OutProjValue.lean ====
/- The output projection's result is the reference's, entry by entry. -/
module

public import proofs.«01_k».proof.Defs
public import proofs.«01_k».proof.Proof.OutProj
public import proofs.«01_k».proof.Proof.Gen.OutProjRefIdeal
public import proofs.«01_k».proof.Proof.Gen.OutProjRefIdeal.Run
public import Idealize.ShloMosaic.Lib.Claim

@[expose] public section

set_option maxRecDepth 16384

noncomputable section

namespace Cert.OutProjRefIdeal.Hand

open Idealize.ShloMosaic Idealize.ShloMosaic.TcCoe Idealize.SL.Sem Cert.OutProjRefIdeal Cert.OutProjRefIdeal.Gen
open Cert.OutProjIdeal.Hand (rowv proj outVal resVal resArr)

attribute [local instance] Cert.OutProjRefIdeal.Gen.facts

/-- The reference run, its arguments unchanged and every counter at zero. -/
theorem frame : Cert.quiescent_OutProjRefIdeal := fun m ρ _ =>
  (θ_run Cert.OutProjRefIdeal.defs _ _).mono
    (fun r h => ⟨fun c => (h c).2, sem_eq_zero_of_no_sems (by decide) r.2⟩)
    (Cert.OutProjRefIdeal.Value.run (F := Ideal) m ρ)

/-- The projected tokens. -/
def yR (ya yb : FVec Ideal S8x4096x384 .f32) (yc : FVec Ideal S8x4096x256 .f32) (w : FVec Ideal S1024x1024 .f32) : FVec Ideal S8x4096x1024 .f32 :=
  Host.dotGeneral dot_S8x4096x1024_S1024x1024_S8x4096x1024_2_0_01_1_n_n none
    (concatenate S8x4096x1024 2 [⟨S8x4096x384, ya⟩, ⟨S8x4096x384, yb⟩, ⟨S8x4096x256, yc⟩] concatenates_S8x4096x384_S8x4096x384_S8x4096x256_S8x4096x1024_d2
      : FVec Ideal S8x4096x1024 .f32) w

/-- The normalised tokens on top of the input. -/
def outR (y : FVec Ideal S8x4096x1024 .f32) (g : FVec Ideal S1024 .f32) (x : FVec Ideal S8x4096x1024 .f32) : FVec Ideal S8x4096x1024 .f32 :=
  addf x (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g)))

theorem yR_apply (ya yb : FVec Ideal S8x4096x384 .f32) (yc : FVec Ideal S8x4096x256 .f32) (w : FVec Ideal S1024x1024 .f32)
    (b : Fin 8) (n : Fin 4096) (e : Fin 1024) :
    yR ya yb yc w (ix3 b n e) = proj (fun e d => w (ix2 d e)) (rowv (fun i => ya (ix3 b n i)) (fun i => yb (ix3 b n i)) (fun i => yc (ix3 b n i))) e := by
  rw [proj]
  simp only [mul_comm (w _)]
  pointwise [yR, rowv]

theorem outR_apply (y : FVec Ideal S8x4096x1024 .f32) (g : FVec Ideal S1024 .f32) (x : FVec Ideal S8x4096x1024 .f32)
    (b : Fin 8) (n : Fin 4096) (e : Fin 1024) :
    outR y g x (ix3 b n e) = x (ix3 b n e) + y (ix3 b n e) * Ideal.rsqrt (Ideal.div (∑ d, y (ix3 b n d) * y (ix3 b n d)) (Ideal.ofBits .f32 0x44800000#32)
      + Ideal.ofBits .f32 0x358637BD#32) * g (ix1 e) := by
  pointwise [outR]

theorem arr_eq (ya yb : FVec Ideal S8x4096x384 .f32) (yc : FVec Ideal S8x4096x256 .f32) (w : FVec Ideal S1024x1024 .f32)
    (g : FVec Ideal S1024 .f32) (x : FVec Ideal S8x4096x1024 .f32) : outR (yR ya yb yc w) g x = resArr ya yb yc w g x := by
  have h : ∀ (b : Fin 8) (n : Fin 4096) (e : Fin 1024), outR (yR ya yb yc w) g x (ix3 b n e) = resVal ya yb yc w g x b n e := fun b n e => by
    rw [outR_apply, resVal, outVal]
    simp only [yR_apply]
  funext i
  rw [eq_ix3 i]
  exact h (i 0) (i 1) (i 2)

end Cert.OutProjRefIdeal.Hand

namespace Cert.OutProjIdeal.Hand

open Idealize.ShloMosaic Idealize.ShloMosaic.TcCoe Idealize.SL.Sem Cert.OutProjIdeal Cert.OutProjIdeal.Gen

attribute [local instance] Cert.OutProjIdeal.Gen.facts Cert.OutProjRefIdeal.Gen.facts

/-- Both programs end with one array. -/
theorem algebraic : Cert.algebraic_OutProjIdeal_OutProjRefIdeal := by
  intro m ρ m' ρ' _ hagree
  refine ⟨fun c => (dats m 0 c).arrAt 6 cfg0.N, ?_, ?_⟩
  · exact (θ_run defs _ _).mono (fun _ h c => h c) (Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    obtain ⟨e0, e1, e2, e3, e4, e5⟩ := hagree c
    refine Eq.trans ?_ (arr_eq m c).symm
    refine (Cert.OutProjRefIdeal.Hand.arr_eq _ _ _ _ _ _).trans ?_
    erw [e0, e1, e2, e3, e4, e5]

end Cert.OutProjIdeal.Hand
end
-- ==== Proof.lean ====
/- The claims of the three calls, assembled: each call's frames, and that it and its reference end at the same arrays. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Same
public import proofs.«01_k».proof.Proof.RefFrame
public import proofs.«01_k».proof.Proof.Value
public import proofs.«01_k».proof.Proof.InProjValue
public import proofs.«01_k».proof.Proof.OutProjValue
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts, Cert.Pre_finite_inputs.Da.facts,
    Cert.Same.frame_Kernel,
    fun m ρ _ => Cert.KernelIdeal.Da.frame m ρ,
    fun m ρ _ => Cert.KernelIdeal.Da.frame m ρ,
    Cert.ReferenceIdeal.Da.frame,
    fun m ρ _ => Cert.ReferenceIdeal.Da.frame m ρ trivial,
    fun m ρ _ => Cert.InProj.Gen.frame m ρ,
    fun m ρ _ => Cert.InProjIdeal.Gen.frame m ρ,
    Cert.InProjRefIdeal.Hand.frame,
    fun m ρ _ => Cert.OutProj.Gen.frame m ρ,
    fun m ρ _ => Cert.OutProjIdeal.Gen.frame m ρ,
    Cert.OutProjRefIdeal.Hand.frame,
    trivial,
    Cert.KernelIdeal.Da.algebraic,
    ⟨IdealRules.named_const.statement Cert.InProjIdeal.κ "scale_b" .f32 0x3E38AA3B#32 (((Real.sqrt 64)⁻¹ * (Real.log 2)⁻¹ : ℝ) : EReal) rfl,
      IdealRules.named_const.statement Cert.InProjIdeal.κ "scale_c" .f32 0x3E8293EE#32 (((Real.sqrt 32)⁻¹ * (Real.log 2)⁻¹ : ℝ) : EReal) rfl⟩,
    Cert.InProjIdeal.Hand.algebraic,
    trivial,
    Cert.OutProjIdeal.Hand.algebraic⟩

end Cert.Proof

end
